-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x16384 : Shape := ⟨2, ![2048, 16384]⟩
abbrev S16384x512 : Shape := ⟨2, ![16384, 512]⟩
abbrev S4096x16384 : Shape := ⟨2, ![4096, 16384]⟩
abbrev S4096 : Shape := ⟨1, ![4096]⟩
abbrev S512 : Shape := ⟨1, ![512]⟩
abbrev S512x512 : Shape := ⟨2, ![512, 512]⟩
abbrev S4096x512 : Shape := ⟨2, ![4096, 512]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_v31 : IVec S_ 1) (main_v32 : FVec F S512 .f32) (main_cst_12 : FVec F S_ .f32) : IVec S_ 1 :=
  let main_v33 : FVec F S512 .f32 := broadcastInDim S512 ![] bcast_S_S512 main_cst_12
  let main_v34 : IVec S512 1 := cmpf .olt main_v32 main_v33
  let main_c_13 : IVec S_ 1 := constantI S_ 1 1#1
  let main_v35 : IVec S_ 1 := (fun x v => Host.reduce IntOp.andi x v reducesTo_S512_S_d0 h_S_) main_v34 main_c_13
  let main_v36 : IVec S_ 1 := andi main_v31 main_v35
  main_v36

def fn_part1 {F : FTy → Type} [FloatOps F] (main_arg6 : FVec F S512 .f32) (main_arg7 : FVec F S512x512 .f32) (main_arg8 : FVec F S512 .f32) (main_arg9 : FVec F S512 .f32) (main_v11 : IVec S_ 1) (main_v15 : IVec S_ 1) : IVec S_ 1 :=
  let main_v16 : IVec S_ 1 := andi main_v11 main_v15
  let main_v17 : FVec F S512 .f32 := Host.absf main_arg6
  let main_cst_6 : FVec F S_ .f32 := constant S_ .f32 0x7F800000#32
  let main_v18 : FVec F S512 .f32 := broadcastInDim S512 ![] bcast_S_S512 main_cst_6
  let main_v19 : IVec S512 1 := cmpf .olt main_v17 main_v18
  let main_c_7 : IVec S_ 1 := constantI S_ 1 1#1
  let main_v20 : IVec S_ 1 := (fun x v => Host.reduce IntOp.andi x v reducesTo_S512_S_d0 h_S_) main_v19 main_c_7
  let main_v21 : IVec S_ 1 := andi main_v16 main_v20
  let main_v22 : FVec F S512x512 .f32 := Host.absf main_arg7
  let main_cst_8 : FVec F S_ .f32 := constant S_ .f32 0x7F800000#32
  let main_v23 : FVec F S512x512 .f32 := broadcastInDim S512x512 ![] bcast_S_S512x512 main_cst_8
  let main_v24 : IVec S512x512 1 := cmpf .olt main_v22 main_v23
  let main_c_9 : IVec S_ 1 := constantI S_ 1 1#1
  let main_v25 : IVec S_ 1 := (fun x v => Host.reduce IntOp.andi x v reducesTo_S512x512_S_d0_1 h_S_) main_v24 main_c_9
  let main_v26 : IVec S_ 1 := andi main_v21 main_v25
  let main_v27 : FVec F S512 .f32 := Host.absf main_arg8
  let main_cst_10 : FVec F S_ .f32 := constant S_ .f32 0x7F800000#32
  let main_v28 : FVec F S512 .f32 := broadcastInDim S512 ![] bcast_S_S512 main_cst_10
  let main_v29 : IVec S512 1 := cmpf .olt main_v27 main_v28
  let main_c_11 : IVec S_ 1 := constantI S_ 1 1#1
  let main_v30 : IVec S_ 1 := (fun x v => Host.reduce IntOp.andi x v reducesTo_S512_S_d0 h_S_) main_v29 main_c_11
  let main_v31 : IVec S_ 1 := andi main_v26 main_v30
  let main_v32 : FVec F S512 .f32 := Host.absf main_arg9
  let main_cst_12 : FVec F S_ .f32 := constant S_ .f32 0x7F800000#32
  fn_part2 (F := F) main_v31 main_v32 main_cst_12

def fn {F : FTy → Type} [FloatOps F] (main_arg0 : FVec F S2048x16384 .f32) (main_arg1 : FVec F S16384x512 .f32) (main_arg2 : FVec F S4096x16384 .f32) (main_arg3 : FVec F S4096 .f32) (main_arg4 : FVec F S4096 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S4096x512 .f32) (main_arg12 : FVec F S4096 .f32) : IVec S_ 1 :=
  let main_cst : FVec F S_ .f32 := constant S_ .f32 0x00000000#32
  let main_v0 : FVec F S2048x16384 .f32 := broadcastInDim S2048x16384 ![] bcast_S_S2048x16384 main_cst
  let main_v1 : IVec S2048x16384 1 := cmpf .oge main_arg0 main_v0
  let main_c : IVec S_ 1 := constantI S_ 1 1#1
  let main_v2 : IVec S_ 1 := (fun x v => Host.reduce IntOp.andi x v reducesTo_S2048x16384_S_d0_1 h_S_) main_v1 main_c
  let main_cst_0 : FVec F S_ .f32 := constant S_ .f32 0x7F800000#32
  let main_v3 : FVec F S2048x16384 .f32 := broadcastInDim S2048x16384 ![] bcast_S_S2048x16384 main_cst_0
  let main_v4 : IVec S2048x16384 1 := cmpf .olt main_arg0 main_v3
  let main_c_1 : IVec S_ 1 := constantI S_ 1 1#1
  let main_v5 : IVec S_ 1 := (fun x v => Host.reduce IntOp.andi x v reducesTo_S2048x16384_S_d0_1 h_S_) main_v4 main_c_1
  let main_v6 : IVec S_ 1 := andi main_v2 main_v5
  let main_v7 : FVec F S16384x512 .f32 := Host.absf main_arg1
  let main_cst_2 : FVec F S_ .f32 := constant S_ .f32 0x7F800000#32
  let main_v8 : FVec F S16384x512 .f32 := broadcastInDim S16384x512 ![] bcast_S_S16384x512 main_cst_2
  let main_v9 : IVec S16384x512 1 := cmpf .olt main_v7 main_v8
  let main_c_3 : IVec S_ 1 := constantI S_ 1 1#1
  let main_v10 : IVec S_ 1 := (fun x v => Host.reduce IntOp.andi x v reducesTo_S16384x512_S_d0_1 h_S_) main_v9 main_c_3
  let main_v11 : IVec S_ 1 := andi main_v6 main_v10
  let main_v12 : FVec F S512 .f32 := Host.absf main_arg5
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_arg6 main_arg7 main_arg8 main_arg9 main_v11 main_v15
-- ==== Kernel.lean ====
abbrev S2048x16384 : Shape := ⟨2, ![2048, 16384]⟩
abbrev S16384x512 : Shape := ⟨2, ![16384, 512]⟩
abbrev S4096x16384 : Shape := ⟨2, ![4096, 16384]⟩
abbrev S4096 : Shape := ⟨1, ![4096]⟩
abbrev S512 : Shape := ⟨1, ![512]⟩
abbrev S512x512 : Shape := ⟨2, ![512, 512]⟩
abbrev S4096x512 : Shape := ⟨2, ![4096, 512]⟩
abbrev S2048x1 : Shape := ⟨2, ![2048, 1]⟩
abbrev S128x16384 : Shape := ⟨2, ![128, 16384]⟩
abbrev S128x1 : Shape := ⟨2, ![128, 1]⟩
abbrev S4x128x256 : Shape := ⟨3, ![4, 128, 256]⟩
abbrev S128x8192 : Shape := ⟨2, ![128, 8192]⟩
abbrev S128x4096 : Shape := ⟨2, ![128, 4096]⟩
abbrev S128x2048 : Shape := ⟨2, ![128, 2048]⟩
abbrev S128x1024 : Shape := ⟨2, ![128, 1024]⟩
abbrev S128x512 : Shape := ⟨2, ![128, 512]⟩
abbrev S128x256 : Shape := ⟨2, ![128, 256]⟩
abbrev S1x128x256 : Shape := ⟨3, ![1, 128, 256]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S2048x512 : Shape := ⟨2, ![2048, 512]⟩
abbrev S2x1x512 : Shape := ⟨3, ![2, 1, 512]⟩
abbrev S1024x2048 : Shape := ⟨2, ![1024, 2048]⟩
abbrev S1024x1 : Shape := ⟨2, ![1024, 1]⟩
abbrev S1024x512 : Shape := ⟨2, ![1024, 512]⟩
abbrev S1x1x512 : Shape := ⟨3, ![1, 1, 512]⟩
abbrev S1x512 : Shape := ⟨2, ![1, 512]⟩
abbrev S8x1x512 : Shape := ⟨3, ![8, 1, 512]⟩
abbrev S256x512 : Shape := ⟨2, ![256, 512]⟩
abbrev S1x4096 : Shape := ⟨2, ![1, 4096]⟩
abbrev S2048x4096 : Shape := ⟨2, ![2048, 4096]⟩
abbrev S1024x1024 : Shape := ⟨2, ![1024, 1024]⟩
abbrev S1x1024 : Shape := ⟨2, ![1, 1024]⟩

abbrev nBuf : Space → Nat
  | .hbm => 34
  | .vmem => 71
  | .smem => 0
  | _ => 0

abbrev bufTy : (tb : Table) → Fin (tcTables nBuf tb) → BufTy
  | .hbm, ⟨0, _⟩ => ⟨S2048x16384, .f32⟩
  | .hbm, ⟨1, _⟩ => ⟨S16384x512, .f32⟩
  | .hbm, ⟨2, _⟩ => ⟨S4096x16384, .f32⟩
  | .hbm, ⟨3, _⟩ => ⟨S4096, .f32⟩
  | .hbm, ⟨4, _⟩ => ⟨S4096, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4096x512, .f32⟩
  | .hbm, ⟨12, _⟩ => ⟨S4096, .f32⟩
  | .hbm, ⟨13, _⟩ => ⟨S2048x1, .f32⟩
  | .hbm, ⟨14, _⟩ => ⟨S2048x1, .i32⟩
  | .hbm, ⟨15, _⟩ => ⟨S2048x16384, .bf16⟩
  | .hbm, ⟨16, _⟩ => ⟨S2048x512, .f32⟩
  | .hbm, ⟨17, _⟩ => ⟨S2x1x512, .f32⟩
  | .hbm, ⟨18, _⟩ => ⟨S2x1x512, .f32⟩
  | .hbm, ⟨19, _⟩ => ⟨S512x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S2048x512, .f32⟩
  | .hbm, ⟨24, _⟩ => ⟨S8x1x512, .f32⟩
  | .hbm, ⟨25, _⟩ => ⟨S8x1x512, .f32⟩
  | .hbm, ⟨26, _⟩ => ⟨S1x512, .f32⟩
  | .hbm, ⟨27, _⟩ => ⟨S1x512, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S2048x4096, .f32⟩
  | .hbm, ⟨32, _⟩ => ⟨S2048x4096, .f32⟩
  | .hbm, ⟨33, _⟩ => ⟨S2048x4096, .f32⟩
  | .local _ .vmem, ⟨0, _⟩ => ⟨S128x16384, .f32⟩
  | .local _ .vmem, ⟨1, _⟩ => ⟨S128x16384, .f32⟩
  | .local _ .vmem, ⟨2, _⟩ => ⟨S128x1, .f32⟩
  | .local _ .vmem, ⟨3, _⟩ => ⟨S128x1, .f32⟩
  | .local _ .vmem, ⟨4, _⟩ => ⟨S128x1, .i32⟩
  | .local _ .vmem, ⟨5, _⟩ => ⟨S128x1, .i32⟩
  | .local _ .vmem, ⟨6, _⟩ => ⟨S128x16384, .bf16⟩
  | .local _ .vmem, ⟨7, _⟩ => ⟨S128x16384, .bf16⟩
  | .local _ .vmem, ⟨8, _⟩ => ⟨S128x16384, .f32⟩
  | .local _ .vmem, ⟨9, _⟩ => ⟨S4x128x256, .f32⟩
  | .local _ .vmem, ⟨10, _⟩ => ⟨S4x128x256, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S1024x2048, .f32⟩
  | .local _ .vmem, ⟨16, _⟩ => ⟨S1024x2048, .f32⟩
  | .local _ .vmem, ⟨17, _⟩ => ⟨S1024x1, .f32⟩
  | .local _ .vmem, ⟨18, _⟩ => ⟨S1024x1, .f32⟩
  | .local _ .vmem, ⟨19, _⟩ => ⟨S1024x1, .i32⟩
  | .local _ .vmem, ⟨20, _⟩ => ⟨S1024x1, .i32⟩
  | .local _ .vmem, ⟨21, _⟩ => ⟨S2048x512, .f32⟩
  | .local _ .vmem, ⟨22, _⟩ => ⟨S2048x512, .f32⟩
  | .local _ .vmem, ⟨23, _⟩ => ⟨S1024x512, .f32⟩
  | .local _ .vmem, ⟨24, _⟩ => ⟨S1024x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1024x512, .f32⟩
  | .local _ .vmem, ⟨30, _⟩ => ⟨S1024x512, .f32⟩
  | .local _ .vmem, ⟨31, _⟩ => ⟨S256x512, .f32⟩
  | .local _ .vmem, ⟨32, _⟩ => ⟨S256x512, .f32⟩
  | .local _ .vmem, ⟨33, _⟩ => ⟨S2x1x512, .f32⟩
  | .local _ .vmem, ⟨34, _⟩ => ⟨S2x1x512, .f32⟩
  | .local _ .vmem, ⟨35, _⟩ => ⟨S512x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S256x512, .f32⟩
  | .local _ .vmem, ⟨40, _⟩ => ⟨S256x512, .f32⟩
  | .local _ .vmem, ⟨41, _⟩ => ⟨S1x1x512, .f32⟩
  | .local _ .vmem, ⟨42, _⟩ => ⟨S1x1x512, .f32⟩
  | .local _ .vmem, ⟨43, _⟩ => ⟨S1x1x512, .f32⟩
  | .local _ .vmem, ⟨44, _⟩ => ⟨S1x1x512, .f32⟩
  | .local _ .vmem, ⟨45, _⟩ => ⟨S1024x1024, .bf16⟩
  | .local _ .vmem, ⟨46, _⟩ => ⟨S1024x1024, .bf16⟩
  | .local _ .vmem, ⟨47, _⟩ => ⟨S1024x1024, .f32⟩
  | .local _ .vmem, ⟨48, _⟩ => ⟨S1024x1024, .f32⟩
  | .local _ .vmem, ⟨49, _⟩ => ⟨S1024x512, .f32⟩
  | .local _ .vmem, ⟨50, _⟩ => ⟨S1024x512, .f32⟩
  | .local _ .vmem, ⟨51, _⟩ => ⟨S8x1x512, .f32⟩
  | .local _ .vmem, ⟨52, _⟩ => ⟨S8x1x512, .f32⟩
  | .local _ .vmem, ⟨53, _⟩ => ⟨S1024x512, .f32⟩
  | .local _ .vmem, ⟨54, _⟩ => ⟨S1024x512, .f32⟩
  | .local _ .vmem, ⟨55, _⟩ => ⟨S1x512, .f32⟩
  | .local _ .vmem, ⟨56, _⟩ => ⟨S1x512, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1024x1024, .f32⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1024x1024, .f32⟩
  | .local _ .vmem, ⟨69, _⟩ => ⟨S1024x1024, .f32⟩
  | .local _ .vmem, ⟨70, _⟩ => ⟨S1024x512, .bf16⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc1_scratch1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_stg8_1 : Ref sig .tc := ⟨.vmem, 42, rfl⟩
abbrev cc2_stg9_0 : Ref sig .tc := ⟨.vmem, 43, rfl⟩
abbrev cc2_stg9_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg7_0 : Ref sig .tc := ⟨.vmem, 56, rfl⟩
abbrev cc3_stg8_0 : Ref sig .tc := ⟨.vmem, 57, rfl⟩
abbrev cc3_stg8_1 : Ref sig .tc := ⟨.vmem, 58, rfl⟩
abbrev cc3_stg9_0 : Ref sig .tc := ⟨.vmem, 59, rfl⟩
abbrev cc3_stg9_1 : Ref sig .tc := ⟨.vmem, 60, rfl⟩
abbrev cc3_stg10_0 : Ref sig .tc := ⟨.vmem, 61, rfl⟩
abbrev cc3_stg10_1 : Ref sig .tc := ⟨.vmem, 62, rfl⟩
abbrev cc3_stg11_0 : Ref sig .tc := ⟨.vmem, 63, rfl⟩
abbrev cc3_stg11_1 : Ref sig .tc := ⟨.vmem, 64, rfl⟩
abbrev cc3_stg12_0 : Ref sig .tc := ⟨.vmem, 65, rfl⟩
abbrev cc3_stg12_1 : Ref sig .tc := ⟨.vmem, 66, rfl⟩
abbrev cc3_stg13_0 : Ref sig .tc := ⟨.vmem, 67, rfl⟩
abbrev cc3_stg13_1 : Ref sig .tc := ⟨.vmem, 68, rfl⟩
abbrev cc3_scratch0 : Ref sig .tc := ⟨.vmem, 69, rfl⟩
abbrev cc3_scratch1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem7_0 : DmaSem sig := 47
abbrev cc3_sem8_0 : DmaSem sig := 48
abbrev cc3_sem8_1 : DmaSem sig := 49
abbrev cc3_sem9_0 : DmaSem sig := 50
abbrev cc3_sem9_1 : DmaSem sig := 51
abbrev cc3_sem10_0 : DmaSem sig := 52
abbrev cc3_sem10_1 : DmaSem sig := 53
abbrev cc3_sem11_0 : DmaSem sig := 54
abbrev cc3_sem11_1 : DmaSem sig := 55
abbrev cc3_sem12_0 : DmaSem sig := 56
abbrev cc3_sem12_1 : DmaSem sig := 57
abbrev cc3_sem13_0 : DmaSem sig := 58
abbrev cc3_sem13_1 : DmaSem sig := 59

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v1202 : Index := Scalar.indexCast arg12
  let c0_421 : Index := 0#32
  let c0_422 : Index := 0#32
  ![v1202.toNat, 0, 0]
@[reducible] def k0_t2_loop : Scf.Loop 32 :=
  let c0_i32_427 : BitVec 32 := 0#32
  let c20_i32 : BitVec 32 := 20#32
  let v1172 : BitVec 32 := Scalar.addi c0_i32_427 c20_i32
  let c1_i32_428 : BitVec 32 := 1#32
  ⟨c0_i32_427, v1172, c1_i32_428⟩
@[reducible] def k0_t3_loop : Scf.Loop 32 :=
  let c0_i32_408 : BitVec 32 := 0#32
  let c19_i32 : BitVec 32 := 19#32
  let v1153 : BitVec 32 := Scalar.addi c0_i32_408 c19_i32
  let c1_i32_409 : BitVec 32 := 1#32
  ⟨c0_i32_408, v1153, c1_i32_409⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_18 : BitVec 32 := 0#32
  let v43 : BitVec 1 := Scalar.cmpi .ne v42 c0_i32_18
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨3, ![2, 4, 16], ![false, false, false]⟩

def k3_cond3 (i : grid3.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_11 : BitVec 32 := 0#32
  let v20 : BitVec 1 := Scalar.cmpi .ne v19 c0_i32_11
  v20

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_9 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_10 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_11 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_12 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_13 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 1 → Memref sig .tc .vmem S8x1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 1 → Memref sig .tc .vmem S8x1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false, false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false, false]

abbrev stage3_8 : Fin 2 → Memref sig .tc .vmem S1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true, false]

abbrev stage3_9 : Fin 2 → Memref sig .tc .vmem S1x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![false, true, false]

abbrev stage3_10 : Fin 2 → Memref sig .tc .vmem S1x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![false, true, false]

abbrev stage3_11 : Fin 2 → Memref sig .tc .vmem S1024x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true, false]

abbrev stage3_12 : Fin 2 → Memref sig .tc .vmem S1024x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true, false]

abbrev stage3_13 : Fin 2 → Memref sig .tc .vmem S1024x1024 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true, false]
-- ==== ReferenceIdeal.lean ====
abbrev S2048x16384 : Shape := ⟨2, ![2048, 16384]⟩
abbrev S16384x512 : Shape := ⟨2, ![16384, 512]⟩
abbrev S4096x16384 : Shape := ⟨2, ![4096, 16384]⟩
abbrev S4096 : Shape := ⟨1, ![4096]⟩
abbrev S512 : Shape := ⟨1, ![512]⟩
abbrev S512x512 : Shape := ⟨2, ![512, 512]⟩
abbrev S4096x512 : Shape := ⟨2, ![4096, 512]⟩
abbrev S2048x20 : Shape := ⟨2, ![2048, 20]⟩
abbrev S_ : Shape := ⟨0, ![]⟩
abbrev S2048 : Shape := ⟨1, ![2048]⟩
abbrev S2048x1 : Shape := ⟨2, ![2048, 1]⟩
abbrev S2048x20x1 : Shape := ⟨3, ![2048, 20, 1]⟩
abbrev S2048x20x2 : Shape := ⟨3, ![2048, 20, 2]⟩
abbrev S2048x512 : Shape := ⟨2, ![2048, 512]⟩
abbrev S1x512 : Shape := ⟨2, ![1, 512]⟩
abbrev S512x4096 : Shape := ⟨2, ![512, 4096]⟩
abbrev S2048x4096 : Shape := ⟨2, ![2048, 4096]⟩
abbrev S1x4096 : Shape := ⟨2, ![1, 4096]⟩
abbrev S16384x4096 : Shape := ⟨2, ![16384, 4096]⟩

abbrev nBuf : Space → Nat
  | .hbm => 157
  | .vmem => 0
  | .smem => 0
  | _ => 0

abbrev hbmTy0_0 (i : Nat) : BufTy := match i % 128 with
  | 0 => ⟨S2048x16384, .f32⟩
  | 1 => ⟨S16384x512, .f32⟩
  | 2 => ⟨S4096x16384, .f32⟩
  | 3 => ⟨S4096, .f32⟩
  | 4 => ⟨S4096, .f32⟩
  | 5 => ⟨S512, .f32⟩
  | 6 => ⟨S512, .f32⟩
  | 7 => ⟨S512x512, .f32⟩
  | 8 => ⟨S512, .f32⟩
  | 9 => ⟨S512, .f32⟩
  | 10 => ⟨S512, .f32⟩
  | 11 => ⟨S4096x512, .f32⟩
  | 12 => ⟨S4096, .f32⟩
  | 13 => ⟨S2048x20, .f32⟩
  | 14 => ⟨S2048x20, .i32⟩
  | 15 => ⟨S_, .f32⟩
  | 16 => ⟨S2048x16384, .f32⟩
  | 17 => ⟨S2048, .i32⟩
  | 18 => ⟨S2048x1, .i32⟩
  | 19 => ⟨S_, .i32⟩
  | 20 => ⟨S2048x1, .i32⟩
  | 21 => ⟨S2048x1, .i1⟩
  | 22 => ⟨S_, .i32⟩
  | 23 => ⟨S2048x1, .i32⟩
  | 24 => ⟨S2048x1, .i32⟩
  | 25 => ⟨S2048x1, .i32⟩
  | 26 => ⟨S_, .i32⟩
  | 27 => ⟨S2048x20, .i32⟩
  | 28 => ⟨S2048x20, .i1⟩
  | 29 => ⟨S_, .i32⟩
  | 30 => ⟨S2048x20, .i32⟩
  | 31 => ⟨S2048x20, .i32⟩
  | 32 => ⟨S2048x20, .i32⟩
  | 33 => ⟨S2048x20, .i32⟩
  | 34 => ⟨S2048x20x1, .i32⟩
  | 35 => ⟨S2048x20x1, .i32⟩
  | 36 => ⟨S2048x20x2, .i32⟩
  | 37 => ⟨S2048x16384, .f32⟩
  | 38 => ⟨S2048x512, .f32⟩
  | 39 => ⟨S2048x16384, .f32⟩
  | 40 => ⟨S16384x512, .f32⟩
  | 41 => ⟨S2048x512, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S_, .f32⟩
  | 48 => ⟨S512, .f32⟩
  | 49 => ⟨S_, .f32⟩
  | 50 => ⟨S512, .f32⟩
  | 51 => ⟨S512, .f32⟩
  | 52 => ⟨S_, .i32⟩
  | 53 => ⟨S_, .f32⟩
  | 54 => ⟨S512, .f32⟩
  | 55 => ⟨S1x512, .f32⟩
  | 56 => ⟨S_, .f32⟩
  | 57 => ⟨S1x512, .f32⟩
  | 58 => ⟨S1x512, .f32⟩
  | 59 => ⟨S2048x512, .f32⟩
  | 60 => ⟨S2048x512, .f32⟩
  | 61 => ⟨S2048x512, .f32⟩
  | 62 => ⟨S_, .f32⟩
  | 63 => ⟨S_, .f32⟩
  | 64 => ⟨S_, .f32⟩
  | 65 => ⟨S_, .f32⟩
  | 66 => ⟨S512, .f32⟩
  | 67 => ⟨S512, .f32⟩
  | 68 => ⟨S512, .f32⟩
  | 69 => ⟨S_, .f32⟩
  | 70 => ⟨S_, .i1⟩
  | 71 => ⟨S_, .f32⟩
  | 72 => ⟨S_, .f32⟩
  | 73 => ⟨S512, .f32⟩
  | 74 => ⟨S512, .f32⟩
  | 75 => ⟨S1x512, .f32⟩
  | 76 => ⟨S2048x512, .f32⟩
  | 77 => ⟨S2048x512, .f32⟩
  | 78 => ⟨S_, .f32⟩
  | 79 => ⟨S512, .f32⟩
  | 80 => ⟨S512, .f32⟩
  | 81 => ⟨S512, .f32⟩
  | 82 => ⟨S1x512, .f32⟩
  | 83 => ⟨S2048x512, .f32⟩
  | 84 => ⟨S2048x512, .f32⟩
  | 85 => ⟨S1x512, .f32⟩
  | 86 => ⟨S2048x512, .f32⟩
  | 87 => ⟨S2048x512, .f32⟩
  | 88 => ⟨S1x512, .f32⟩
  | 89 => ⟨S2048x512, .f32⟩
  | 90 => ⟨S2048x512, .f32⟩
  | 91 => ⟨S512x512, .f32⟩
  | 92 => ⟨S2048x512, .f32⟩
  | 93 => ⟨S1x512, .f32⟩
  | 94 => ⟨S2048x512, .f32⟩
  | 95 => ⟨S2048x512, .f32⟩
  | 96 => ⟨S_, .f32⟩
  | 97 => ⟨S512, .f32⟩
  | 98 => ⟨S_, .f32⟩
  | 99 => ⟨S512, .f32⟩
  | 100 => ⟨S512, .f32⟩
  | 101 => ⟨S_, .i32⟩
  | 102 => ⟨S_, .f32⟩
  | 103 => ⟨S512, .f32⟩
  | 104 => ⟨S1x512, .f32⟩
  | 105 => ⟨S_, .f32⟩
  | 106 => ⟨S1x512, .f32⟩
  | 107 => ⟨S1x512, .f32⟩
  | 108 => ⟨S2048x512, .f32⟩
  | 109 => ⟨S2048x512, .f32⟩
  | 110 => ⟨S2048x512, .f32⟩
  | 111 => ⟨S_, .f32⟩
  | 112 => ⟨S_, .f32⟩
  | 113 => ⟨S_, .f32⟩
  | 114 => ⟨S_, .f32⟩
  | 115 => ⟨S512, .f32⟩
  | 116 => ⟨S512, .f32⟩
  | 117 => ⟨S512, .f32⟩
  | 118 => ⟨S_, .f32⟩
  | 119 => ⟨S_, .i1⟩
  | 120 => ⟨S_, .f32⟩
  | 121 => ⟨S_, .f32⟩
  | 122 => ⟨S512, .f32⟩
  | 123 => ⟨S512, .f32⟩
  | 124 => ⟨S1x512, .f32⟩
  | 125 => ⟨S2048x512, .f32⟩
  | 126 => ⟨S2048x512, .f32⟩
  | 127 => ⟨S_, .f32⟩
  | _ => ⟨S2048x16384, .f32⟩

abbrev hbmTy0_1 (i : Nat) : BufTy := match i % 128 with
  | 0 => ⟨S512, .f32⟩
  | 1 => ⟨S512, .f32⟩
  | 2 => ⟨S512, .f32⟩
  | 3 => ⟨S1x512, .f32⟩
  | 4 => ⟨S2048x512, .f32⟩
  | 5 => ⟨S2048x512, .f32⟩
  | 6 => ⟨S1x512, .f32⟩
  | 7 => ⟨S2048x512, .f32⟩
  | 8 => ⟨S2048x512, .f32⟩
  | 9 => ⟨S1x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S512x4096, .f32⟩
  | 16 => ⟨S2048x4096, .f32⟩
  | 17 => ⟨S1x4096, .f32⟩
  | 18 => ⟨S2048x4096, .f32⟩
  | 19 => ⟨S2048x4096, .f32⟩
  | 20 => ⟨S16384x4096, .f32⟩
  | 21 => ⟨S2048x4096, .f32⟩
  | 22 => ⟨S1x4096, .f32⟩
  | 23 => ⟨S2048x4096, .f32⟩
  | 24 => ⟨S2048x4096, .f32⟩
  | 25 => ⟨S1x4096, .f32⟩
  | 26 => ⟨S2048x4096, .f32⟩
  | 27 => ⟨S2048x4096, .f32⟩
  | 28 => ⟨S2048x4096, .f32⟩
  | _ => ⟨S2048x16384, .f32⟩

abbrev hbmTy (i : Nat) : BufTy := match i / 128 with
  | 0 => hbmTy0_0 i
  | 1 => hbmTy0_1 i
  | _ => ⟨S2048x16384, .f32⟩

abbrev bufTy : (tb : Table) → Fin (tcTables nBuf tb) → BufTy
  | .hbm, ⟨i, _⟩ => hbmTy i
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_7 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_cst_9 : Ref sig .tc := ⟨.hbm, 98, rfl⟩
abbrev main_v51 : Ref sig .tc := ⟨.hbm, 99, rfl⟩
abbrev main_v52 : Ref sig .tc := ⟨.hbm, 100, rfl⟩
abbrev main_c_10 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst_11 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_call2_cst : Ref sig .tc := ⟨.hbm, 140, rfl⟩
abbrev main_call2_v0 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩

abbrev nD : Nat := 1
abbrev τ : Topo := Topo.v7x

variable {F : FTy → Type} [FloatOps F]
-- ==== Proof.KB.Defs0.lean ====
/- The kernel bodies of the program over words and over the reals are one text. -/
module
public import proofs.«01_k».proof.Kernel
public import proofs.«01_k».proof.KernelIdeal
public import proofs.«01_k».proof.Proof.Gen.Kernel
public import proofs.«01_k».proof.Proof.Gen.KernelIdeal
@[expose] public section
set_option maxRecDepth 65536
set_option maxHeartbeats 0
namespace Cert.Same
open Idealize.ShloMosaic
attribute [local instance] Cert.Kernel.Gen.facts Cert.KernelIdeal.Gen.facts
variable {F : FTy → Type} [FloatOps F]
/-- The two programs define the same kernel bodies, at any float values. -/
theorem defs0_eq : (@Cert.Kernel.defs₀ F _ _) = (@Cert.KernelIdeal.defs₀ F _ _) := by
  unfold Cert.Kernel.defs₀ Cert.KernelIdeal.defs₀
  refine congrArg Defs.onTc ?_
  funext l x
  match l, x with
  | 3, (t, s) => rfl
  | 2, (t, s) => rfl
  | 1, (t, s) => rfl
  | 0, (t, s) => rfl
  | ⟨_ + 4, h⟩, _ => exact absurd h (Nat.not_lt.2 (Nat.le_add_left _ _))

end Cert.Same
-- ==== Proof.KI.Rounds.lean ====
/- The unrolled rounds of the threshold search, read as one step repeated. -/
module

public import proofs.«01_k».proof.Proof.Gen.KernelIdeal.Skeleton

@[expose] public section

set_option maxRecDepth 65536

noncomputable section

namespace Cert.KernelIdeal.Reg

open Idealize.ShloMosaic Idealize.ShloMosaic.TcCoe Idealize.ShloMosaic.Tactic
open Idealize.SL Idealize.SL.Sem
open Cert.KernelIdeal Cert.KernelIdeal.Gen

variable {F : FTy → Type} [FloatOps F]

/-- What one round of the search carries: the four planes of values not yet used, the threshold, how many of its ties to keep, whether it is found, the running count, whether a row may have lost values. -/
structure RS (F : FTy → Type) where
  p0 : FVec F S128x256 .f32
  p1 : FVec F S128x256 .f32
  p2 : FVec F S128x256 .f32
  p3 : FVec F S128x256 .f32
  thr : FVec F S128x1 .f32
  nk : FVec F S128x1 .f32
  fd : IVec S128x1 1
  rc : FVec F S128x1 .f32
  su : IVec S128x1 1

section
variable (c0 c1 c2 c3 : FVec F S128x256 .f32) (s : RS F)

/-- The plane of zeros. -/
def rZ : FVec F S128x256 .f32 := broadcast S128x256 (Scalar.ofBits .f32 0x00000000#32)
/-- The plane of used-up marks. -/
def rN : FVec F S128x256 .f32 := broadcast S128x256 (Scalar.ofBits .f32 0xBF800000#32)
/-- The largest of the four planes, lane by lane, -/
def rX : FVec F S128x256 .f32 := maximumf (maximumf (maximumf s.p0 s.p1) s.p2) s.p3
/-- and of each row. -/
def rM : FVec F S128x1 .f32 := shapeCast S128x1 (multiReduction .maximumf [1] S128 (rX s) 0xFF800000#32 reduces_S128x256_S128 (.inl rfl) rfl) shapeCasts_S128_S128x1
def rB : FVec F S128x256 .f32 := broadcastTo S128x256 (rM s) broadcasts_S128x1_S128x256
/-- Where each plane holds the row's largest value. -/
def rE0 : IVec S128x256 1 := cmpf .oeq s.p0 (rB s)
def rE1 : IVec S128x256 1 := cmpf .oeq s.p1 (rB s)
def rE2 : IVec S128x256 1 := cmpf .oeq s.p2 (rB s)
def rE3 : IVec S128x256 1 := cmpf .oeq s.p3 (rB s)
/-- The counts kept there, -/
def rT0 : FVec F S128x256 .f32 := select (rE0 s) c0 rZ
def rT1 : FVec F S128x256 .f32 := select (rE1 s) c1 rZ
def rT2 : FVec F S128x256 .f32 := select (rE2 s) c2 rZ
def rT3 : FVec F S128x256 .f32 := select (rE3 s) c3 rZ
/-- their sum lane by lane, -/
def rS2 : FVec F S128x256 .f32 := addf (rT0 c0 s) (rT1 c1 s)
def rS3 : FVec F S128x256 .f32 := addf (rS2 c0 c1 s) (rT2 c2 s)
def rS4 : FVec F S128x256 .f32 := addf (rS3 c0 c1 c2 s) (rT3 c3 s)
/-- and of each row. -/
def rC : FVec F S128x1 .f32 := shapeCast S128x1 (multiReduction .add [1] S128 (rS4 c0 c1 c2 c3 s) 0x00000000#32 reduces_S128x256_S128 (.inl rfl) rfl) shapeCasts_S128_S128x1
/-- Rows where the threshold is not found yet, -/
def rNf : IVec S128x1 1 := xori s.fd (constantI S128x1 1 1#1)
/-- and rows where this round finds it. -/
def rHit : IVec S128x1 1 := andi (rNf s) (cmpf .oge (addf s.rc (rC c0 c1 c2 c3 s)) (broadcast S128x1 (Scalar.ofBits .f32 0x41A00000#32)))
/-- One where the last plane holds the row's largest value. -/
def rA : FVec F S128x1 .f32 := shapeCast S128x1 (multiReduction .maximumf [1] S128 (select (rE3 s) (broadcast S128x256 (Scalar.ofBits .f32 0x3F800000#32)) rZ) 0xFF800000#32 reduces_S128x256_S128 (.inl rfl) rfl) shapeCasts_S128_S128x1

/-- One round. -/
def rstep : RS F where
  p0 := select (rE0 s) rN s.p0
  p1 := select (rE1 s) rN s.p1
  p2 := select (rE2 s) rN s.p2
  p3 := select (rE3 s) rN s.p3
  thr := select (rHit c0 c1 c2 c3 s) (rM s) s.thr
  nk := select (rHit c0 c1 c2 c3 s) (subf (broadcast S128x1 (Scalar.ofBits .f32 0x41A00000#32)) s.rc) s.nk
  fd := ori s.fd (rHit c0 c1 c2 c3 s)
  rc := addf s.rc (rC c0 c1 c2 c3 s)
  su := ori s.su (andi (cmpf .ogt (rA s) (broadcast S128x1 (Scalar.ofBits .f32 0x00000000#32))) (xori (ori s.fd (rHit c0 c1 c2 c3 s)) (constantI S128x1 1 1#1)))

end

/-- The state before the first round. -/
def rs0 (p0 p1 p2 p3 : FVec F S128x256 .f32) : RS F where
  p0 := p0
  p1 := p1
  p2 := p2
  p3 := p3
  thr := subf (broadcast S128x1 (Scalar.ofBits .f32 0x00000000#32)) (broadcast S128x1 (Scalar.ofBits .f32 0x3F800000#32))
  nk := broadcast S128x1 (Scalar.ofBits .f32 0x00000000#32)
  fd := cmpf .ogt (broadcast S128x1 (Scalar.ofBits .f32 0x00000000#32) : FVec F S128x1 .f32) (broadcast S128x1 (Scalar.ofBits .f32 0x3F800000#32))
  rc := broadcast S128x1 (Scalar.ofBits .f32 0x00000000#32)
  su := cmpf .ogt (broadcast S128x1 (Scalar.ofBits .f32 0x00000000#32) : FVec F S128x1 .f32) (broadcast S128x1 (Scalar.ofBits .f32 0x3F800000#32))

/-- The state after `n` rounds. -/
def rs (c0 c1 c2 c3 : FVec F S128x256 .f32) (s : RS F) : ℕ → RS F
  | 0 => s
  | n + 1 => rstep c0 c1 c2 c3 (rs c0 c1 c2 c3 s n)

section
variable (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole)

theorem part4_eq (p0 p1 p2 p3 c0 c1 c2 : FVec F S128x256 .f32) :
    k0_part4 i arg1 harg1 arg2 harg2 arg3 harg3 arg4 harg4 arg5 harg5 arg6 harg6 arg7 harg7 arg8 harg8 arg9 harg9 arg10 harg10 arg11 harg11 p0 p1 p2 p3 c0 c1 c2 = (do
      let v22 : Vec F S1x128x256 .f32 ← Prog.lift (.load arg7 (Rect.unit (s := S4x128x256) ![3, 0, 0] S1x128x256.size inb_S4x128x256_S1x128x256_3_0_0).toLoadRect (View.loadsAt_vmem h_S1x128x256))
      pure ⟨k0_pay23 v22, (rs0 p0 p1 p2 p3).fd, (rE0 (rs0 p0 p1 p2 p3)), (rE1 (rs0 p0 p1 p2 p3)), (rE2 (rs0 p0 p1 p2 p3)), (rE3 (rs0 p0 p1 p2 p3)), (rstep c0 c1 c2 (k0_pay23 v22) (rs0 p0 p1 p2 p3)).thr, (rstep c0 c1 c2 (k0_pay23 v22) (rs0 p0 p1 p2 p3)).nk, (rstep c0 c1 c2 (k0_pay23 v22) (rs0 p0 p1 p2 p3)).fd, (rstep c0 c1 c2 (k0_pay23 v22) (rs0 p0 p1 p2 p3)).rc, (Scalar.ofBits .f32 0x3F800000#32), (Scalar.ofBits .f32 0x00000000#32)⟩) := by
  rfl

theorem part5_eq (p0 p1 p2 p3 c0 c1 c2 c3 : FVec F S128x256 .f32) :
    k0_part5 i arg1 harg1 arg2 harg2 arg3 harg3 arg4 harg4 arg5 harg5 arg6 harg6 arg7 harg7 arg8 harg8 arg9 harg9 arg10 harg10 arg11 harg11 p0 p1 p2 p3 c0 c1 c2 c3 (rs0 p0 p1 p2 p3).fd (rE0 (rs0 p0 p1 p2 p3)) (rE1 (rs0 p0 p1 p2 p3)) (rE2 (rs0 p0 p1 p2 p3)) (rE3 (rs0 p0 p1 p2 p3)) (rstep c0 c1 c2 c3 (rs0 p0 p1 p2 p3)).fd (rstep c0 c1 c2 c3 (rs0 p0 p1 p2 p3)).rc (Scalar.ofBits .f32 0x3F800000#32) (Scalar.ofBits .f32 0x00000000#32)
      = pure ⟨(rstep c0 c1 c2 c3 (rs0 p0 p1 p2 p3)).su, (rstep c0 c1 c2 c3 (rs0 p0 p1 p2 p3)).p0, (rstep c0 c1 c2 c3 (rs0 p0 p1 p2 p3)).p1, (rstep c0 c1 c2 c3 (rs0 p0 p1 p2 p3)).p2, (rstep c0 c1 c2 c3 (rs0 p0 p1 p2 p3)).p3, (rM (rstep c0 c1 c2 c3 (rs0 p0 p1 p2 p3))), (rE0 (rstep c0 c1 c2 c3 (rs0 p0 p1 p2 p3))), (rE1 (rstep c0 c1 c2 c3 (rs0 p0 p1 p2 p3))), (rE2 (rstep c0 c1 c2 c3 (rs0 p0 p1 p2 p3))), (rE3 (rstep c0 c1 c2 c3 (rs0 p0 p1 p2 p3))), (rC c0 c1 c2 c3 (rstep c0 c1 c2 c3 (rs0 p0 p1 p2 p3))), (rNf (rstep c0 c1 c2 c3 (rs0 p0 p1 p2 p3))), (rstep c0 c1 c2 c3 (rstep c0 c1 c2 c3 (rs0 p0 p1 p2 p3))).rc⟩ := by
  rfl

theorem part6_eq (c0 c1 c2 c3 : FVec F S128x256 .f32) (s : RS F) :
    k0_part6 i arg1 harg1 arg2 harg2 arg3 harg3 arg4 harg4 arg5 harg5 arg6 harg6 arg7 harg7 arg8 harg8 arg9 harg9 arg10 harg10 arg11 harg11 c0 c1 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rC c0 c1 c2 c3 (rstep c0 c1 c2 c3 s)) (rNf (rstep c0 c1 c2 c3 s)) (rstep c0 c1 c2 c3 (rstep c0 c1 c2 c3 s)).rc
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rS2 c0 c1 (rstep c0 c1 c2 c3 (rstep c0 c1 c2 c3 s))), (Scalar.ofBits .f32 0x00000000#32)⟩ := by
  rfl

theorem part7_eq (c0 c1 c2 c3 : FVec F S128x256 .f32) (s : RS F) :
    k0_part7 i arg1 harg1 arg2 harg2 arg3 harg3 arg4 harg4 arg5 harg5 arg6 harg6 arg7 harg7 arg8 harg8 arg9 harg9 arg10 harg10 arg11 harg11 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rS2 c0 c1 (rstep c0 c1 c2 c3 s)) (Scalar.ofBits .f32 0x00000000#32)
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rB (rstep c0 c1 c2 c3 (rstep c0 c1 c2 c3 s)))⟩ := by
  rfl

theorem part8_eq (c0 c1 c2 c3 : FVec F S128x256 .f32) (s : RS F) :
    k0_part8 i arg1 harg1 arg2 harg2 arg3 harg3 arg4 harg4 arg5 harg5 arg6 harg6 arg7 harg7 arg8 harg8 arg9 harg9 arg10 harg10 arg11 harg11 c0 c1 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rB (rstep c0 c1 c2 c3 s))
      = pure ⟨(rE2 (rstep c0 c1 c2 c3 s)), (rE3 (rstep c0 c1 c2 c3 s)), (rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, rN⟩ := by
  rfl

theorem part9_eq (c0 c1 c2 c3 : FVec F S128x256 .f32) (s : RS F) :
    k0_part9 i arg1 harg1 arg2 harg2 arg3 harg3 arg4 harg4 arg5 harg5 arg6 harg6 arg7 harg7 arg8 harg8 arg9 harg9 arg10 harg10 arg11 harg11 c0 c1 c2 c3 (rstep c0 c1 c2 c3 s).p2 (rstep c0 c1 c2 c3 s).p3 (rE2 (rstep c0 c1 c2 c3 s)) (rE3 (rstep c0 c1 c2 c3 s)) (rstep c0 c1 c2 c3 (rstep c0 c1 c2 c3 s)).thr (rstep c0 c1 c2 c3 (rstep c0 c1 c2 c3 s)).nk (rstep c0 c1 c2 c3 (rstep c0 c1 c2 c3 s)).fd (rstep c0 c1 c2 c3 (rstep c0 c1 c2 c3 s)).rc (rstep c0 c1 c2 c3 (rstep c0 c1 c2 c3 s)).p0 (rstep c0 c1 c2 c3 (rstep c0 c1 c2 c3 s)).p1 rN
      = pure ⟨(rstep c0 c1 c2 c3 (rstep c0 c1 c2 c3 s)).p2, (rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rstep c0 c1 c2 c3 (rstep c0 c1 c2 c3 (rstep c0 c1 c2 c3 s))).thr, (rstep c0 c1 c2 c3 (rstep c0 c1 c2 c3 (rstep c0 c1 c2 c3 s))).nk, (rstep c0 c1 c2 c3 (rstep c0 c1 c2 c3 (rstep c0 c1 c2 c3 s))).fd, (rstep c0 c1 c2 c3 (rstep c0 c1 c2 c3 (rstep c0 c1 c2 c3 s))).rc, (rA (rstep c0 c1 c2 c3 (rstep c0 c1 c2 c3 s))), (broadcast S128x1 (Scalar.ofBits .f32 0x00000000#32))⟩ := by
  rfl

theorem part10_eq (c0 c1 c2 c3 : FVec F S128x256 .f32) (s : RS F) :
    k0_part10 i arg1 harg1 arg2 harg2 arg3 harg3 arg4 harg4 arg5 harg5 arg6 harg6 arg7 harg7 arg8 harg8 arg9 harg9 arg10 harg10 arg11 harg11 c0 c1 c2 c3 (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rstep c0 c1 c2 c3 (rstep c0 c1 c2 c3 s)).thr (rstep c0 c1 c2 c3 (rstep c0 c1 c2 c3 s)).fd (rstep c0 c1 c2 c3 (rstep c0 c1 c2 c3 s)).rc (rA (rstep c0 c1 c2 c3 s)) (broadcast S128x1 (Scalar.ofBits .f32 0x00000000#32))
      = pure ⟨(rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rC c0 c1 c2 c3 (rstep c0 c1 c2 c3 (rstep c0 c1 c2 c3 s))), (rHit c0 c1 c2 c3 (rstep c0 c1 c2 c3 (rstep c0 c1 c2 c3 s))), (rstep c0 c1 c2 c3 (rstep c0 c1 c2 c3 (rstep c0 c1 c2 c3 s))).thr, (subf (broadcast S128x1 (Scalar.ofBits .f32 0x41A00000#32)) (rstep c0 c1 c2 c3 (rstep c0 c1 c2 c3 s)).rc)⟩ := by
  rfl

theorem part11_eq (c0 c1 c2 c3 : FVec F S128x256 .f32) (s : RS F) :
    k0_part11 i arg1 harg1 arg2 harg2 arg3 harg3 arg4 harg4 arg5 harg5 arg6 harg6 arg7 harg7 arg8 harg8 arg9 harg9 arg10 harg10 arg11 harg11 c0 c1 c2 c3 (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rC c0 c1 c2 c3 (rstep c0 c1 c2 c3 s)) (rHit c0 c1 c2 c3 (rstep c0 c1 c2 c3 s)) (subf (broadcast S128x1 (Scalar.ofBits .f32 0x41A00000#32)) (rstep c0 c1 c2 c3 s).rc)
      = pure ⟨(rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rS4 c0 c1 c2 c3 (rstep c0 c1 c2 c3 (rstep c0 c1 c2 c3 s)))⟩ := by
  rfl

theorem part12_eq (c0 c1 c2 c3 : FVec F S128x256 .f32) (s : RS F) :
    k0_part12 i arg1 harg1 arg2 harg2 arg3 harg3 arg4 harg4 arg5 harg5 arg6 harg6 arg7 harg7 arg8 harg8 arg9 harg9 arg10 harg10 arg11 harg11 c0 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rS4 c0 c1 c2 c3 (rstep c0 c1 c2 c3 s))
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rT0 c0 (rstep c0 c1 c2 c3 (rstep c0 c1 c2 c3 s)))⟩ := by
  rfl

theorem part13_eq (c0 c1 c2 c3 : FVec F S128x256 .f32) (s : RS F) :
    k0_part13 i arg1 harg1 arg2 harg2 arg3 harg3 arg4 harg4 arg5 harg5 arg6 harg6 arg7 harg7 arg8 harg8 arg9 harg9 arg10 harg10 arg11 harg11 c1 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rT0 c0 (rstep c0 c1 c2 c3 s))
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rX (rstep c0 c1 c2 c3 (rstep c0 c1 c2 c3 s)))⟩ := by
  rfl

theorem part14_eq (c0 c1 c2 c3 : FVec F S128x256 .f32) (s : RS F) :
    k0_part14 i arg1 harg1 arg2 harg2 arg3 harg3 arg4 harg4 arg5 harg5 arg6 harg6 arg7 harg7 arg8 harg8 arg9 harg9 arg10 harg10 arg11 harg11 c0 c1 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rX (rstep c0 c1 c2 c3 s))
      = pure ⟨(rE1 (rstep c0 c1 c2 c3 s)), (rE2 (rstep c0 c1 c2 c3 s)), (rE3 (rstep c0 c1 c2 c3 s)), (rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0⟩ := by
  rfl

theorem part15_eq (c0 c1 c2 c3 : FVec F S128x256 .f32) (s : RS F) :
    k0_part15 i arg1 harg1 arg2 harg2 arg3 harg3 arg4 harg4 arg5 harg5 arg6 harg6 arg7 harg7 arg8 harg8 arg9 harg9 arg10 harg10 arg11 harg11 c0 c1 c2 c3 (rstep c0 c1 c2 c3 s).p1 (rstep c0 c1 c2 c3 s).p2 (rstep c0 c1 c2 c3 s).p3 (rE1 (rstep c0 c1 c2 c3 s)) (rE2 (rstep c0 c1 c2 c3 s)) (rE3 (rstep c0 c1 c2 c3 s)) (rstep c0 c1 c2 c3 (rstep c0 c1 c2 c3 s)).thr (rstep c0 c1 c2 c3 (rstep c0 c1 c2 c3 s)).nk (rstep c0 c1 c2 c3 (rstep c0 c1 c2 c3 s)).fd (rstep c0 c1 c2 c3 (rstep c0 c1 c2 c3 s)).rc (rstep c0 c1 c2 c3 (rstep c0 c1 c2 c3 s)).p0
      = pure ⟨(rstep c0 c1 c2 c3 (rstep c0 c1 c2 c3 s)).p1, (rstep c0 c1 c2 c3 (rstep c0 c1 c2 c3 s)).p2, (rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rstep c0 c1 c2 c3 (rstep c0 c1 c2 c3 (rstep c0 c1 c2 c3 s))).thr, (rstep c0 c1 c2 c3 (rstep c0 c1 c2 c3 (rstep c0 c1 c2 c3 s))).nk, (rstep c0 c1 c2 c3 (rstep c0 c1 c2 c3 (rstep c0 c1 c2 c3 s))).fd, (rstep c0 c1 c2 c3 (rstep c0 c1 c2 c3 (rstep c0 c1 c2 c3 s))).rc, (select (rE3 (rstep c0 c1 c2 c3 (rstep c0 c1 c2 c3 s))) (broadcast S128x256 (Scalar.ofBits .f32 0x3F800000#32)) rZ)⟩ := by
  rfl

theorem part16_eq (c0 c1 c2 c3 : FVec F S128x256 .f32) (s : RS F) :
    k0_part16 i arg1 harg1 arg2 harg2 arg3 harg3 arg4 harg4 arg5 harg5 arg6 harg6 arg7 harg7 arg8 harg8 arg9 harg9 arg10 harg10 arg11 harg11 c0 c1 c2 c3 (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rstep c0 c1 c2 c3 (rstep c0 c1 c2 c3 s)).fd (rstep c0 c1 c2 c3 (rstep c0 c1 c2 c3 s)).rc (select (rE3 (rstep c0 c1 c2 c3 s)) (broadcast S128x256 (Scalar.ofBits .f32 0x3F800000#32)) rZ)
      = pure ⟨(rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rC c0 c1 c2 c3 (rstep c0 c1 c2 c3 (rstep c0 c1 c2 c3 s))), (rNf (rstep c0 c1 c2 c3 (rstep c0 c1 c2 c3 s))), (cmpf .oge (rstep c0 c1 c2 c3 (rstep c0 c1 c2 c3 (rstep c0 c1 c2 c3 s))).rc (broadcast S128x1 (Scalar.ofBits .f32 0x41A00000#32)))⟩ := by
  rfl

theorem part17_eq (c0 c1 c2 c3 : FVec F S128x256 .f32) (s : RS F) :
    k0_part17 i arg1 harg1 arg2 harg2 arg3 harg3 arg4 harg4 arg5 harg5 arg6 harg6 arg7 harg7 arg8 harg8 arg9 harg9 arg10 harg10 arg11 harg11 c0 c1 c2 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rC c0 c1 c2 c3 (rstep c0 c1 c2 c3 s)) (rNf (rstep c0 c1 c2 c3 s)) (cmpf .oge (rstep c0 c1 c2 c3 (rstep c0 c1 c2 c3 s)).rc (broadcast S128x1 (Scalar.ofBits .f32 0x41A00000#32)))
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rS3 c0 c1 c2 (rstep c0 c1 c2 c3 (rstep c0 c1 c2 c3 s)))⟩ := by
  rfl

theorem part18_eq (c0 c1 c2 c3 : FVec F S128x256 .f32) (s : RS F) :
    k0_part18 i arg1 harg1 arg2 harg2 arg3 harg3 arg4 harg4 arg5 harg5 arg6 harg6 arg7 harg7 arg8 harg8 arg9 harg9 arg10 harg10 arg11 harg11 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rS3 c0 c1 c2 (rstep c0 c1 c2 c3 s))
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s)))⟩ := by
  rfl

theorem part19_eq (c0 c1 c2 c3 : FVec F S128x256 .f32) (s : RS F) :
    k0_part19 i arg1 harg1 arg2 harg2 arg3 harg3 arg4 harg4 arg5 harg5 arg6 harg6 arg7 harg7 arg8 harg8 arg9 harg9 arg10 harg10 arg11 harg11 c0 c1 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s))
      = pure ⟨(rE3 (rstep c0 c1 c2 c3 s)), (rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, rN⟩ := by
  rfl

theorem part20_eq (c0 c1 c2 c3 : FVec F S128x256 .f32) (s : RS F) :
    k0_part20 i arg1 harg1 arg2 harg2 arg3 harg3 arg4 harg4 arg5 harg5 arg6 harg6 arg7 harg7 arg8 harg8 arg9 harg9 arg10 harg10 arg11 harg11 c0 c1 c2 c3 (rstep c0 c1 c2 c3 s).p3 (rE3 (rstep c0 c1 c2 c3 s)) (rstep c0 c1 c2 c3 (rstep c0 c1 c2 c3 s)).thr (rstep c0 c1 c2 c3 (rstep c0 c1 c2 c3 s)).nk (rstep c0 c1 c2 c3 (rstep c0 c1 c2 c3 s)).fd (rstep c0 c1 c2 c3 (rstep c0 c1 c2 c3 s)).rc (rstep c0 c1 c2 c3 (rstep c0 c1 c2 c3 s)).p0 (rstep c0 c1 c2 c3 (rstep c0 c1 c2 c3 s)).p1 (rstep c0 c1 c2 c3 (rstep c0 c1 c2 c3 s)).p2 rN
      = pure ⟨(rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rstep c0 c1 c2 c3 (rstep c0 c1 c2 c3 (rstep c0 c1 c2 c3 s))).thr, (rstep c0 c1 c2 c3 (rstep c0 c1 c2 c3 (rstep c0 c1 c2 c3 s))).nk, (rstep c0 c1 c2 c3 (rstep c0 c1 c2 c3 (rstep c0 c1 c2 c3 s))).fd, (rstep c0 c1 c2 c3 (rstep c0 c1 c2 c3 (rstep c0 c1 c2 c3 s))).rc, (cmpf .ogt (rA (rstep c0 c1 c2 c3 (rstep c0 c1 c2 c3 s))) (broadcast S128x1 (Scalar.ofBits .f32 0x00000000#32))), (xori (rstep c0 c1 c2 c3 (rstep c0 c1 c2 c3 (rstep c0 c1 c2 c3 s))).fd (constantI S128x1 1 1#1))⟩ := by
  rfl

theorem part21_eq (c0 c1 c2 c3 : FVec F S128x256 .f32) (s : RS F) :
    k0_part21 i arg1 harg1 arg2 harg2 arg3 harg3 arg4 harg4 arg5 harg5 arg6 harg6 arg7 harg7 arg8 harg8 arg9 harg9 arg10 harg10 arg11 harg11 c0 c1 c2 c3 (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rstep c0 c1 c2 c3 (rstep c0 c1 c2 c3 s)).thr (rstep c0 c1 c2 c3 (rstep c0 c1 c2 c3 s)).nk (rstep c0 c1 c2 c3 (rstep c0 c1 c2 c3 s)).fd (rstep c0 c1 c2 c3 (rstep c0 c1 c2 c3 s)).rc (cmpf .ogt (rA (rstep c0 c1 c2 c3 s)) (broadcast S128x1 (Scalar.ofBits .f32 0x00000000#32))) (xori (rstep c0 c1 c2 c3 (rstep c0 c1 c2 c3 s)).fd (constantI S128x1 1 1#1))
      = pure ⟨(rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rstep c0 c1 c2 c3 (rstep c0 c1 c2 c3 (rstep c0 c1 c2 c3 s))).thr, (rstep c0 c1 c2 c3 (rstep c0 c1 c2 c3 (rstep c0 c1 c2 c3 s))).nk, (rstep c0 c1 c2 c3 (rstep c0 c1 c2 c3 (rstep c0 c1 c2 c3 s))).fd, (rstep c0 c1 c2 c3 (rstep c0 c1 c2 c3 (rstep c0 c1 c2 c3 s))).rc⟩ := by
  rfl

theorem part22_eq (c0 c1 c2 c3 : FVec F S128x256 .f32) (s : RS F) :
    k0_part22 i arg1 harg1 arg2 harg2 arg3 harg3 arg4 harg4 arg5 harg5 arg6 harg6 arg7 harg7 arg8 harg8 arg9 harg9 arg10 harg10 arg11 harg11 c0 c1 c2 c3 (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rstep c0 c1 c2 c3 (rstep c0 c1 c2 c3 s)).fd
      = pure ⟨(rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rC c0 c1 c2 c3 (rstep c0 c1 c2 c3 (rstep c0 c1 c2 c3 s))), (constantI S128x1 1 1#1)⟩ := by
  rfl

theorem part23_eq (c0 c1 c2 c3 : FVec F S128x256 .f32) (s : RS F) :
    k0_part23 i arg1 harg1 arg2 harg2 arg3 harg3 arg4 harg4 arg5 harg5 arg6 harg6 arg7 harg7 arg8 harg8 arg9 harg9 arg10 harg10 arg11 harg11 c0 c1 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rC c0 c1 c2 c3 (rstep c0 c1 c2 c3 s)) (constantI S128x1 1 1#1)
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rT0 c0 (rstep c0 c1 c2 c3 (rstep c0 c1 c2 c3 s))), (rT1 c1 (rstep c0 c1 c2 c3 (rstep c0 c1 c2 c3 s)))⟩ := by
  rfl

theorem part24_eq (c0 c1 c2 c3 : FVec F S128x256 .f32) (s : RS F) :
    k0_part24 i arg1 harg1 arg2 harg2 arg3 harg3 arg4 harg4 arg5 harg5 arg6 harg6 arg7 harg7 arg8 harg8 arg9 harg9 arg10 harg10 arg11 harg11 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rE0 (rstep c0 c1 c2 c3 s)) (rE1 (rstep c0 c1 c2 c3 s)) (rE2 (rstep c0 c1 c2 c3 s)) (rE3 (rstep c0 c1 c2 c3 s)) (rT0 c0 (rstep c0 c1 c2 c3 s)) (rT1 c1 (rstep c0 c1 c2 c3 s))
      = pure ⟨(rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1, (rstep c0 c1 c2 c3 (rstep c0 c1 c2 c3 s)).p2, (rstep c0 c1 c2 c3 (rstep c0 c1 c2 c3 s)).p3, (rM (rstep c0 c1 c2 c3 (rstep c0 c1 c2 c3 s))), (rB (rstep c0 c1 c2 c3 (rstep c0 c1 c2 c3 s)))⟩ := by
  rfl

theorem part25_eq (c0 c1 c2 c3 : FVec F S128x256 .f32) (s : RS F) :
    k0_part25 i arg1 harg1 arg2 harg2 arg3 harg3 arg4 harg4 arg5 harg5 arg6 harg6 arg7 harg7 arg8 harg8 arg9 harg9 arg10 harg10 arg11 harg11 c0 c1 c2 c3 (rstep c0 c1 c2 c3 s).thr (rstep c0 c1 c2 c3 s).nk (rstep c0 c1 c2 c3 s).fd (rstep c0 c1 c2 c3 s).rc (rstep c0 c1 c2 c3 s).su (rstep c0 c1 c2 c3 s).p0 (rstep c0 c1 c2 c3 s).p1 (rstep c0 c1 c2 c3 s).p2 (rstep c0 c1 c2 c3 s).p3 (rM (rstep c0 c1 c2 c3 s)) (rB (rstep c0 c1 c2 c3 s))
      = pure ⟨(rE2 (rstep c0 c1 c2 c3 s)), (rE3 (rstep c0 c1 c2 c3 s)), (rstep c0 c1 c2 c3 (rstep c0 c1 c2 c3 s)).thr, (rstep c0 c1 c2 c3 (rstep c0 c1 c2 c3 s)).nk, (rstep c0 c1 c2 c3 (rstep c0 c1 c2 c3 s)).fd, (rstep c0 c1 c2 c3 (rstep c0 c1 c2 c3 s)).rc, (rstep c0 c1 c2 c3 (rstep c0 c1 c2 c3 s)).su, (rstep c0 c1 c2 c3 (rstep c0 c1 c2 c3 s)).p0, (rstep c0 c1 c2 c3 (rstep c0 c1 c2 c3 s)).p1⟩ := by
  rfl

theorem part26_eq (c0 c1 c2 c3 : FVec F S128x256 .f32) (s : RS F) :
    k0_part26 i arg1 harg1 arg2 harg2 arg3 harg3 arg4 harg4 arg5 harg5 arg6 harg6 arg7 harg7 arg8 harg8 arg9 harg9 arg10 harg10 arg11 harg11 c0 c1 c2 c3 (rstep c0 c1 c2 c3 s).p2 (rstep c0 c1 c2 c3 s).p3 (rE2 (rstep c0 c1 c2 c3 s)) (rE3 (rstep c0 c1 c2 c3 s)) (rstep c0 c1 c2 c3 (rstep c0 c1 c2 c3 s)).thr (rstep c0 c1 c2 c3 (rstep c0 c1 c2 c3 s)).nk (rstep c0 c1 c2 c3 (rstep c0 c1 c2 c3 s)).fd (rstep c0 c1 c2 c3 (rstep c0 c1 c2 c3 s)).rc (rstep c0 c1 c2 c3 (rstep c0 c1 c2 c3 s)).p0 (rstep c0 c1 c2 c3 (rstep c0 c1 c2 c3 s)).p1
      = pure ⟨(rstep c0 c1 c2 c3 (rstep c0 c1 c2 c3 s)).p2, (rstep c0 c1 c2 c3 (rstep c0 c1 c2 c3 s)).p3, (rE0 (rstep c0 c1 c2 c3 (rstep c0 c1 c2 c3 s))), (rE1 (rstep c0 c1 c2 c3 (rstep c0 c1 c2 c3 s))), (rE2 (rstep c0 c1 c2 c3 (rstep c0 c1 c2 c3 s))), (rE3 (rstep c0 c1 c2 c3 (rstep c0 c1 c2 c3 s))), (rstep c0 c1 c2 c3 (rstep c0 c1 c2 c3 (rstep c0 c1 c2 c3 s))).thr, (rstep c0 c1 c2 c3 (rstep c0 c1 c2 c3 (rstep c0 c1 c2 c3 s))).nk, (rstep c0 c1 c2 c3 (rstep c0 c1 c2 c3 (rstep c0 c1 c2 c3 s))).fd, (rstep c0 c1 c2 c3 (rstep c0 c1 c2 c3 (rstep c0 c1 c2 c3 s))).rc, (rA (rstep c0 c1 c2 c3 (rstep c0 c1 c2 c3 s)))⟩ := by
  rfl

theorem part27_eq (c0 c1 c2 c3 : FVec F S128x256 .f32) (s : RS F) :
    k0_part27 i arg1 harg1 arg2 harg2 arg3 harg3 arg4 harg4 arg5 harg5 arg6 harg6 arg7 harg7 arg8 harg8 arg9 harg9 arg10 harg10 arg11 harg11 c0 c1 c2 c3 (rstep c0 c1 c2 c3 s).su (rstep c0 c1 c2 c3 s).p0 (rstep c0 c1 c2 c3 s).p1 (rstep c0 c1 c2 c3 s).p2 (rstep c0 c1 c2 c3 s).p3 (rE0 (rstep c0 c1 c2 c3 s)) (rE1 (rstep c0 c1 c2 c3 s)) (rE2 (rstep c0 c1 c2 c3 s)) (rE3 (rstep c0 c1 c2 c3 s)) (rstep c0 c1 c2 c3 (rstep c0 c1 c2 c3 s)).thr (rstep c0 c1 c2 c3 (rstep c0 c1 c2 c3 s)).fd (rstep c0 c1 c2 c3 (rstep c0 c1 c2 c3 s)).rc (rA (rstep c0 c1 c2 c3 s))
      = pure ⟨(rstep c0 c1 c2 c3 (rstep c0 c1 c2 c3 s)).su, (rE3 (rstep c0 c1 c2 c3 (rstep c0 c1 c2 c3 s))), (rHit c0 c1 c2 c3 (rstep c0 c1 c2 c3 (rstep c0 c1 c2 c3 s))), (rstep c0 c1 c2 c3 (rstep c0 c1 c2 c3 (rstep c0 c1 c2 c3 s))).thr, (Scalar.ofBits .f32 0x41A00000#32)⟩ := by
  rfl

/-- The unrolled middle of the kernel is the loads, the rounds and the rest. -/
theorem part29_eq : k0_part29 i arg1 harg1 arg2 harg2 arg3 harg3 arg4 harg4 arg5 harg5 arg6 harg6 arg7 harg7 arg8 harg8 arg9 harg9 arg10 harg10 arg11 harg11 = (do
    let ⟨p0, p1, p2, p3, c0, c1, c2⟩ : Σ' (v9 : FVec F S128x256 .f32) (v11 : FVec F S128x256 .f32) (v13 : FVec F S128x256 .f32) (v15 : FVec F S128x256 .f32) (v17 : FVec F S128x256 .f32) (v19 : FVec F S128x256 .f32), FVec F S128x256 .f32 ← k0_part3 i arg1 harg1 arg2 harg2 arg3 harg3 arg4 harg4 arg5 harg5 arg6 harg6 arg7 harg7 arg8 harg8 arg9 harg9 arg10 harg10 arg11 harg11
    let v22 : Vec F S1x128x256 .f32 ← Prog.lift (.load arg7 (Rect.unit (s := S4x128x256) ![3, 0, 0] S1x128x256.size inb_S4x128x256_S1x128x256_3_0_0).toLoadRect (View.loadsAt_vmem h_S1x128x256))
    let ⟨v1138, v1143⟩ : Σ' (v1138 : Vec F S128x1 .f32), FVec F S128x16384 .f32 ← k0_part28 i arg1 harg1 arg2 harg2 arg3 harg3 arg4 harg4 arg5 harg5 arg6 harg6 arg7 harg7 arg8 harg8 arg9 harg9 arg10 harg10 arg11 harg11 (rs c0 c1 c2 (k0_pay23 v22) (rs0 p0 p1 p2 p3) 19).nk (rs c0 c1 c2 (k0_pay23 v22) (rs0 p0 p1 p2 p3) 19).fd (rs c0 c1 c2 (k0_pay23 v22) (rs0 p0 p1 p2 p3) 19).rc (rs c0 c1 c2 (k0_pay23 v22) (rs0 p0 p1 p2 p3) 19).su (rE3 (rs c0 c1 c2 (k0_pay23 v22) (rs0 p0 p1 p2 p3) 19)) (rHit c0 c1 c2 (k0_pay23 v22) (rs c0 c1 c2 (k0_pay23 v22) (rs0 p0 p1 p2 p3) 19)) (rs c0 c1 c2 (k0_pay23 v22) (rs0 p0 p1 p2 p3) 20).thr (Scalar.ofBits .f32 0x41A00000#32)
    let v1144 : Vec F S128x16384 .f32 ← Prog.lift (.load arg5 (Rect.unit (s := S128x16384) ![0, 0] S128x16384.size inb_S128x16384_S128x16384_0_0).toLoadRect (View.loadsAt_vmem h_S128x16384))
    Prog.lift (.store arg5 (Rect.unit (s := S128x16384) ![0, 0] S128x16384.size inb_S128x16384_S128x16384_0_0) (k0_pay368 v1143) Finset.univ (View.stores_vmem_bits_univ h_S128x16384 rfl) (.inl rfl))
    let v1147 : Vec F S128x1 .f32 ← Prog.lift (.load arg9 (Rect.unit (s := S128x1) ![0, 0] S128x1.size inb_S128x1_S128x1_0_0).toLoadRect (View.loadsAt_vmem h_S128x1))
    let v1150 : Vec F S128x1 .f32 ← Prog.lift (.load arg9 (Rect.unit (s := S128x1) ![0, 0] S128x1.size inb_S128x1_S128x1_0_0).toLoadRect (View.loadsAt_vmem h_S128x1))
    Prog.lift (.store arg9 (Rect.unit (s := S128x1) ![0, 0] S128x1.size inb_S128x1_S128x1_0_0) (k0_pay369 v1147) Finset.univ (View.stores_vmem_bits_univ h_S128x1 rfl) (.inl rfl))
    Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11)
    let v1154 : Vec F S128x1 .f32 ← Prog.lift (.load arg2 (Rect.unit (s := S128x1) ![0, 0] S128x1.size inb_S128x1_S128x1_0_0).toLoadRect (View.loadsAt_vmem h_S128x1))
    Prog.lift (.store arg2 (Rect.unit (s := S128x1) ![0, 0] S128x1.size inb_S128x1_S128x1_0_0) v1138 Finset.univ (View.stores_vmem_bits_univ h_S128x1 rfl) (.inl rfl))
    let v1155 : Vec F S128x16384 .f32 ← Prog.lift (.load arg5 (Rect.unit (s := S128x16384) ![0, 0] S128x16384.size inb_S128x16384_S128x16384_0_0).toLoadRect (View.loadsAt_vmem h_S128x16384))
    pure (k0_pay374 v1155)) := by
  rw [k0_part29_eq_skeleton]
  unfold k0_part29_skel
  simp only [part4_eq, bind_assoc, pure_bind]
  simp only [part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, pure_bind]
  rfl

end

end Cert.KernelIdeal.Reg

end
-- ==== Proof.KI.Loops0.lean ====
/- The three counted loops of the threshold kernel: what each leaves in its memrefs. -/
module

public import proofs.«01_k».proof.Proof.KI.Rounds
public import Idealize.ShloMosaic.Lib.Exec
public import Idealize.ShloMosaic.Lib.Tactic
public import Idealize.ShloMosaic.Lib.VecWindow
public import Idealize.ShloMosaic.Lib.WritesUnit

@[expose] public section

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The work array before trip `k` of the first loop: each trip marks every entry that is a maximum of its lane class. -/
def wk1 (x : Vec F S128x16384 .f32) : ℕ → FVec F S128x16384 .f32
  | 0 => k0_pay13 x
  | k + 1 => k0_pay15 (wk1 x k) (k0_pay2 (wk1 x k))

/-- The first `k` planes of a four-plane memref hold the values of `p`. -/
def rowsAre (c : Dev nD) (m : Memref sig .tc .vmem S4x128x256 .f32) (p : ℕ → FVec F S1x128x256 .f32) (k : ℕ) : sProp 𝕄 :=
  iprop(∃ f : Buf (Elt F) (m.view.loc (c : Thread nD τ)), ⌜∀ (d : ℕ) (h : ∀ a, (![d, 0, 0] : Fin 3 → ℕ) a + S1x128x256.size a ≤ S4x128x256.size a), d < k → m.view.readAt (Elt F) (Rect.unit (s := S4x128x256) ![d, 0, 0] S1x128x256.size h).toLoadRect f = p d⌝ ∗ m.view.loc (c : Thread nD τ) ↦[m.view.set]{fullShare} f)

/-- What the second loop carries: the work array, the count so far, whether the row is settled, the threshold and the number still to take. -/
structure T2 (F : FTy → Type) where
  w : FVec F S128x16384 .f32
  rc : FVec F S128x1 .f32
  fd : FVec F S128x1 .f32
  thr : FVec F S128x1 .f32
  nk : FVec F S128x1 .f32

/-- One trip of the second loop, on the rows marked by `sus`. -/
def t2step (sus : IVec S128x1 1) (s : T2 F) : T2 F where
  w := k0_pay366 s.w (k0_pay6 s.w)
  rc := k0_pay365 (k0_pay7 s.w) s.rc
  fd := k0_pay364 (k0_pay8 s.w s.rc s.fd) s.fd
  thr := k0_pay10 sus s.w s.rc s.fd s.thr
  nk := k0_pay363 (k0_pay11 sus s.w s.rc s.fd s.nk)

/-- The second loop's state before trip `k`. -/
def t2 (sus : IVec S128x1 1) (s : T2 F) : ℕ → T2 F
  | 0 => s
  | k + 1 => t2step sus (t2 sus s k)

/-- The third loop's condition: some row still has an entry to drop. -/
abbrev c3t (nk : FVec F S128x1 .f32) : Prop := Scalar.cmpi .ne (Scalar.extui (Scalar.cmpf .ogt (k0_pay370 nk) (Scalar.ofBits .f32 0x00000000#32 : F .f32))) 0#32 = 1#1

open Classical in
/-- The third loop's pair (work array, entries still to drop) before trip `k`. -/
def t3 (s : FVec F S128x16384 .f32 × FVec F S128x1 .f32) : ℕ → FVec F S128x16384 .f32 × FVec F S128x1 .f32
  | 0 => s
  | k + 1 => if c3t (t3 s k).2 then (k0_pay372 (t3 s k).1 (t3 s k).2, k0_pay373 (t3 s k).2 (t3 s k).2 (t3 s k).2) else t3 s k

theorem k0_off1_eq (k : Fin k0_t1_loop.trips) : k0_off1 k = ![k.val, 0, 0] := by
  revert k; decide

theorem trips1 : k0_t1_loop.trips = 4 := by decide
theorem trips2 : k0_t2_loop.trips = 20 := by decide
theorem trips3 : k0_t3_loop.trips = 19 := by decide

/-- A memref whose planes below `k` hold `p`, plane `k` stored with `p k`, has its planes below `k + 1` hold `p`. -/
theorem rows_step (c : Dev nD) (m : Memref sig .tc .vmem S4x128x256 .f32) (hm : m.IsWhole) (p : ℕ → FVec F S1x128x256 .f32) (k : ℕ)
    (f : Buf (Elt F) (m.view.loc (c : Thread nD τ)))
    (hf : ∀ (d : ℕ) (h : ∀ a, (![d, 0, 0] : Fin 3 → ℕ) a + S1x128x256.size a ≤ S4x128x256.size a), d < k → m.view.readAt (Elt F) (Rect.unit (s := S4x128x256) ![d, 0, 0] S1x128x256.size h).toLoadRect f = p d)
    (off : Fin 3 → ℕ) (hoff : off = ![k, 0, 0]) (hk : ∀ a, off a + S1x128x256.size a ≤ S4x128x256.size a) (v : FVec F S1x128x256 .f32) (hv : v = p k) :
    ∀ (d : ℕ) (h : ∀ a, (![d, 0, 0] : Fin 3 → ℕ) a + S1x128x256.size a ≤ S4x128x256.size a), d < k + 1 →
      m.view.readAt (Elt F) (Rect.unit (s := S4x128x256) ![d, 0, 0] S1x128x256.size h).toLoadRect (m.view.writes (Elt F) f [⟨Rect.unit (s := S4x128x256) off S1x128x256.size hk, v⟩]) = p d := by
  subst hoff hv
  intro d h hd
  by_cases hdk : d = k
  · subst hdk
    funext j
    rw [View.readAt_apply]
    exact View.read_writes_cons_unit_of_mem m.view f hk (p d) [] _ j rfl (fun a => by simp [Rect.unit, Rect.toLoadRect, LoadRect.idx])
  · rw [← hf d h (by omega)]
    funext j
    rw [View.readAt_apply, View.readAt_apply]
    refine (View.read_writes_cons_unit_of_not_mem m.view f hk (p k) [] _ rfl (0 : Fin 3) ?_).trans rfl
    have hj : (j (0 : Fin 3)).val < 1 := (j (0 : Fin 3)).isLt
    have e : (((Rect.unit (s := S4x128x256) ![d, 0, 0] S1x128x256.size h).toLoadRect.idx j) (0 : Fin 3)).val = d + (j (0 : Fin 3)).val := by
      simp [Rect.unit, Rect.toLoadRect, LoadRect.idx]
    rw [e]
    left
    show d + (j (0 : Fin 3)).val < k
    omega

set_option maxHeartbeats 4000000 in
/-- The first loop: plane `d` of the maxima and of the counts is what trip `d` computes from the work array. -/
theorem loop1 (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (x : Vec F S128x16384 .f32)
    (E : Set ℕ) (K : Unit → sProp 𝕄) :
    iprop(owns (c : Thread nD τ) arg5 fullShare (wk1 x 0) ∗ rowsAre c arg6 (fun d => k0_pay3 (wk1 x d)) 0 ∗ rowsAre c arg7 (fun d => k0_pay14 (k0_pay4 (wk1 x d))) 0
        ∗ (iprop(owns (c : Thread nD τ) arg5 fullShare (wk1 x 4) ∗ rowsAre c arg6 (fun d => k0_pay3 (wk1 x d)) 4 ∗ rowsAre c arg7 (fun d => k0_pay14 (k0_pay4 (wk1 x d))) 4) -∗ K ⟨⟩))
      ⊢ wp frame (wpE (defs₀ (F := F)) Variants.none c none) E (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11)) K := by
  iintro ⟨H5, H6, H7, HK⟩
  iapply (Scf.wp_for frame (wpE (defs₀ (F := F)) Variants.none (c : Thread nD τ) none) E _ _ _ k0_t1_ok () _
    (fun k _ => iprop(owns (c : Thread nD τ) arg5 fullShare (wk1 x k) ∗ rowsAre c arg6 (fun d => k0_pay3 (wk1 x d)) k ∗ rowsAre c arg7 (fun d => k0_pay14 (k0_pay4 (wk1 x d))) k)) ?_)
  swap
  · isplitl [H5 H6 H7]
    · isplitl [H5]; · iexact H5
      isplitl [H6]; · iexact H6
      iexact H7
    · iintro %acc ⟨H5, H6, H7⟩
      iapply HK
      isplitl [H5]; · iexact H5
      isplitl [H6]; · iexact H6
      iexact H7
  · intro k acc
    unfold k0_t1_body
    simp only [k0_part1_eq_skeleton]
    unfold k0_part1_skel owns rowsAre
    iintro ⟨⟨%f5, %hf5, H5⟩, ⟨%f6, %hf6, H6⟩, ⟨%f7, %hf7, H7⟩⟩
    sl_exec
    sl_step
    isplitl [H5]
    · iexists _
      isplitr
      swap; · iexact H5
      ipureintro
      refine (View.read_writes_full _ _ _ _ _).trans ?_
      sl_unfold_words
      repeat first | rw [View.readCov_full] | rw [View.readAt_full]
      simp only [hf5]
      rfl
    isplitl [H6]
    · iexists _
      isplitr
      swap; · iexact H6
      ipureintro
      refine rows_step c arg6 harg6 _ _ f6 hf6 _ (k0_off1_eq k) _ _ ?_
      sl_unfold_words
      repeat first | rw [View.readCov_full] | rw [View.readAt_full]
      simp only [hf5]
    · iexists _
      isplitr
      swap; · iexact H7
      ipureintro
      refine rows_step c arg7 harg7 _ _ f7 hf7 _ (k0_off1_eq k) _ _ ?_
      sl_unfold_words
      repeat first | rw [View.readCov_full] | rw [View.readAt_full]
      simp only [hf5]

set_option maxHeartbeats 4000000 in
/-- The second loop carries its state through twenty trips. -/
theorem loop2 (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole)
    (v1053 : FVec F S128x1 .f32) (v1054 : IVec S128x1 1) (v1055 : FVec F S128x1 .f32) (v1065 : IVec S128x1 1) (v1086 : IVec S128x256 1) (v1104 : IVec S128x1 1) (v1105 : FVec F S128x1 .f32) (cst_381 : F .f32)
    (s : T2 F) (E : Set ℕ) (K : Unit → sProp 𝕄) :
    iprop(iprop(owns (c : Thread nD τ) arg5 fullShare (s).w ∗ owns (c : Thread nD τ) arg10 fullShare (s).rc ∗ owns (c : Thread nD τ) arg11 fullShare (s).fd ∗ owns (c : Thread nD τ) arg8 fullShare (s).thr ∗ owns (c : Thread nD τ) arg9 fullShare (s).nk)
        ∗ (iprop(owns (c : Thread nD τ) arg5 fullShare (t2 (k0_pay356 (F := F) v1054 v1065 v1086 v1104) s 20).w ∗ owns (c : Thread nD τ) arg10 fullShare (t2 (k0_pay356 (F := F) v1054 v1065 v1086 v1104) s 20).rc ∗ owns (c : Thread nD τ) arg11 fullShare (t2 (k0_pay356 (F := F) v1054 v1065 v1086 v1104) s 20).fd ∗ owns (c : Thread nD τ) arg8 fullShare (t2 (k0_pay356 (F := F) v1054 v1065 v1086 v1104) s 20).thr ∗ owns (c : Thread nD τ) arg9 fullShare (t2 (k0_pay356 (F := F) v1054 v1065 v1086 v1104) s 20).nk) -∗ K ⟨⟩))
      ⊢ wp frame (wpE (defs₀ (F := F)) Variants.none c none) E (Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 v1053 v1054 v1055 v1065 v1086 v1104 v1105 cst_381)) K := by
  iintro ⟨H, HK⟩
  iapply (Scf.wp_for frame (wpE (defs₀ (F := F)) Variants.none (c : Thread nD τ) none) E _ _ _ k0_t2_ok () _
    (fun k _ => iprop(owns (c : Thread nD τ) arg5 fullShare (t2 (k0_pay356 (F := F) v1054 v1065 v1086 v1104) s k).w ∗ owns (c : Thread nD τ) arg10 fullShare (t2 (k0_pay356 (F := F) v1054 v1065 v1086 v1104) s k).rc ∗ owns (c : Thread nD τ) arg11 fullShare (t2 (k0_pay356 (F := F) v1054 v1065 v1086 v1104) s k).fd ∗ owns (c : Thread nD τ) arg8 fullShare (t2 (k0_pay356 (F := F) v1054 v1065 v1086 v1104) s k).thr ∗ owns (c : Thread nD τ) arg9 fullShare (t2 (k0_pay356 (F := F) v1054 v1065 v1086 v1104) s k).nk)) ?_)
  swap
  · isplitl [H]
    · iexact H
    · iintro %acc H
      iapply HK
      iexact H
  · intro k acc
    unfold k0_t2_body
    simp only [k0_part2_eq_skeleton]
    unfold k0_part2_skel owns
    iintro ⟨⟨%f5, %hf5, H5⟩, ⟨%f10, %hf10, H10⟩, ⟨%f11, %hf11, H11⟩, ⟨%f8, %hf8, H8⟩, ⟨%f9, %hf9, H9⟩⟩
    sl_exec
    sl_step
    isplitl [H5]
    · iexists _
      isplitr
      swap; · iexact H5
      ipureintro
      refine (View.read_writes_full _ _ _ _ _).trans ?_
      sl_unfold_words
      repeat first | rw [View.readCov_full] | rw [View.readAt_full]
      simp only [hf5, hf10, hf11, hf8, hf9]
      try rfl
    isplitl [H10]
    · iexists _
      isplitr
      swap; · iexact H10
      ipureintro
      refine (View.read_writes_full _ _ _ _ _).trans ?_
      sl_unfold_words
      repeat first | rw [View.readCov_full] | rw [View.readAt_full]
      simp only [hf5, hf10, hf11, hf8, hf9]
      try rfl
    isplitl [H11]
    · iexists _
      isplitr
      swap; · iexact H11
      ipureintro
      refine (View.read_writes_full _ _ _ _ _).trans ?_
      sl_unfold_words
      repeat first | rw [View.readCov_full] | rw [View.readAt_full]
      simp only [hf5, hf10, hf11, hf8, hf9]
      try rfl
    isplitl [H8]
    · iexists _
      isplitr
      swap; · iexact H8
      ipureintro
      refine (View.read_writes_full _ _ _ _ _).trans ?_
      sl_unfold_words
      repeat first | rw [View.readCov_full] | rw [View.readAt_full]
      simp only [hf5, hf10, hf11, hf8, hf9]
      try rfl
    iexists _
    isplitr
    swap; · iexact H9
    ipureintro
    refine (View.read_writes_full _ _ _ _ _).trans ?_
    sl_unfold_words
    repeat first | rw [View.readCov_full] | rw [View.readAt_full]
    simp only [hf5, hf10, hf11, hf8, hf9]
    try rfl

set_option maxHeartbeats 4000000 in
/-- The third loop carries its pair through nineteen trips. -/
theorem loop3 (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole)
    (s : FVec F S128x16384 .f32 × FVec F S128x1 .f32) (E : Set ℕ) (K : Unit → sProp 𝕄) :
    iprop(iprop(owns (c : Thread nD τ) arg5 fullShare (s).1 ∗ owns (c : Thread nD τ) arg9 fullShare (s).2) ∗ (iprop(owns (c : Thread nD τ) arg5 fullShare (t3 s 19).1 ∗ owns (c : Thread nD τ) arg9 fullShare (t3 s 19).2) -∗ K ⟨⟩))
      ⊢ wp frame (wpE (defs₀ (F := F)) Variants.none c none) E (Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11)) K := by
  iintro ⟨H, HK⟩
  iapply (Scf.wp_for frame (wpE (defs₀ (F := F)) Variants.none (c : Thread nD τ) none) E _ _ _ k0_t3_ok () _
    (fun k _ => iprop(owns (c : Thread nD τ) arg5 fullShare (t3 s k).1 ∗ owns (c : Thread nD τ) arg9 fullShare (t3 s k).2)) ?_)
  swap
  · isplitl [H]
    · iexact H
    · iintro %acc H
      iapply HK
      iexact H
  · intro k acc
    unfold k0_t3_body owns
    iintro ⟨⟨%f5, %hf5, H5⟩, ⟨%f9, %hf9, H9⟩⟩
    by_cases hc : c3t (t3 s k.val).2
    · have e : t3 s (k.val + 1) = (k0_pay372 (t3 s k.val).1 (t3 s k.val).2, k0_pay373 (t3 s k.val).2 (t3 s k.val).2 (t3 s k.val).2) := by
        rw [t3, if_pos hc]
      have hc' : c3t (arg9.view.read (Elt F) f9) := by rw [hf9]; exact hc
      rw [e]
      sl_exec (disch := first | (sl_unfold_words; rw [View.readAt_full]; exact hc') | sl_exact hc')
      sl_step
      isplitl [H5]
      · iexists _
        isplitr
        swap; · iexact H5
        ipureintro
        refine (View.read_writes_full _ _ _ _ _).trans ?_
        sl_unfold_words
        repeat first | rw [View.readCov_full] | rw [View.readAt_full]
        simp only [hf5, hf9]
      · iexists _
        isplitr
        swap; · iexact H9
        ipureintro
        refine (View.read_writes_full _ _ _ _ _).trans ?_
        sl_unfold_words
        repeat first | rw [View.readCov_full] | rw [View.readAt_full]
        simp only [hf9]
    · have e : t3 s (k.val + 1) = t3 s k.val := by
        rw [t3, if_neg hc]
      have hc' : ¬ c3t (arg9.view.read (Elt F) f9) := by rw [hf9]; exact hc
      rw [e]
      sl_exec (disch := first | (sl_unfold_words; rw [View.readAt_full]; exact hc') | sl_exact hc')
      sl_step
      isplitl [H5]
      · iexists _
        isplitr
        swap; · iexact H5
        ipureintro; exact hf5
      · iexists _
        isplitr
        swap; · iexact H9
        ipureintro; exact hf9

end Cert.KernelIdeal.Reg

end
-- ==== Proof.KI.Body0.lean ====
/- What one grid point of the threshold kernel does to its memrefs. -/
module

public import proofs.«01_k».proof.Proof.KI.Loops0

@[expose] public section

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Plane `d` of the lane-class maxima, as stored. -/
abbrev plP (x : Vec F S128x16384 .f32) (d : ℕ) : FVec F S1x128x256 .f32 := k0_pay3 (wk1 x d)
/-- Plane `d` of the lane-class counts, as stored. -/
abbrev plC (x : Vec F S128x16384 .f32) (d : ℕ) : FVec F S1x128x256 .f32 := k0_pay14 (k0_pay4 (wk1 x d))

/-- The selection's state before round `n`, from the four levels of lane-class maxima and counts of the row block `x`. -/
def st0 (x : Vec F S128x16384 .f32) (n : ℕ) : RS F :=
  rs (k0_pay20 (plC x 0)) (k0_pay21 (plC x 1)) (k0_pay22 (plC x 2)) (k0_pay23 (plC x 3))
    (rs0 (k0_pay16 (plP x 0)) (k0_pay17 (plP x 1)) (k0_pay18 (plP x 2)) (k0_pay19 (plP x 3))) n
/-- Whether the last round settles each row. -/
def hit0 (x : Vec F S128x16384 .f32) : IVec S128x1 1 :=
  rHit (k0_pay20 (plC x 0)) (k0_pay21 (plC x 1)) (k0_pay22 (plC x 2)) (k0_pay23 (plC x 3)) (st0 x 19)
/-- The rows the fast selection may have got wrong. -/
def sus0 (x : Vec F S128x16384 .f32) : IVec S128x1 1 := k0_pay356 (F := F) (st0 x 19).fd (st0 x 19).su (rE3 (st0 x 19)) (hit0 x)
/-- Some row of the block is one of those. -/
abbrev c0e (v1054 : IVec S128x1 1) (v1065 : IVec S128x1 1) (v1086 : IVec S128x256 1) (v1104 : IVec S128x1 1) : Prop :=
  Scalar.cmpi .ne (Scalar.extui (Scalar.cmpf .ogt (k0_pay359 (F := F) v1054 v1065 v1086 v1104) (Scalar.ofBits .f32 0x00000000#32 : F .f32))) 0#32 = 1#1

open Classical in
/-- The state after the exact selection has been run where it is needed. -/
def fin2 (x : Vec F S128x16384 .f32) (v1053 : FVec F S128x1 .f32) (v1054 : IVec S128x1 1) (v1055 : FVec F S128x1 .f32) (v1065 : IVec S128x1 1) (v1086 : IVec S128x256 1) (v1104 : IVec S128x1 1) (v1105 : FVec F S128x1 .f32) (cst_381 : F .f32) : T2 F :=
  let s : T2 F := ⟨k0_pay360 x, k0_pay361, k0_pay362, k0_pay357 v1105, k0_pay358 v1053 v1055 v1104 cst_381⟩
  if c0e (F := F) v1054 v1065 v1086 v1104 then t2 (k0_pay356 (F := F) v1054 v1065 v1086 v1104) s 20 else s

/-- The final state of the selection on the row block `x`. -/
def sel0 (x : Vec F S128x16384 .f32) : T2 F :=
  fin2 x (st0 x 19).nk (st0 x 19).fd (st0 x 19).rc (st0 x 19).su (rE3 (st0 x 19)) (hit0 x) (st0 x 20).thr (Scalar.ofBits .f32 0x41A00000#32)
/-- Each row's threshold. -/
def thr0 (x : Vec F S128x16384 .f32) : FVec F S128x1 .f32 := (sel0 x).thr
/-- Each row's last index taken among the entries equal to the threshold. -/
def idx0 (x : Vec F S128x16384 .f32) : IVec S128x1 32 :=
  k0_pay374 (t3 (k0_pay368 (k0_pay367 (thr0 x) x), k0_pay369 (sel0 x).nk) 19).1

set_option maxHeartbeats 4000000 in
/-- The first part: the cast copy, and the four levels of lane-class maxima and counts. -/
theorem part3_run (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (x : Vec F S128x16384 .f32)
    (E : Set ℕ) (K : (Σ' (v9 : FVec F S128x256 .f32) (v11 : FVec F S128x256 .f32) (v13 : FVec F S128x256 .f32) (v15 : FVec F S128x256 .f32) (v17 : FVec F S128x256 .f32) (v19 : FVec F S128x256 .f32), FVec F S128x256 .f32) → sProp 𝕄) :
    iprop(owns (c : Thread nD τ) arg1 fullShare x ∗ (∃ v : Vec F S128x16384 .bf16, owns (c : Thread nD τ) arg4 fullShare v) ∗ (∃ v : Vec F S128x16384 .f32, owns (c : Thread nD τ) arg5 fullShare v) ∗ (∃ v : Vec F S4x128x256 .f32, owns (c : Thread nD τ) arg6 fullShare v) ∗ (∃ v : Vec F S4x128x256 .f32, owns (c : Thread nD τ) arg7 fullShare v)
        ∗ (iprop(owns (c : Thread nD τ) arg1 fullShare x ∗ owns (c : Thread nD τ) arg4 fullShare (k0_pay12 x) ∗ owns (c : Thread nD τ) arg5 fullShare (wk1 x 4) ∗ rowsAre c arg6 (plP x) 4 ∗ rowsAre c arg7 (plC x) 4) -∗ K ⟨k0_pay16 (plP x 0), k0_pay17 (plP x 1), k0_pay18 (plP x 2), k0_pay19 (plP x 3), k0_pay20 (plC x 0), k0_pay21 (plC x 1), k0_pay22 (plC x 2)⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11) K := by
  simp only [k0_part3_eq_skeleton]
  unfold k0_part3_skel
  unfold owns
  iintro ⟨⟨%f1, %hf1, H1⟩, ⟨%v4, %f4, %hf4, H4⟩, ⟨%v5, %f5, %hf5, H5⟩, ⟨%v6, %f6, %hf6, H6⟩, ⟨%v7, %f7, %hf7, H7⟩, HK⟩
  sl_exec
  rw [wp_bind]
  iapply (loop1 c i arg1 harg1 arg2 harg2 arg3 harg3 arg4 harg4 arg5 harg5 arg6 harg6 arg7 harg7 arg8 harg8 arg9 harg9 arg10 harg10 arg11 harg11 x E _)
  isplitl [H5]
  · unfold owns
    iexists _
    isplitr
    swap; · iexact H5
    ipureintro
    refine (View.read_writes_full _ _ _ _ _).trans ?_
    sl_unfold_words
    repeat first | rw [View.readCov_full] | rw [View.readAt_full]
    try simp only [hf1]
    try rfl
  isplitl [H6]
  · unfold rowsAre
    iexists f6
    isplitr
    · ipureintro; intro d h hd; exact absurd hd (Nat.not_lt_zero d)
    iexact H6
  isplitl [H7]
  · unfold rowsAre
    iexists f7
    isplitr
    · ipureintro; intro d h hd; exact absurd hd (Nat.not_lt_zero d)
    iexact H7
  unfold rowsAre owns
  iintro ⟨⟨%g5, %hg5, H5⟩, ⟨%g6, %hg6, H6⟩, ⟨%g7, %hg7, H7⟩⟩
  sl_exec
  sl_step
  iapply HK
  isplitl [H1]
  · iexists f1; isplitr; · ipureintro; exact hf1
    iexact H1
  isplitl [H4]
  · iexists _
    isplitr
    swap; · iexact H4
    ipureintro
    refine (View.read_writes_full _ _ _ _ _).trans ?_
    sl_unfold_words
    repeat first | rw [View.readCov_full] | rw [View.readAt_full]
    try simp only [hf1]
    try rfl
  isplitl [H5]
  · iexists g5; isplitr; · ipureintro; exact hg5
    iexact H5
  isplitl [H6]
  · iexists g6; isplitr; · ipureintro; exact hg6
    iexact H6
  iexists g7; isplitr; · ipureintro; exact hg7
  iexact H7

set_option maxHeartbeats 4000000 in
/-- The second part: the threshold and how many of its equals to take, by the exact selection where it is needed. -/
theorem part28_run (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (x : Vec F S128x16384 .f32)
    (v1053 : FVec F S128x1 .f32) (v1054 : IVec S128x1 1) (v1055 : FVec F S128x1 .f32) (v1065 : IVec S128x1 1) (v1086 : IVec S128x256 1) (v1104 : IVec S128x1 1) (v1105 : FVec F S128x1 .f32) (cst_381 : F .f32)
    (E : Set ℕ) (K : (Σ' (v1138 : Vec F S128x1 .f32), FVec F S128x16384 .f32) → sProp 𝕄) :
    iprop(owns (c : Thread nD τ) arg1 fullShare x ∗ (∃ v : Vec F S128x16384 .f32, owns (c : Thread nD τ) arg5 fullShare v) ∗ (∃ v : Vec F S128x1 .f32, owns (c : Thread nD τ) arg8 fullShare v) ∗ (∃ v : Vec F S128x1 .f32, owns (c : Thread nD τ) arg9 fullShare v) ∗ (∃ v : Vec F S128x1 .f32, owns (c : Thread nD τ) arg10 fullShare v) ∗ (∃ v : Vec F S128x1 .f32, owns (c : Thread nD τ) arg11 fullShare v)
        ∗ (iprop(owns (c : Thread nD τ) arg1 fullShare x ∗ (∃ v : Vec F S128x16384 .f32, owns (c : Thread nD τ) arg5 fullShare v) ∗ (∃ v : Vec F S128x1 .f32, owns (c : Thread nD τ) arg8 fullShare v) ∗ owns (c : Thread nD τ) arg9 fullShare (fin2 x v1053 v1054 v1055 v1065 v1086 v1104 v1105 cst_381).nk ∗ (∃ v : Vec F S128x1 .f32, owns (c : Thread nD τ) arg10 fullShare v) ∗ (∃ v : Vec F S128x1 .f32, owns (c : Thread nD τ) arg11 fullShare v)) -∗ K ⟨(fin2 x v1053 v1054 v1055 v1065 v1086 v1104 v1105 cst_381).thr, k0_pay367 (fin2 x v1053 v1054 v1055 v1065 v1086 v1104 v1105 cst_381).thr x⟩))
      ⊢ wp frame (wpE (defs₀ (F := F)) Variants.none c none) E (k0_part28 i arg1 harg1 arg2 harg2 arg3 harg3 arg4 harg4 arg5 harg5 arg6 harg6 arg7 harg7 arg8 harg8 arg9 harg9 arg10 harg10 arg11 harg11 v1053 v1054 v1055 v1065 v1086 v1104 v1105 cst_381) K := by
  simp only [k0_part28_eq_skeleton]
  unfold k0_part28_skel
  unfold owns
  iintro ⟨⟨%f1, %hf1, H1⟩, ⟨%v5, %f5, %hf5, H5⟩, ⟨%v8, %f8, %hf8, H8⟩, ⟨%v9, %f9, %hf9, H9⟩, ⟨%v10, %f10, %hf10, H10⟩, ⟨%v11, %f11, %hf11, H11⟩, HK⟩
  by_cases hc : c0e (F := F) v1054 v1065 v1086 v1104
  · have e : (fin2 x v1053 v1054 v1055 v1065 v1086 v1104 v1105 cst_381) = t2 (k0_pay356 (F := F) v1054 v1065 v1086 v1104) (⟨k0_pay360 x, k0_pay361, k0_pay362, k0_pay357 v1105, k0_pay358 v1053 v1055 v1104 cst_381⟩ : T2 F) 20 := if_pos hc
    rw [e]
    sl_exec (disch := first | sl_exact hc)
    rw [wp_bind]
    iapply (loop2 c i arg1 harg1 arg2 harg2 arg3 harg3 arg4 harg4 arg5 harg5 arg6 harg6 arg7 harg7 arg8 harg8 arg9 harg9 arg10 harg10 arg11 harg11 v1053 v1054 v1055 v1065 v1086 v1104 v1105 cst_381 (⟨k0_pay360 x, k0_pay361, k0_pay362, k0_pay357 v1105, k0_pay358 v1053 v1055 v1104 cst_381⟩ : T2 F) E _)
    isplitl [H5 H8 H9 H10 H11]
    · unfold owns
      isplitl [H5]
      · iexists _
        isplitr
        swap; · iexact H5
        ipureintro
        refine (View.read_writes_full _ _ _ _ _).trans ?_
        sl_unfold_words
        repeat first | rw [View.readCov_full] | rw [View.readAt_full]
        try simp only [hf1]
        try rfl
      isplitl [H10]
      · iexists _
        isplitr
        swap; · iexact H10
        ipureintro
        refine (View.read_writes_full _ _ _ _ _).trans ?_
        sl_unfold_words
        repeat first | rw [View.readCov_full] | rw [View.readAt_full]
        try simp only [hf1]
        try rfl
      isplitl [H11]
      · iexists _
        isplitr
        swap; · iexact H11
        ipureintro
        refine (View.read_writes_full _ _ _ _ _).trans ?_
        sl_unfold_words
        repeat first | rw [View.readCov_full] | rw [View.readAt_full]
        try simp only [hf1]
        try rfl
      isplitl [H8]
      · iexists _
        isplitr
        swap; · iexact H8
        ipureintro
        refine (View.read_writes_full _ _ _ _ _).trans ?_
        sl_unfold_words
        repeat first | rw [View.readCov_full] | rw [View.readAt_full]
        try simp only [hf1]
        try rfl
      iexists _
      isplitr
      swap; · iexact H9
      ipureintro
      refine (View.read_writes_full _ _ _ _ _).trans ?_
      sl_unfold_words
      repeat first | rw [View.readCov_full] | rw [View.readAt_full]
      try simp only [hf1]
      try rfl
    unfold owns
    iintro ⟨⟨%g5, %hg5, H5⟩, ⟨%g10, %hg10, H10⟩, ⟨%g11, %hg11, H11⟩, ⟨%g8, %hg8, H8⟩, ⟨%g9, %hg9, H9⟩⟩
    sl_exec
    sl_step
    repeat rw [View.readAt_full]
    rw [hg8, hf1]
    iapply HK
    isplitl [H1]
    · iexists f1; isplitr; · ipureintro; exact hf1
      iexact H1
    isplitl [H5]
    · iexists _, g5; isplitr; · ipureintro; rfl
      iexact H5
    isplitl [H8]
    · iexists _, g8; isplitr; · ipureintro; rfl
      iexact H8
    isplitl [H9]
    · iexists g9; isplitr; · ipureintro; exact hg9
      iexact H9
    isplitl [H10]
    · iexists _, g10; isplitr; · ipureintro; rfl
      iexact H10
    iexists _, g11; isplitr; · ipureintro; rfl
    iexact H11
  · have e : (fin2 x v1053 v1054 v1055 v1065 v1086 v1104 v1105 cst_381) = (⟨k0_pay360 x, k0_pay361, k0_pay362, k0_pay357 v1105, k0_pay358 v1053 v1055 v1104 cst_381⟩ : T2 F) := if_neg hc
    rw [e]
    sl_exec (disch := first | sl_exact hc)
    sl_step
    sl_unfold_words
    repeat first | rw [View.readCov_full] | rw [View.readAt_full]
    rw [hf1]
    iapply HK
    isplitl [H1]
    · iexists f1; isplitr; · ipureintro; exact hf1
      iexact H1
    isplitl [H5]
    · iexists _, f5; isplitr; · ipureintro; rfl
      iexact H5
    isplitl [H8]
    · iexists _, _; isplitr
      swap; · iexact H8
      ipureintro; rfl
    isplitl [H9]
    · iexists _
      isplitr
      swap; · iexact H9
      ipureintro
      refine (View.read_writes_full _ _ _ _ _).trans ?_
      sl_unfold_words
      repeat first | rw [View.readCov_full] | rw [View.readAt_full]
      try simp only [hf1]
      try rfl
    isplitl [H10]
    · iexists _, f10; isplitr; · ipureintro; rfl
      iexact H10
    iexists _, f11; isplitr; · ipureintro; rfl
    iexact H11

set_option maxHeartbeats 4000000 in
/-- Reading plane three of a memref whose planes are known. -/
theorem load3_run (c : Dev nD) (arg7 : Memref sig .tc .vmem S4x128x256 .f32) (harg7 : arg7.IsWhole) (p : ℕ → FVec F S1x128x256 .f32) (E : Set ℕ) (K : Vec F S1x128x256 .f32 → sProp 𝕄) :
    iprop(rowsAre c arg7 p 4 ∗ (rowsAre c arg7 p 4 -∗ K (p 3)))
      ⊢ wp frame (wpE (defs₀ (F := F)) Variants.none c none) E (Prog.lift (.load arg7 (Rect.unit (s := S4x128x256) ![3, 0, 0] S1x128x256.size inb_S4x128x256_S1x128x256_3_0_0).toLoadRect (View.loadsAt_vmem h_S1x128x256))) K := by
  unfold rowsAre
  iintro ⟨⟨%g7, %hg7, H7⟩, HK⟩
  sl_exec
  sl_step
  iapply HK
  iexists g7; isplitr; · ipureintro; exact hg7
  iexact H7

set_option maxHeartbeats 4000000 in
/-- One grid point: the thresholds, the last indices and the cast copy of the row block. -/
theorem body0 (c : Dev nD) (i : grid0.Coords) (arg1 : Memref sig .tc .vmem S128x16384 .f32) (harg1 : arg1.IsWhole) (arg2 : Memref sig .tc .vmem S128x1 .f32) (harg2 : arg2.IsWhole) (arg3 : Memref sig .tc .vmem S128x1 .i32) (harg3 : arg3.IsWhole) (arg4 : Memref sig .tc .vmem S128x16384 .bf16) (harg4 : arg4.IsWhole) (arg5 : Memref sig .tc .vmem S128x16384 .f32) (harg5 : arg5.IsWhole) (arg6 : Memref sig .tc .vmem S4x128x256 .f32) (harg6 : arg6.IsWhole) (arg7 : Memref sig .tc .vmem S4x128x256 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (x : Vec F S128x16384 .f32)
    (E : Set ℕ) (K : PUnit → sProp 𝕄) :
    iprop(owns (c : Thread nD τ) arg1 fullShare x ∗ (∃ v : Vec F S128x1 .f32, owns (c : Thread nD τ) arg2 fullShare v) ∗ (∃ v : Vec F S128x1 .i32, owns (c : Thread nD τ) arg3 fullShare v) ∗ (∃ v : Vec F S128x16384 .bf16, owns (c : Thread nD τ) arg4 fullShare v) ∗ (∃ v : Vec F S128x16384 .f32, owns (c : Thread nD τ) arg5 fullShare v) ∗ (∃ v : Vec F S4x128x256 .f32, owns (c : Thread nD τ) arg6 fullShare v) ∗ (∃ v : Vec F S4x128x256 .f32, owns (c : Thread nD τ) arg7 fullShare v) ∗ (∃ v : Vec F S128x1 .f32, owns (c : Thread nD τ) arg8 fullShare v) ∗ (∃ v : Vec F S128x1 .f32, owns (c : Thread nD τ) arg9 fullShare v) ∗ (∃ v : Vec F S128x1 .f32, owns (c : Thread nD τ) arg10 fullShare v) ∗ (∃ v : Vec F S128x1 .f32, owns (c : Thread nD τ) arg11 fullShare v)
        ∗ (iprop(owns (c : Thread nD τ) arg1 fullShare x ∗ owns (c : Thread nD τ) arg2 fullShare (thr0 x) ∗ owns (c : Thread nD τ) arg3 fullShare (idx0 x) ∗ owns (c : Thread nD τ) arg4 fullShare (k0_pay12 x) ∗ (∃ v : Vec F S128x16384 .f32, owns (c : Thread nD τ) arg5 fullShare v) ∗ (∃ v : Vec F S4x128x256 .f32, owns (c : Thread nD τ) arg6 fullShare v) ∗ (∃ v : Vec F S4x128x256 .f32, owns (c : Thread nD τ) arg7 fullShare v) ∗ (∃ v : Vec F S128x1 .f32, owns (c : Thread nD τ) arg8 fullShare v) ∗ (∃ v : Vec F S128x1 .f32, owns (c : Thread nD τ) arg9 fullShare v) ∗ (∃ v : Vec F S128x1 .f32, owns (c : Thread nD τ) arg10 fullShare v) ∗ (∃ v : Vec F S128x1 .f32, owns (c : Thread nD τ) arg11 fullShare v)) -∗ K ⟨⟩))
      ⊢ wp frame (wpE (defs₀ (F := F)) Variants.none c none) E (cc0_topk_thr i arg1 harg1 arg2 harg2 arg3 harg3 arg4 harg4 arg5 harg5 arg6 harg6 arg7 harg7 arg8 harg8 arg9 harg9 arg10 harg10 arg11 harg11) K := by
  simp only [cc0_topk_thr_eq_skeleton]
  unfold cc0_topk_thr_skel
  rw [wp_bind, part29_eq]
  iintro ⟨H1, H2, H3, H4, H5, H6, H7, H8, H9, H10, H11, HK⟩
  rw [wp_bind]
  iapply (part3_run c i arg1 harg1 arg2 harg2 arg3 harg3 arg4 harg4 arg5 harg5 arg6 harg6 arg7 harg7 arg8 harg8 arg9 harg9 arg10 harg10 arg11 harg11 x E _)
  isplitl [H1]; · iexact H1
  isplitl [H4]; · iexact H4
  isplitl [H5]; · iexact H5
  isplitl [H6]; · iexact H6
  isplitl [H7]; · iexact H7
  iintro ⟨H1, H4, H5, H6, H7⟩
  dsimp only
  rw [wp_bind]
  iapply (load3_run c arg7 harg7 (plC x) E _)
  isplitl [H7]; · iexact H7
  iintro H7
  rw [wp_bind]
  iapply (part28_run c i arg1 harg1 arg2 harg2 arg3 harg3 arg4 harg4 arg5 harg5 arg6 harg6 arg7 harg7 arg8 harg8 arg9 harg9 arg10 harg10 arg11 harg11 x _ _ _ _ _ _ _ _ E _)
  isplitl [H1]; · iexact H1
  isplitl [H5]; · iexists _; iexact H5
  isplitl [H8]; · iexact H8
  isplitl [H9]; · iexact H9
  isplitl [H10]; · iexact H10
  isplitl [H11]; · iexact H11
  unfold rowsAre owns
  iintro ⟨⟨%f1, %hf1, H1⟩, ⟨%v5, %f5, %hf5, H5⟩, H8, ⟨%f9, %hf9, H9⟩, H10, H11⟩
  icases H6 with ⟨%g6, %hg6, H6⟩
  icases H7 with ⟨%g7, %hg7, H7⟩
  icases H2 with ⟨%v2, %f2, %hf2, H2⟩
  icases H3 with ⟨%v3, %f3, %hf3, H3⟩
  dsimp only
  sl_exec
  rw [wp_bind]
  iapply (loop3 c i arg1 harg1 arg2 harg2 arg3 harg3 arg4 harg4 arg5 harg5 arg6 harg6 arg7 harg7 arg8 harg8 arg9 harg9 arg10 harg10 arg11 harg11 (k0_pay368 (k0_pay367 (thr0 x) x), k0_pay369 (sel0 x).nk) E _)
  isplitl [H5 H9]
  · unfold owns
    isplitl [H5]
    · iexists _
      isplitr
      swap; · iexact H5
      ipureintro
      refine (View.read_writes_full _ _ _ _ _).trans ?_
      sl_unfold_words
      repeat first | rw [View.readCov_full] | rw [View.readAt_full]
      try simp only [hf1, hf9]
      try rfl
    iexists _
    isplitr
    swap; · iexact H9
    ipureintro
    refine (View.read_writes_full _ _ _ _ _).trans ?_
    sl_unfold_words
    repeat first | rw [View.readCov_full] | rw [View.readAt_full]
    try simp only [hf1, hf9]
    try rfl
  unfold owns
  iintro ⟨⟨%g5, %hg5, H5⟩, ⟨%g9, %hg9, H9⟩⟩
  sl_exec
  sl_step
  iapply HK
  isplitl [H1]
  · iexists f1; isplitr; · ipureintro; exact hf1
    iexact H1
  isplitl [H2]
  · iexists _
    isplitr
    swap; · iexact H2
    ipureintro
    refine (View.read_writes_full _ _ _ _ _).trans ?_
    sl_unfold_words
    repeat first | rw [View.readCov_full] | rw [View.readAt_full]
    try simp only [hf1]
    try rfl
  isplitl [H3]
  · iexists _
    isplitr
    swap; · iexact H3
    ipureintro
    refine (View.read_writes_full _ _ _ _ _).trans ?_
    sl_unfold_words
    repeat first | rw [View.readCov_full] | rw [View.readAt_full]
    try simp only [hg5]
    try rfl
  isplitl [H4]; · iexact H4
  isplitl [H5]
  · iexists _, g5; isplitr; · ipureintro; rfl
    iexact H5
  isplitl [H6]
  · iexists _, g6; isplitr; · ipureintro; rfl
    iexact H6
  isplitl [H7]
  · iexists _, g7; isplitr; · ipureintro; rfl
    iexact H7
  isplitl [H8]; · iexact H8
  isplitl [H9]
  · iexists _, g9; isplitr; · ipureintro; rfl
    iexact H9
  isplitl [H10]; · iexact H10
  iexact H11

end Cert.KernelIdeal.Reg

end
-- ==== Proof.KI.Region0.lean ====
/- The threshold kernel over its grid: the library's obligation at every point. -/
module

public import proofs.«01_k».proof.Proof.KI.Body0
public import proofs.«01_k».proof.Proof.Gen.KernelIdeal.Launch
public import Idealize.ShloMosaic.Lib.Pipeline.FrameBody
public import Idealize.ShloMosaic.Lib.WordCmp

@[expose] public section

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The scratch memrefs. -/
abbrev scM0_0 : Memref sig .tc .vmem S128x16384 .f32 := Memref.whole cc0_scratch0
abbrev scM0_1 : Memref sig .tc .vmem S4x128x256 .f32 := Memref.whole cc0_scratch1
abbrev scM0_2 : Memref sig .tc .vmem S4x128x256 .f32 := Memref.whole cc0_scratch2
abbrev scM0_3 : Memref sig .tc .vmem S128x1 .f32 := Memref.whole cc0_scratch3
abbrev scM0_4 : Memref sig .tc .vmem S128x1 .f32 := Memref.whole cc0_scratch4
abbrev scM0_5 : Memref sig .tc .vmem S128x1 .f32 := Memref.whole cc0_scratch5
abbrev scM0_6 : Memref sig .tc .vmem S128x1 .f32 := Memref.whole cc0_scratch6

/-- The invariant between points: the scratch at any contents; the scoped rest rides along. -/
def Phi0 (c : Dev nD) (_ : ℕ) : sProp 𝕄 :=
  iprop((∃ v : Vec F S128x16384 .f32, owns (c : Thread nD τ) scM0_0 fullShare v) ∗ (∃ v : Vec F S4x128x256 .f32, owns (c : Thread nD τ) scM0_1 fullShare v) ∗ (∃ v : Vec F S4x128x256 .f32, owns (c : Thread nD τ) scM0_2 fullShare v) ∗ (∃ v : Vec F S128x1 .f32, owns (c : Thread nD τ) scM0_3 fullShare v) ∗ (∃ v : Vec F S128x1 .f32, owns (c : Thread nD τ) scM0_4 fullShare v) ∗ (∃ v : Vec F S128x1 .f32, owns (c : Thread nD τ) scM0_5 fullShare v) ∗ (∃ v : Vec F S128x1 .f32, owns (c : Thread nD τ) scM0_6 fullShare v)
    ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6])

/-- The region's proof data. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => thr0 (iblk0 V c 0 t)
    | ⟨2, _⟩ => idx0 (iblk0 V c 0 t)
    | ⟨3, _⟩ => k0_pay12 (iblk0 V c 0 t)
  Φ t := Phi0 (F := F) c t.val
  q _ := fullShare
  owed _ := 0

theorem A_eq0 (c : Dev nD) (w : Fin cfg0.W) : (dat0 V c).A w = V c (Proc.devRef .tc (Pipeline.arrRef spec0 w)) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = thr0 (iblk0 V c 0 t) := by dsimp only [dat0]
theorem after0_2 (c : Dev nD) (t : Fin cfg0.N) : (dat0 V c).after 2 t = idx0 (iblk0 V c 0 t) := by dsimp only [dat0]
theorem after0_3 (c : Dev nD) (t : Fin cfg0.N) : (dat0 V c).after 3 t = k0_pay12 (iblk0 V c 0 t) := by dsimp only [dat0]

/-- An input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)

/-- The staging memrefs at a point. -/
abbrev ms0_0 (t : Fin cfg0.N) : Memref sig .tc .vmem S128x16384 .f32 := win0_0.stage (cfg0.slots t 0)
abbrev ms0_1 (t : Fin cfg0.N) : Memref sig .tc .vmem S128x1 .f32 := win0_1.stage (cfg0.slots t 1)
abbrev ms0_2 (t : Fin cfg0.N) : Memref sig .tc .vmem S128x1 .i32 := win0_2.stage (cfg0.slots t 2)
abbrev ms0_3 (t : Fin cfg0.N) : Memref sig .tc .vmem S128x16384 .bf16 := win0_3.stage (cfg0.slots t 3)

/-- The body at point `t`, on its staging buffers and scratch. -/
def bodyAt0 (t : Fin cfg0.N) : Prog (TpuEff nD τ sig (Elt F) Λ₀ .tc) PUnit :=
  cc0_topk_thr (grid0.coords t) (win0_0.stage (cfg0.slots t 0)) (hstage0_0 _) (win0_1.stage (cfg0.slots t 1)) (hstage0_1 _) (win0_2.stage (cfg0.slots t 2)) (hstage0_2 _) (win0_3.stage (cfg0.slots t 3)) (hstage0_3 _)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- A live window's buffer is left at its contents. -/
theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4000000 in
/-- The body's triple at every point. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 (F := F) c (t.val + 1) from rfl, show (dat0 V c).Φ t.castSucc = Phi0 (F := F) c t.val from rfl]
  rw [leaves0 V c 0 t rfl, leaves0 V c 1 t rfl, leaves0 V c 2 t rfl, leaves0 V c 3 t rfl, after0_0, after0_1, after0_2, after0_3]
  unfold Phi0
  iintro ⟨⟨S0, S1, S2, S3, S4, S5, S6, Hr⟩, Ho, ⟨%d0, H0⟩, ⟨%d1, H1⟩, ⟨%d2, H2⟩, ⟨%d3, H3⟩⟩
  iapply (body0 c (grid0.coords t) _ _ _ _ _ _ _ _ _ _ _ _ _ _ _ _ _ _ _ _ _ _ (iblk0 V c 0 t) Set.univ _)
  isplitl [H0]; · iexact H0
  isplitl [H1]; · iexists _; iexact H1
  isplitl [H2]; · iexists _; iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, S0, S1, S2, S3, S4, S5, S6⟩
  isplitl [S0 S1 S2 S3 S4 S5 S6 Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hr
  isplitl [Ho]; · iexact Ho
  isplitl [H0]; · iexact H0
  isplitl [H1]; · iexact H1
  isplitl [H2]; · iexact H2
  iexact H3

/-- The body table's row at point `t`'s slots is the body. -/
theorem defs₀_row0 (t : Fin cfg0.N) : defs₀ (F := F) .tc cfg0.body (cfg0.bodyArgs t (cfg0.slots t)) = bodyAt0 t := by
  unfold defs₀; rw [Defs.onTc_tc]; rfl

/-- The library's body obligation at every point. -/
theorem obl0 (c : Dev nD) : BodyObligation (dat0 (F := F) V c) (defs₀ (F := F)) Variants.none () Set.univ := fun t => by
  rw [bigSep_W0, bigSep_W0, defs₀_row0]
  exact triple_restated (sound0 V c t) rfl .rfl fun _ => .rfl

/-- What the launch hands the region is the invariant before the first point. -/
theorem hin0 (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = Phi0 (F := F) c 0 from rfl, scopedRest0_split]
  unfold Phi0
  simp only [owns_whole]
  iintro ⟨⟨S0, S1, S2, S3, S4, S5, S6⟩, Hr⟩
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Hr

/-- After the last point the invariant gives the scoped rest back. -/
theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 (F := F) c cfg0.N from rfl, scopedRest0_split]
  unfold Phi0
  simp only [owns_whole]
  iintro ⟨S0, S1, S2, S3, S4, S5, S6, Hr⟩
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexact Hr

end Cert.KernelIdeal.Reg

end
-- ==== Proof.KI.Body1.lean ====
/- What one grid point of the pooling kernel does to its memrefs, in the three cases of its two conditionals. -/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.VecWindow

@[expose] public section

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first conditional of the pooling kernel: the point starts a row block. -/
abbrev c1a (i : grid1.Coords) : Prop := (Scalar.cmpi .ne (Scalar.extui (Scalar.cmpi .eq (BitVec.ofNat 32 (i 1).val) 0#32)) 0#32) = 1#1
/-- The second conditional of the pooling kernel: the point ends a row block. -/
abbrev c1b (i : grid1.Coords) : Prop := k1_cond2 i = 1#1

/-- The first accumulator after one more column block. -/
def acc1a (i : grid1.Coords) (x : Vec F S1024x2048 .f32) (th : Vec F S1024x1 .f32) (ix : Vec F S1024x1 .i32) (e : Vec F S2048x512 .f32)
    (a : Vec F S1024x512 .f32) : Vec F S1024x512 .f32 := k1_pay8 i x th ix e a
/-- The second accumulator after one more column block. -/
def acc1b (i : grid1.Coords) (x : Vec F S1024x2048 .f32) (th : Vec F S1024x1 .f32) (ix : Vec F S1024x1 .i32) (e : Vec F S2048x512 .f32)
    (a : Vec F S1024x512 .f32) : Vec F S1024x512 .f32 :=
  k1_pay1 a (k1_pay9 i x th ix) (k1_pay10 e) (constant S1024x512 .f32 0x00000000#32)

set_option maxHeartbeats 4000000 in
/-- A middle point adds one column block to each accumulator and leaves the outputs alone. -/
theorem body1_mid (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .f32) (harg9 : arg9.IsWhole) (arg10 : Memref sig .tc .vmem S1024x512 .f32) (harg10 : arg10.IsWhole)
    (hc0 : ¬ c1a i) (hc1 : ¬ c1b i)
    (x : Vec F S1024x2048 .f32) (th : Vec F S1024x1 .f32) (ix : Vec F S1024x1 .i32) (e : Vec F S2048x512 .f32) (a b : Vec F S1024x512 .f32)
    (E : Set ℕ) (K : PUnit → sProp 𝕄) :
    iprop(owns (c : Thread nD τ) arg2 fullShare x ∗ owns (c : Thread nD τ) arg3 fullShare th ∗ owns (c : Thread nD τ) arg4 fullShare ix ∗ owns (c : Thread nD τ) arg5 fullShare e
        ∗ owns (c : Thread nD τ) arg9 fullShare a ∗ owns (c : Thread nD τ) arg10 fullShare b
        ∗ (iprop(owns (c : Thread nD τ) arg2 fullShare x ∗ owns (c : Thread nD τ) arg3 fullShare th ∗ owns (c : Thread nD τ) arg4 fullShare ix ∗ owns (c : Thread nD τ) arg5 fullShare e
            ∗ owns (c : Thread nD τ) arg9 fullShare (acc1a i x th ix e a) ∗ owns (c : Thread nD τ) arg10 fullShare (acc1b i x th ix e b)) -∗ K ⟨⟩))
      ⊢ wp frame (wpE (defs₀ (F := F)) Variants.none c none) E (cc1_bi_pool i arg2 harg2 arg3 harg3 arg4 harg4 arg5 harg5 arg6 harg6 arg7 harg7 arg8 harg8 arg9 harg9 arg10 harg10) K := by
  simp only [cc1_bi_pool_eq_skeleton]; unfold cc1_bi_pool_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _
    isplitr
    swap; · iexact HS0
    ipureintro
    refine (View.read_writes_full _ _ _ _ _).trans ?_
    repeat first | rw [View.readCov_full] | rw [View.readAt_full]
    simp only [hf0, hf1, hf2, hf3, hfs0]
    rfl
  iexists _
  isplitr
  swap; · iexact HS1
  ipureintro
  refine (View.read_writes_full _ _ _ _ _).trans ?_
  sl_unfold_words
  repeat first | rw [View.readCov_full] | rw [View.readAt_full]
  simp only [hf0, hf1, hf2, hf3, hfs1]
  rfl

set_option maxHeartbeats 4000000 in
/-- The first point of a row block clears the accumulators and adds its column block. -/
theorem body1_first (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .f32) (harg9 : arg9.IsWhole) (arg10 : Memref sig .tc .vmem S1024x512 .f32) (harg10 : arg10.IsWhole)
    (hc0 : c1a i) (hc1 : ¬ c1b i)
    (x : Vec F S1024x2048 .f32) (th : Vec F S1024x1 .f32) (ix : Vec F S1024x1 .i32) (e : Vec F S2048x512 .f32) (a b : Vec F S1024x512 .f32)
    (E : Set ℕ) (K : PUnit → sProp 𝕄) :
    iprop(owns (c : Thread nD τ) arg2 fullShare x ∗ owns (c : Thread nD τ) arg3 fullShare th ∗ owns (c : Thread nD τ) arg4 fullShare ix ∗ owns (c : Thread nD τ) arg5 fullShare e
        ∗ owns (c : Thread nD τ) arg9 fullShare a ∗ owns (c : Thread nD τ) arg10 fullShare b
        ∗ (iprop(owns (c : Thread nD τ) arg2 fullShare x ∗ owns (c : Thread nD τ) arg3 fullShare th ∗ owns (c : Thread nD τ) arg4 fullShare ix ∗ owns (c : Thread nD τ) arg5 fullShare e
            ∗ owns (c : Thread nD τ) arg9 fullShare (acc1a i x th ix e k1_pay5) ∗ owns (c : Thread nD τ) arg10 fullShare (acc1b i x th ix e k1_pay6)) -∗ K ⟨⟩))
      ⊢ wp frame (wpE (defs₀ (F := F)) Variants.none c none) E (cc1_bi_pool i arg2 harg2 arg3 harg3 arg4 harg4 arg5 harg5 arg6 harg6 arg7 harg7 arg8 harg8 arg9 harg9 arg10 harg10) K := by
  simp only [cc1_bi_pool_eq_skeleton]; unfold cc1_bi_pool_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS0]
  · iexists _
    isplitr
    swap; · iexact HS0
    ipureintro
    refine (View.read_writes_full _ _ _ _ _).trans ?_
    sl_unfold_words
    repeat first | rw [View.readCov_full] | rw [View.readAt_full]
    simp only [hf0, hf1, hf2, hf3]
    rfl
  iexists _
  isplitr
  swap; · iexact HS1
  ipureintro
  refine (View.read_writes_full _ _ _ _ _).trans ?_
  sl_unfold_words
  repeat first | rw [View.readCov_full] | rw [View.readAt_full]
  simp only [hf0, hf1, hf2, hf3]
  rfl

set_option maxHeartbeats 4000000 in
/-- The last point of a row block adds its column block and writes the block's pooled values, their sums and their sums of squares. -/
theorem body1_last (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S2048x512 .f32) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1024x512 .f32) (harg9 : arg9.IsWhole) (arg10 : Memref sig .tc .vmem S1024x512 .f32) (harg10 : arg10.IsWhole)
    (hc0 : ¬ c1a i) (hc1 : c1b i)
    (x : Vec F S1024x2048 .f32) (th : Vec F S1024x1 .f32) (ix : Vec F S1024x1 .i32) (e : Vec F S2048x512 .f32) (a b : Vec F S1024x512 .f32)
    (d6 : Vec F S1024x512 .f32) (d7 d8 : Vec F S1x1x512 .f32)
    (E : Set ℕ) (K : PUnit → sProp 𝕄) :
    iprop(owns (c : Thread nD τ) arg2 fullShare x ∗ owns (c : Thread nD τ) arg3 fullShare th ∗ owns (c : Thread nD τ) arg4 fullShare ix ∗ owns (c : Thread nD τ) arg5 fullShare e
        ∗ owns (c : Thread nD τ) arg6 fullShare d6 ∗ owns (c : Thread nD τ) arg7 fullShare d7 ∗ owns (c : Thread nD τ) arg8 fullShare d8
        ∗ owns (c : Thread nD τ) arg9 fullShare a ∗ owns (c : Thread nD τ) arg10 fullShare b
        ∗ (iprop(owns (c : Thread nD τ) arg2 fullShare x ∗ owns (c : Thread nD τ) arg3 fullShare th ∗ owns (c : Thread nD τ) arg4 fullShare ix ∗ owns (c : Thread nD τ) arg5 fullShare e
            ∗ owns (c : Thread nD τ) arg6 fullShare (k1_pay2 (acc1a i x th ix e a) (acc1b i x th ix e b)) ∗ owns (c : Thread nD τ) arg7 fullShare (k1_pay3 (acc1a i x th ix e a) (acc1b i x th ix e b)) ∗ owns (c : Thread nD τ) arg8 fullShare (k1_pay4 (acc1a i x th ix e a) (acc1b i x th ix e b))
            ∗ owns (c : Thread nD τ) arg9 fullShare (acc1a i x th ix e a) ∗ owns (c : Thread nD τ) arg10 fullShare (acc1b i x th ix e b)) -∗ K ⟨⟩))
      ⊢ wp frame (wpE (defs₀ (F := F)) Variants.none c none) E (cc1_bi_pool i arg2 harg2 arg3 harg3 arg4 harg4 arg5 harg5 arg6 harg6 arg7 harg7 arg8 harg8 arg9 harg9 arg10 harg10) K := by
  simp only [cc1_bi_pool_eq_skeleton]; unfold cc1_bi_pool_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _
    isplitr
    swap; · iexact H4
    ipureintro
    refine (View.read_writes_full _ _ _ _ _).trans ?_
    sl_unfold_words
    repeat first | rw [View.readCov_full] | rw [View.readAt_full]
    simp only [hf0, hf1, hf2, hf3, hfs0, hfs1]
    rfl
  isplitl [H5]
  · iexists _
    isplitr
    swap; · iexact H5
    ipureintro
    refine (View.read_writes_full _ _ _ _ _).trans ?_
    sl_unfold_words
    repeat first | rw [View.readCov_full] | rw [View.readAt_full]
    simp only [hf0, hf1, hf2, hf3, hfs0, hfs1]
    rfl
  isplitl [H6]
  · iexists _
    isplitr
    swap; · iexact H6
    ipureintro
    refine (View.read_writes_full _ _ _ _ _).trans ?_
    sl_unfold_words
    repeat first | rw [View.readCov_full] | rw [View.readAt_full]
    simp only [hf0, hf1, hf2, hf3, hfs0, hfs1]
    rfl
  isplitl [HS0]
  · iexists _
    isplitr
    swap; · iexact HS0
    ipureintro
    refine (View.read_writes_full _ _ _ _ _).trans ?_
    sl_unfold_words
    repeat first | rw [View.readCov_full] | rw [View.readAt_full]
    simp only [hf0, hf1, hf2, hf3, hfs0]
    rfl
  iexists _
  isplitr
  swap; · iexact HS1
  ipureintro
  refine (View.read_writes_full _ _ _ _ _).trans ?_
  sl_unfold_words
  repeat first | rw [View.readCov_full] | rw [View.readAt_full]
  simp only [hf0, hf1, hf2, hf3, hfs1]
  rfl

end Cert.KernelIdeal.Reg

end
-- ==== Proof.KI.Region1.lean ====
/- The pooling kernel over its grid: what its accumulators hold from point to point, and the library's obligation at every point. -/
module

public import proofs.«01_k».proof.Proof.KI.Body1
public import proofs.«01_k».proof.Proof.Gen.KernelIdeal.Launch
public import Idealize.ShloMosaic.Lib.Pipeline.FrameBody
public import Idealize.ShloMosaic.Lib.WordCmp

@[expose] public section

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The grid point of number `n`. -/
def pt1 (n : ℕ) : Fin cfg1.N := ⟨n % 16, by rw [show cfg1.N = 16 from N_1]; omega⟩

theorem pt1_val (t : Fin cfg1.N) : pt1 t.val = t :=
  Fin.ext (Nat.mod_eq_of_lt (lt_of_lt_of_eq t.isLt (show cfg1.N = 16 from N_1)))

/-- The two accumulators after `n` points. -/
def accs1 (c : Dev nD) : ℕ → Vec F S1024x512 .f32 × Vec F S1024x512 .f32
  | 0 => (k1_pay5, k1_pay6)
  | n + 1 =>
    (acc1a (grid1.coords (pt1 n)) (iblk1 V c 0 (pt1 n)) (iblk1 V c 1 (pt1 n)) (iblk1 V c 2 (pt1 n)) (iblk1 V c 3 (pt1 n))
        (if n % 8 = 0 then k1_pay5 else (accs1 c n).1),
      acc1b (grid1.coords (pt1 n)) (iblk1 V c 0 (pt1 n)) (iblk1 V c 1 (pt1 n)) (iblk1 V c 2 (pt1 n)) (iblk1 V c 3 (pt1 n))
        (if n % 8 = 0 then k1_pay6 else (accs1 c n).2))

theorem accs1_succ (c : Dev nD) (t : Fin cfg1.N) : accs1 V c (t.val + 1) =
    (acc1a (grid1.coords t) (iblk1 V c 0 t) (iblk1 V c 1 t) (iblk1 V c 2 t) (iblk1 V c 3 t)
        (if t.val % 8 = 0 then k1_pay5 else (accs1 V c t.val).1),
      acc1b (grid1.coords t) (iblk1 V c 0 t) (iblk1 V c 1 t) (iblk1 V c 2 t) (iblk1 V c 3 t)
        (if t.val % 8 = 0 then k1_pay6 else (accs1 V c t.val).2)) := by
  rw [accs1, pt1_val]

/-- The scratch memrefs. -/
abbrev scM1_0 : Memref sig .tc .vmem S1024x512 .f32 := Memref.whole cc1_scratch0
abbrev scM1_1 : Memref sig .tc .vmem S1024x512 .f32 := Memref.whole cc1_scratch1

/-- The invariant between points: inside a row block the scratch holds the accumulators; the scoped rest rides along. -/
def Phi1 (c : Dev nD) (n : ℕ) : sProp 𝕄 :=
  iprop(∃ d0 d1, ⌜n % 8 ≠ 0 → d0 = (accs1 V c n).1 ∧ d1 = (accs1 V c n).2⌝
    ∗ owns (c : Thread nD τ) scM1_0 fullShare d0 ∗ owns (c : Thread nD τ) scM1_1 fullShare d1
    ∗ Pipeline.scopedRestBut (Ix := Unit) (Name := ℕ) (U := UR sig nD τ) (Lvl := ℕ) (Val := Elt F) spec1 c [cc1_scratch0, cc1_scratch1])

/-- The region's proof data. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (accs1 V c (t.val + 1)).1 (accs1 V c (t.val + 1)).2
    | ⟨5, _⟩ => k1_pay3 (accs1 V c (t.val + 1)).1 (accs1 V c (t.val + 1)).2
    | ⟨6, _⟩ => k1_pay4 (accs1 V c (t.val + 1)).1 (accs1 V c (t.val + 1)).2
  Φ t := Phi1 V c t.val
  q _ := fullShare
  owed _ := 0

theorem A_eq1 (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay2 (accs1 V c (t.val + 1)).1 (accs1 V c (t.val + 1)).2 := by dsimp only [dat1]
theorem after1_5 (c : Dev nD) (t : Fin cfg1.N) : (dat1 V c).after 5 t = k1_pay3 (accs1 V c (t.val + 1)).1 (accs1 V c (t.val + 1)).2 := by dsimp only [dat1]
theorem after1_6 (c : Dev nD) (t : Fin cfg1.N) : (dat1 V c).after 6 t = k1_pay4 (accs1 V c (t.val + 1)).1 (accs1 V c (t.val + 1)).2 := by dsimp only [dat1]

/-- An input's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; rfl)

theorem hc1a : ∀ t : Fin cfg1.N, c1a (grid1.coords t) ↔ t.val % 8 = 0 :=
  (fun t => by
    have ht : t.val < 16 := Nat.lt_of_lt_of_eq t.isLt N_1
    have e1 : (grid1.coords t 1).val = t.val / 1 % 8 := Pipeline.Grid.coords_val t 1 (by decide) rfl
    simp only [c1a, e1]
    word_cmp
   : ∀ t : Fin grid1.N, c1a (grid1.coords t) ↔ t.val % 8 = 0)

theorem hc1b : ∀ t : Fin cfg1.N, c1b (grid1.coords t) ↔ t.val % 8 = 7 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 1 % 8 := Pipeline.Grid.coords_val t 1 (by decide) rfl
    simp only [c1b, k1_cond2, e0, e1]
    word_cmp
   : ∀ t : Fin grid1.N, c1b (grid1.coords t) ↔ t.val % 8 = 7)

theorem idle1 : ∀ (t : Fin cfg1.N), t.val % 8 ≠ 7 → (cfg1.idle 4 (grid1.coords t) = true ∧ (cfg1.win 4).flush t = false)
    ∧ (cfg1.idle 5 (grid1.coords t) = true ∧ (cfg1.win 5).flush t = false) ∧ (cfg1.idle 6 (grid1.coords t) = true ∧ (cfg1.win 6).flush t = false) := by
  decide +kernel
theorem live1 : ∀ (t : Fin cfg1.N), t.val % 8 = 7 → cfg1.idle 4 (grid1.coords t) = false
    ∧ cfg1.idle 5 (grid1.coords t) = false ∧ cfg1.idle 6 (grid1.coords t) = false := by
  decide +kernel

/-- The staging memrefs at a point. -/
abbrev ms1_0 (t : Fin cfg1.N) : Memref sig .tc .vmem S1024x2048 .f32 := win1_0.stage (cfg1.slots t 0)
abbrev ms1_1 (t : Fin cfg1.N) : Memref sig .tc .vmem S1024x1 .f32 := win1_1.stage (cfg1.slots t 1)
abbrev ms1_2 (t : Fin cfg1.N) : Memref sig .tc .vmem S1024x1 .i32 := win1_2.stage (cfg1.slots t 2)
abbrev ms1_3 (t : Fin cfg1.N) : Memref sig .tc .vmem S2048x512 .f32 := win1_3.stage (cfg1.slots t 3)
abbrev ms1_4 (t : Fin cfg1.N) : Memref sig .tc .vmem S1024x512 .f32 := win1_4.stage (cfg1.slots t 4)
abbrev ms1_5 (t : Fin cfg1.N) : Memref sig .tc .vmem S1x1x512 .f32 := win1_5.stage (cfg1.slots t 5)
abbrev ms1_6 (t : Fin cfg1.N) : Memref sig .tc .vmem S1x1x512 .f32 := win1_6.stage (cfg1.slots t 6)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

/-- A live window's buffer is left at its contents. -/
theorem leaves1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 4000000 in
/-- The body's triple at every point. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [leaves1 V c 0 t rfl, leaves1 V c 1 t rfl, leaves1 V c 2 t rfl, leaves1 V c 3 t rfl, after1_0, after1_1, after1_2, after1_3]
  unfold Phi1
  rw [accs1_succ]
  by_cases h1 : t.val % 8 = 7
  · have h0 : t.val % 8 ≠ 0 := by omega
    obtain ⟨l4, l5, l6⟩ := live1 t h1
    rw [leaves1 V c 4 t l4, leaves1 V c 5 t l5, leaves1 V c 6 t l6, after1_4, after1_5, after1_6, accs1_succ, if_neg h0, if_neg h0]
    iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩⟩
    obtain ⟨rfl, rfl⟩ := hab h0
    iapply (body1_last c (grid1.coords t) _ _ _ _ _ _ _ _ _ _ _ _ _ _ _ _ _ _ (fun h => h0 ((hc1a t).mp h)) ((hc1b t).mpr h1)
      (iblk1 V c 0 t) (iblk1 V c 1 t) (iblk1 V c 2 t) (iblk1 V c 3 t) (accs1 V c t.val).1 (accs1 V c t.val).2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr]
    · iexists _; iexists _; isplitr
      · ipureintro; exact fun _ => ⟨rfl, rfl⟩
      isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨⟨i4, f4⟩, ⟨i5, f5⟩, ⟨i6, f6⟩⟩ := idle1 t h1
    rw [Dat.leavesExact_idle (dat1 V c) 4 t i4 f4, Dat.leavesExact_idle (dat1 V c) 5 t i5 f5, Dat.leavesExact_idle (dat1 V c) 6 t i6 f6]
    by_cases h0 : t.val % 8 = 0
    · rw [if_pos h0, if_pos h0]
      iintro ⟨⟨%a, %b, -, HS0, HS1, Hr⟩, Ho, ⟨%d0, H0⟩, ⟨%d1, H1⟩, ⟨%d2, H2⟩, ⟨%d3, H3⟩, ⟨%d4, H4⟩, ⟨%d5, H5⟩, ⟨%d6, H6⟩⟩
      iapply (body1_first c (grid1.coords t) _ _ _ _ _ _ (ms1_3 t) _ (ms1_4 t) _ (ms1_5 t) _ (ms1_6 t) _ _ _ _ _ ((hc1a t).mpr h0) (fun h => h1 ((hc1b t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · iexists _; iexists _; isplitr
        · ipureintro; exact fun _ => ⟨rfl, rfl⟩
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [if_neg h0, if_neg h0]
      iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩⟩
      obtain ⟨rfl, rfl⟩ := hab h0
      iapply (body1_mid c (grid1.coords t) _ _ _ _ _ _ (ms1_3 t) _ (ms1_4 t) _ (ms1_5 t) _ (ms1_6 t) _ _ _ _ _ (fun h => h0 ((hc1a t).mp h)) (fun h => h1 ((hc1b t).mp h))
        (iblk1 V c 0 t) (iblk1 V c 1 t) (iblk1 V c 2 t) (iblk1 V c 3 t) (accs1 V c t.val).1 (accs1 V c t.val).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · iexists _; iexists _; isplitr
        · ipureintro; exact fun _ => ⟨rfl, rfl⟩
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body table's row at point `t`'s slots is the body. -/
theorem defs₀_row1 (t : Fin cfg1.N) : defs₀ (F := F) .tc cfg1.body (cfg1.bodyArgs t (cfg1.slots t)) = bodyAt1 t := by
  unfold defs₀; rw [Defs.onTc_tc]

/-- The library's body obligation at every point. -/
theorem obl1 (c : Dev nD) : BodyObligation (dat1 (F := F) V c) (defs₀ (F := F)) Variants.none () Set.univ := fun t => by
  rw [bigSep_W1, bigSep_W1, defs₀_row1]
  exact triple_restated (sound1 V c t) rfl .rfl fun _ => .rfl

/-- What the launch hands the region is the invariant before the first point. -/
theorem hin1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 from rfl, scopedRest1_split]
  unfold Phi1
  simp only [owns_whole]
  iintro ⟨⟨⟨%f0, H0⟩, ⟨%f1, H1⟩⟩, Hr⟩
  iexists f0; iexists f1; isplitr
  · ipureintro; exact fun h => absurd rfl h
  isplitl [H0]; · iexact H0
  isplitl [H1]; · iexact H1
  iexact Hr

/-- After the last point the invariant gives the scoped rest back. -/
theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c cfg1.N from rfl, scopedRest1_split]
  unfold Phi1
  simp only [owns_whole]
  iintro ⟨%d0, %d1, -, H0, H1, Hr⟩
  isplitl [H0 H1]
  · isplitl [H0]
    · iexists _; iexact H0
    iexists _; iexact H1
  iexact Hr

end Cert.KernelIdeal.Reg

end
-- ==== Proof.KI.Body2.lean ====
/- What one grid point of the first dense layer's kernel does to its memrefs. -/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.VecWindow

@[expose] public section

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- One row block: the hidden rows, their sums and their sums of squares are written. -/
theorem body2 (c : Dev nD) (i : grid2.Coords) (arg1 : Memref sig .tc .vmem S256x512 .f32) (harg1 : arg1.IsWhole) (arg2 : Memref sig .tc .vmem S2x1x512 .f32) (harg2 : arg2.IsWhole) (arg3 : Memref sig .tc .vmem S2x1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x512 .f32) (harg8 : arg8.IsWhole) (arg9 : Memref sig .tc .vmem S1x1x512 .f32) (harg9 : arg9.IsWhole) (arg10 : Memref sig .tc .vmem S1x1x512 .f32) (harg10 : arg10.IsWhole)
    (x : Vec F S256x512 .f32)    (s : Vec F S2x1x512 .f32)    (q : Vec F S2x1x512 .f32)    (w : Vec F S512x512 .f32)    (b : Vec F S1x512 .f32)    (g : Vec F S1x512 .f32)    (be : Vec F S1x512 .f32)    (d8 : Vec F S256x512 .f32)    (d9 : Vec F S1x1x512 .f32)    (d10 : Vec F S1x1x512 .f32)
    (E : Set ℕ) (K : PUnit → sProp 𝕄) :
    iprop(owns (c : Thread nD τ) arg1 fullShare x
        ∗ owns (c : Thread nD τ) arg2 fullShare s
        ∗ owns (c : Thread nD τ) arg3 fullShare q
        ∗ owns (c : Thread nD τ) arg4 fullShare w
        ∗ owns (c : Thread nD τ) arg5 fullShare b
        ∗ owns (c : Thread nD τ) arg6 fullShare g
        ∗ owns (c : Thread nD τ) arg7 fullShare be
        ∗ owns (c : Thread nD τ) arg8 fullShare d8
        ∗ owns (c : Thread nD τ) arg9 fullShare d9
        ∗ owns (c : Thread nD τ) arg10 fullShare d10
        ∗ (iprop(owns (c : Thread nD τ) arg1 fullShare x
            ∗ owns (c : Thread nD τ) arg2 fullShare s
            ∗ owns (c : Thread nD τ) arg3 fullShare q
            ∗ owns (c : Thread nD τ) arg4 fullShare w
            ∗ owns (c : Thread nD τ) arg5 fullShare b
            ∗ owns (c : Thread nD τ) arg6 fullShare g
            ∗ owns (c : Thread nD τ) arg7 fullShare be
            ∗ owns (c : Thread nD τ) arg8 fullShare (k2_pay1 (k2_pay4 s q g be x w) (k2_pay5 b))
            ∗ owns (c : Thread nD τ) arg9 fullShare (k2_pay2 (k2_pay4 s q g be x w) (k2_pay5 b))
            ∗ owns (c : Thread nD τ) arg10 fullShare (k2_pay3 (k2_pay4 s q g be x w) (k2_pay5 b))) -∗ K ⟨⟩))
      ⊢ wp frame (wpE (defs₀ (F := F)) Variants.none c none) E (cc2_mlp1_bn i arg1 harg1 arg2 harg2 arg3 harg3 arg4 harg4 arg5 harg5 arg6 harg6 arg7 harg7 arg8 harg8 arg9 harg9 arg10 harg10) K := by
  simp only [cc2_mlp1_bn_eq_skeleton, ]; unfold cc2_mlp1_bn_skel; simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _
    isplitr
    swap; · iexact H7
    ipureintro
    refine (View.read_writes_full _ _ _ _ _).trans ?_
    sl_unfold_words
    repeat first | rw [View.readCov_full] | rw [View.readAt_full]
    simp only [hf0, hf1, hf2, hf3, hf4, hf5, hf6, hf7, hf8, hf9]
    try rfl
  isplitl [H8]
  · iexists _
    isplitr
    swap; · iexact H8
    ipureintro
    refine (View.read_writes_full _ _ _ _ _).trans ?_
    sl_unfold_words
    repeat first | rw [View.readCov_full] | rw [View.readAt_full]
    simp only [hf0, hf1, hf2, hf3, hf4, hf5, hf6, hf7, hf8, hf9]
    try rfl
  iexists _
  isplitr
  swap; · iexact H9
  ipureintro
  refine (View.read_writes_full _ _ _ _ _).trans ?_
  sl_unfold_words
  repeat first | rw [View.readCov_full] | rw [View.readAt_full]
  simp only [hf0, hf1, hf2, hf3, hf4, hf5, hf6, hf7, hf8, hf9]
  try rfl

end Cert.KernelIdeal.Reg

end
-- ==== Proof.KI.Region2.lean ====
/- The hidden layer's kernel over its grid: the library's obligation at every point. -/
module

public import proofs.«01_k».proof.Proof.KI.Body2
public import proofs.«01_k».proof.Proof.Gen.KernelIdeal.Launch
public import Idealize.ShloMosaic.Lib.Pipeline.FrameBody
public import Idealize.ShloMosaic.Lib.WordCmp

@[expose] public section

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The grid point of number `n`. -/
def pt2 (n : ℕ) : Fin cfg2.N := ⟨n % 8, by rw [show cfg2.N = 8 from N_2]; omega⟩

theorem pt2_val (t : Fin cfg2.N) : pt2 t.val = t :=
  Fin.ext (Nat.mod_eq_of_lt (lt_of_lt_of_eq t.isLt (show cfg2.N = 8 from N_2)))

/-- The invariant between points: this kernel keeps nothing. -/
def Phi2 (c : Dev nD) (_ : ℕ) : sProp 𝕄 := Pipeline.scopedRest (Ix := Unit) (Name := ℕ) (U := UR sig nD τ) (Lvl := ℕ) (Val := Elt F) spec2 c

/-- The region's proof data. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (k2_pay4 (iblk2 V c 1 t) (iblk2 V c 2 t) (iblk2 V c 5 t) (iblk2 V c 6 t) (iblk2 V c 0 t) (iblk2 V c 3 t)) (k2_pay5 (iblk2 V c 4 t))
    | ⟨8, _⟩ => k2_pay2 (k2_pay4 (iblk2 V c 1 t) (iblk2 V c 2 t) (iblk2 V c 5 t) (iblk2 V c 6 t) (iblk2 V c 0 t) (iblk2 V c 3 t)) (k2_pay5 (iblk2 V c 4 t))
    | ⟨9, _⟩ => k2_pay3 (k2_pay4 (iblk2 V c 1 t) (iblk2 V c 2 t) (iblk2 V c 5 t) (iblk2 V c 6 t) (iblk2 V c 0 t) (iblk2 V c 3 t)) (k2_pay5 (iblk2 V c 4 t))
  Φ t := Phi2 (F := F) c t.val
  q _ := fullShare
  owed _ := 0

theorem A_eq2 (c : Dev nD) (w : Fin cfg2.W) : (dat2 V c).A w = V c (Proc.devRef .tc (Pipeline.arrRef spec2 w)) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = k2_pay1 (k2_pay4 (iblk2 V c 1 t) (iblk2 V c 2 t) (iblk2 V c 5 t) (iblk2 V c 6 t) (iblk2 V c 0 t) (iblk2 V c 3 t)) (k2_pay5 (iblk2 V c 4 t)) := by dsimp only [dat2]
theorem after2_8 (c : Dev nD) (t : Fin cfg2.N) : (dat2 V c).after 8 t = k2_pay2 (k2_pay4 (iblk2 V c 1 t) (iblk2 V c 2 t) (iblk2 V c 5 t) (iblk2 V c 6 t) (iblk2 V c 0 t) (iblk2 V c 3 t)) (k2_pay5 (iblk2 V c 4 t)) := by dsimp only [dat2]
theorem after2_9 (c : Dev nD) (t : Fin cfg2.N) : (dat2 V c).after 9 t = k2_pay3 (k2_pay4 (iblk2 V c 1 t) (iblk2 V c 2 t) (iblk2 V c 5 t) (iblk2 V c 6 t) (iblk2 V c 0 t) (iblk2 V c 3 t)) (k2_pay5 (iblk2 V c 4 t)) := by dsimp only [dat2]

/-- An input's staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]) t d).trans
    (by unfold Dat.fetched Dat.blockOf iblk2; rw [A_eq2]; rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]) t d).trans
    (by unfold Dat.fetched Dat.blockOf iblk2; rw [A_eq2]; rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]) t d).trans
    (by unfold Dat.fetched Dat.blockOf iblk2; rw [A_eq2]; rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]) t d).trans
    (by unfold Dat.fetched Dat.blockOf iblk2; rw [A_eq2]; rfl)

/-- The staging memrefs at a point. -/
abbrev ms2_0 (t : Fin cfg2.N) := win2_0.stage (cfg2.slots t 0)
abbrev ms2_1 (t : Fin cfg2.N) := win2_1.stage (cfg2.slots t 1)
abbrev ms2_2 (t : Fin cfg2.N) := win2_2.stage (cfg2.slots t 2)
abbrev ms2_3 (t : Fin cfg2.N) := win2_3.stage (cfg2.slots t 3)
abbrev ms2_4 (t : Fin cfg2.N) := win2_4.stage (cfg2.slots t 4)
abbrev ms2_5 (t : Fin cfg2.N) := win2_5.stage (cfg2.slots t 5)
abbrev ms2_6 (t : Fin cfg2.N) := win2_6.stage (cfg2.slots t 6)
abbrev ms2_7 (t : Fin cfg2.N) := win2_7.stage (cfg2.slots t 7)
abbrev ms2_8 (t : Fin cfg2.N) := win2_8.stage (cfg2.slots t 8)
abbrev ms2_9 (t : Fin cfg2.N) := win2_9.stage (cfg2.slots t 9)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t ∗ (dat2 V c).leavesExact 9 t)

/-- A live window's buffer is left at its contents. -/
theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 8000000 in
/-- The body's triple at every point. -/
theorem sound2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = Phi2 (F := F) c (t.val + 1) from rfl, show (dat2 V c).Φ t.castSucc = Phi2 (F := F) c t.val from rfl]
  rw [leaves2 V c 0 t rfl, leaves2 V c 1 t rfl, leaves2 V c 2 t rfl, leaves2 V c 3 t rfl, leaves2 V c 4 t rfl, leaves2 V c 5 t rfl, leaves2 V c 6 t rfl, after2_0, after2_1, after2_2, after2_3, after2_4, after2_5, after2_6]
  unfold Phi2
  rw [leaves2 V c 7 t rfl, leaves2 V c 8 t rfl, leaves2 V c 9 t rfl, after2_7, after2_8, after2_9]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body2 c (grid2.coords t) (ms2_0 t) _ (ms2_1 t) _ (ms2_2 t) _ (ms2_3 t) _ (ms2_4 t) _ (ms2_5 t) _ (ms2_6 t) _ (ms2_7 t) _ (ms2_8 t) _ (ms2_9 t) _ (iblk2 V c 0 t) (iblk2 V c 1 t) (iblk2 V c 2 t) (iblk2 V c 3 t) (iblk2 V c 4 t) (iblk2 V c 5 t) (iblk2 V c 6 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row2 (t : Fin cfg2.N) : defs₀ (F := F) .tc cfg2.body (cfg2.bodyArgs t (cfg2.slots t)) = bodyAt2 t := by
  unfold defs₀; rw [Defs.onTc_tc]

/-- The library's body obligation at every point. -/
theorem obl2 (c : Dev nD) : BodyObligation (dat2 (F := F) V c) (defs₀ (F := F)) Variants.none () Set.univ := fun t => by
  rw [bigSep_W2, bigSep_W2, defs₀_row2]
  exact triple_restated (sound2 V c t) rfl .rfl fun _ => .rfl

end Cert.KernelIdeal.Reg

end
-- ==== Proof.KI.Body3.lean ====
/- What one grid point of the fused linear kernel does to its memrefs, in the four cases of its conditionals. -/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.VecWindow

@[expose] public section

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first conditional: the point starts an output block. -/
abbrev c3a (i : grid3.Coords) : Prop := (Scalar.cmpi .ne (Scalar.extui (Scalar.cmpi .eq (BitVec.ofNat 32 (i 2).val) 0#32)) 0#32) = 1#1
/-- The second conditional: the point starts a row block. -/
abbrev c3b (i : grid3.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The third conditional: the point ends an output block. -/
abbrev c3c (i : grid3.Coords) : Prop := k3_cond3 i = 1#1

set_option maxHeartbeats 4000000 in
/-- The first point of a row block clears the accumulator, adds one product and prepares the normalised hidden rows. -/
theorem body3_row (c : Dev nD) (i : grid3.Coords) (arg3 : Memref sig .tc .vmem S1024x1024 .bf16) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S8x1x512 .f32) (harg6 : arg6.IsWhole) (arg7 : Memref sig .tc .vmem S8x1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole) (arg17 : Memref sig .tc .vmem S1024x1024 .f32) (harg17 : arg17.IsWhole) (arg18 : Memref sig .tc .vmem S1024x512 .bf16) (harg18 : arg18.IsWhole)
    (hc0 : c3a i) (hc1 : c3b i) (hc2 : ¬ c3c i)
    (x : Vec F S1024x1024 .bf16)    (w : Vec F S1024x1024 .f32)    (h : Vec F S1024x512 .f32)    (hs : Vec F S8x1x512 .f32)    (hq : Vec F S8x1x512 .f32)    (g : Vec F S1x512 .f32)    (be : Vec F S1x512 .f32)    (a : Vec F S1024x1024 .f32)    (gb : Vec F S1024x512 .bf16)
    (E : Set ℕ) (K : PUnit → sProp 𝕄) :
    iprop(owns (c : Thread nD τ) arg3 fullShare x
        ∗ owns (c : Thread nD τ) arg4 fullShare w
        ∗ owns (c : Thread nD τ) arg5 fullShare h
        ∗ owns (c : Thread nD τ) arg6 fullShare hs
        ∗ owns (c : Thread nD τ) arg7 fullShare hq
        ∗ owns (c : Thread nD τ) arg9 fullShare g
        ∗ owns (c : Thread nD τ) arg10 fullShare be
        ∗ owns (c : Thread nD τ) arg17 fullShare a
        ∗ owns (c : Thread nD τ) arg18 fullShare gb
        ∗ (iprop(owns (c : Thread nD τ) arg3 fullShare x
            ∗ owns (c : Thread nD τ) arg4 fullShare w
            ∗ owns (c : Thread nD τ) arg5 fullShare h
            ∗ owns (c : Thread nD τ) arg6 fullShare hs
            ∗ owns (c : Thread nD τ) arg7 fullShare hq
            ∗ owns (c : Thread nD τ) arg9 fullShare g
            ∗ owns (c : Thread nD τ) arg10 fullShare be
            ∗ owns (c : Thread nD τ) arg17 fullShare (k3_pay3 k3_pay1 x w)
            ∗ owns (c : Thread nD τ) arg18 fullShare (k3_pay2 hs hq g be h)) -∗ K ⟨⟩))
      ⊢ wp frame (wpE (defs₀ (F := F)) Variants.none c none) E (cc3_linear_mlp2_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3_linear_mlp2_fused_eq_skeleton]; unfold cc3_linear_mlp2_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _
    isplitr
    swap; · iexact H7
    ipureintro
    refine (View.read_writes_full _ _ _ _ _).trans ?_
    sl_unfold_words
    repeat first | rw [View.readCov_full] | rw [View.readAt_full]
    simp only [hf0, hf1, hf2, hf3, hf4, hf5, hf6, hf7, hf8]
    try rfl
  iexists _
  isplitr
  swap; · iexact H8
  ipureintro
  refine (View.read_writes_full _ _ _ _ _).trans ?_
  sl_unfold_words
  repeat first | rw [View.readCov_full] | rw [View.readAt_full]
  simp only [hf0, hf1, hf2, hf3, hf4, hf5, hf6, hf7, hf8]
  try rfl

set_option maxHeartbeats 4000000 in
/-- The first point of a later output block clears the accumulator and adds one product. -/
theorem body3_first (c : Dev nD) (i : grid3.Coords) (arg3 : Memref sig .tc .vmem S1024x1024 .bf16) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S8x1x512 .f32) (harg6 : arg6.IsWhole) (arg7 : Memref sig .tc .vmem S8x1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole) (arg17 : Memref sig .tc .vmem S1024x1024 .f32) (harg17 : arg17.IsWhole) (arg18 : Memref sig .tc .vmem S1024x512 .bf16) (harg18 : arg18.IsWhole)
    (hc0 : c3a i) (hc1 : ¬ c3b i) (hc2 : ¬ c3c i)
    (x : Vec F S1024x1024 .bf16)    (w : Vec F S1024x1024 .f32)    (a : Vec F S1024x1024 .f32)
    (E : Set ℕ) (K : PUnit → sProp 𝕄) :
    iprop(owns (c : Thread nD τ) arg3 fullShare x
        ∗ owns (c : Thread nD τ) arg4 fullShare w
        ∗ owns (c : Thread nD τ) arg17 fullShare a
        ∗ (iprop(owns (c : Thread nD τ) arg3 fullShare x
            ∗ owns (c : Thread nD τ) arg4 fullShare w
            ∗ owns (c : Thread nD τ) arg17 fullShare (k3_pay3 k3_pay1 x w)) -∗ K ⟨⟩))
      ⊢ wp frame (wpE (defs₀ (F := F)) Variants.none c none) E (cc3_linear_mlp2_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3_linear_mlp2_fused_eq_skeleton]; unfold cc3_linear_mlp2_fused_skel
  unfold owns
  iintro ⟨⟨%f0, %hf0, H0⟩, ⟨%f1, %hf1, H1⟩, ⟨%f2, %hf2, H2⟩, Hk⟩
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _
  isplitr
  swap; · iexact H2
  ipureintro
  refine (View.read_writes_full _ _ _ _ _).trans ?_
  sl_unfold_words
  repeat first | rw [View.readCov_full] | rw [View.readAt_full]
  simp only [hf0, hf1, hf2]
  try rfl

set_option maxHeartbeats 4000000 in
/-- A middle point adds one product to the accumulator. -/
theorem body3_mid (c : Dev nD) (i : grid3.Coords) (arg3 : Memref sig .tc .vmem S1024x1024 .bf16) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S8x1x512 .f32) (harg6 : arg6.IsWhole) (arg7 : Memref sig .tc .vmem S8x1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole) (arg17 : Memref sig .tc .vmem S1024x1024 .f32) (harg17 : arg17.IsWhole) (arg18 : Memref sig .tc .vmem S1024x512 .bf16) (harg18 : arg18.IsWhole)
    (hc0 : ¬ c3a i) (hc1 : ¬ c3b i) (hc2 : ¬ c3c i)
    (x : Vec F S1024x1024 .bf16)    (w : Vec F S1024x1024 .f32)    (a : Vec F S1024x1024 .f32)
    (E : Set ℕ) (K : PUnit → sProp 𝕄) :
    iprop(owns (c : Thread nD τ) arg3 fullShare x
        ∗ owns (c : Thread nD τ) arg4 fullShare w
        ∗ owns (c : Thread nD τ) arg17 fullShare a
        ∗ (iprop(owns (c : Thread nD τ) arg3 fullShare x
            ∗ owns (c : Thread nD τ) arg4 fullShare w
            ∗ owns (c : Thread nD τ) arg17 fullShare (k3_pay3 a x w)) -∗ K ⟨⟩))
      ⊢ wp frame (wpE (defs₀ (F := F)) Variants.none c none) E (cc3_linear_mlp2_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3_linear_mlp2_fused_eq_skeleton]; unfold cc3_linear_mlp2_fused_skel
  unfold owns
  iintro ⟨⟨%f0, %hf0, H0⟩, ⟨%f1, %hf1, H1⟩, ⟨%f2, %hf2, H2⟩, Hk⟩
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _
  isplitr
  swap; · iexact H2
  ipureintro
  refine (View.read_writes_full _ _ _ _ _).trans ?_
  sl_unfold_words
  repeat first | rw [View.readCov_full] | rw [View.readAt_full]
  simp only [hf0, hf1, hf2]
  try rfl

set_option maxHeartbeats 4000000 in
/-- The last point of an output block adds one product and writes the three results. -/
theorem body3_last (c : Dev nD) (i : grid3.Coords) (arg3 : Memref sig .tc .vmem S1024x1024 .bf16) (harg3 : arg3.IsWhole) (arg4 : Memref sig .tc .vmem S1024x1024 .f32) (harg4 : arg4.IsWhole) (arg5 : Memref sig .tc .vmem S1024x512 .f32) (harg5 : arg5.IsWhole) (arg6 : Memref sig .tc .vmem S8x1x512 .f32) (harg6 : arg6.IsWhole) (arg7 : Memref sig .tc .vmem S8x1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole) (arg17 : Memref sig .tc .vmem S1024x1024 .f32) (harg17 : arg17.IsWhole) (arg18 : Memref sig .tc .vmem S1024x512 .bf16) (harg18 : arg18.IsWhole)
    (hc0 : ¬ c3a i) (hc1 : ¬ c3b i) (hc2 : c3c i)
    (x : Vec F S1024x1024 .bf16)    (w : Vec F S1024x1024 .f32)    (w2 : Vec F S1024x512 .f32)    (b2 : Vec F S1x1024 .f32)    (lb : Vec F S1x1024 .f32)    (bb : Vec F S1x1024 .f32)    (d14 : Vec F S1024x1024 .f32)    (d15 : Vec F S1024x1024 .f32)    (d16 : Vec F S1024x1024 .f32)    (a : Vec F S1024x1024 .f32)    (gb : Vec F S1024x512 .bf16)
    (E : Set ℕ) (K : PUnit → sProp 𝕄) :
    iprop(owns (c : Thread nD τ) arg3 fullShare x
        ∗ owns (c : Thread nD τ) arg4 fullShare w
        ∗ owns (c : Thread nD τ) arg8 fullShare w2
        ∗ owns (c : Thread nD τ) arg11 fullShare b2
        ∗ owns (c : Thread nD τ) arg12 fullShare lb
        ∗ owns (c : Thread nD τ) arg13 fullShare bb
        ∗ owns (c : Thread nD τ) arg14 fullShare d14
        ∗ owns (c : Thread nD τ) arg15 fullShare d15
        ∗ owns (c : Thread nD τ) arg16 fullShare d16
        ∗ owns (c : Thread nD τ) arg17 fullShare a
        ∗ owns (c : Thread nD τ) arg18 fullShare gb
        ∗ (iprop(owns (c : Thread nD τ) arg3 fullShare x
            ∗ owns (c : Thread nD τ) arg4 fullShare w
            ∗ owns (c : Thread nD τ) arg8 fullShare w2
            ∗ owns (c : Thread nD τ) arg11 fullShare b2
            ∗ owns (c : Thread nD τ) arg12 fullShare lb
            ∗ owns (c : Thread nD τ) arg13 fullShare bb
            ∗ owns (c : Thread nD τ) arg14 fullShare (k3_pay6 gb w2 b2 (k3_pay3 a x w) lb bb)
            ∗ owns (c : Thread nD τ) arg15 fullShare (k3_pay5 (k3_pay3 a x w) lb)
            ∗ owns (c : Thread nD τ) arg16 fullShare (k3_pay4 gb w2 b2)
            ∗ owns (c : Thread nD τ) arg17 fullShare (k3_pay3 a x w)
            ∗ owns (c : Thread nD τ) arg18 fullShare gb) -∗ K ⟨⟩))
      ⊢ wp frame (wpE (defs₀ (F := F)) Variants.none c none) E (cc3_linear_mlp2_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3_linear_mlp2_fused_eq_skeleton]; unfold cc3_linear_mlp2_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _
    isplitr
    swap; · iexact H6
    ipureintro
    refine (View.read_writes_full _ _ _ _ _).trans ?_
    sl_unfold_words
    repeat first | rw [View.readCov_full] | rw [View.readAt_full]
    simp only [hf0, hf1, hf2, hf3, hf4, hf5, hf6, hf7, hf8, hf9, hf10]
    try rfl
  isplitl [H7]
  · iexists _
    isplitr
    swap; · iexact H7
    ipureintro
    refine (View.read_writes_full _ _ _ _ _).trans ?_
    sl_unfold_words
    repeat first | rw [View.readCov_full] | rw [View.readAt_full]
    simp only [hf0, hf1, hf2, hf3, hf4, hf5, hf6, hf7, hf8, hf9, hf10]
    try rfl
  isplitl [H8]
  · iexists _
    isplitr
    swap; · iexact H8
    ipureintro
    refine (View.read_writes_full _ _ _ _ _).trans ?_
    sl_unfold_words
    repeat first | rw [View.readCov_full] | rw [View.readAt_full]
    simp only [hf0, hf1, hf2, hf3, hf4, hf5, hf6, hf7, hf8, hf9, hf10]
    try rfl
  isplitl [H9]
  · iexists _
    isplitr
    swap; · iexact H9
    ipureintro
    refine (View.read_writes_full _ _ _ _ _).trans ?_
    sl_unfold_words
    repeat first | rw [View.readCov_full] | rw [View.readAt_full]
    simp only [hf0, hf1, hf2, hf3, hf4, hf5, hf6, hf7, hf8, hf9, hf10]
    try rfl
  iexists _; isplitr; · ipureintro; exact hf10
  iexact H10

end Cert.KernelIdeal.Reg

end
-- ==== Proof.KI.Region3.lean ====
/- The two products' kernel over its grid: what its scratch holds from point to point, and the library's obligation at every point. -/
module

public import proofs.«01_k».proof.Proof.KI.Body3
public import proofs.«01_k».proof.Proof.Gen.KernelIdeal.Launch
public import Idealize.ShloMosaic.Lib.Pipeline.FrameBody
public import Idealize.ShloMosaic.Lib.WordCmp

@[expose] public section

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The grid point of number `n`. -/
def pt3 (n : ℕ) : Fin cfg3.N := ⟨n % 128, by rw [show cfg3.N = 128 from N_3]; omega⟩

theorem pt3_val (t : Fin cfg3.N) : pt3 t.val = t :=
  Fin.ext (Nat.mod_eq_of_lt (lt_of_lt_of_eq t.isLt (show cfg3.N = 128 from N_3)))

/-- The product accumulator after `n` points. -/
def acc3 (c : Dev nD) : ℕ → Vec F S1024x1024 .f32
  | 0 => k3_pay1
  | n + 1 => k3_pay3 (if n % 16 = 0 then k3_pay1 else acc3 c n) (iblk3 V c 0 (pt3 n)) (iblk3 V c 1 (pt3 n))

/-- The normalised hidden rows kept after `n` points. -/
def gb3 (c : Dev nD) : ℕ → Vec F S1024x512 .bf16
  | 0 => k3_pay2 (iblk3 V c 3 (pt3 0)) (iblk3 V c 4 (pt3 0)) (iblk3 V c 6 (pt3 0)) (iblk3 V c 7 (pt3 0)) (iblk3 V c 2 (pt3 0))
  | n + 1 => if n % 64 = 0 then k3_pay2 (iblk3 V c 3 (pt3 n)) (iblk3 V c 4 (pt3 n)) (iblk3 V c 6 (pt3 n)) (iblk3 V c 7 (pt3 n)) (iblk3 V c 2 (pt3 n)) else gb3 c n

theorem acc3_succ (c : Dev nD) (t : Fin cfg3.N) : acc3 V c (t.val + 1) =
    k3_pay3 (if t.val % 16 = 0 then k3_pay1 else acc3 V c t.val) (iblk3 V c 0 t) (iblk3 V c 1 t) := by
  rw [acc3, pt3_val]

theorem gb3_succ (c : Dev nD) (t : Fin cfg3.N) : gb3 V c (t.val + 1) =
    if t.val % 64 = 0 then k3_pay2 (iblk3 V c 3 t) (iblk3 V c 4 t) (iblk3 V c 6 t) (iblk3 V c 7 t) (iblk3 V c 2 t) else gb3 V c t.val := by
  rw [gb3, pt3_val]

/-- The scratch memrefs. -/
abbrev scM3_0 : Memref sig .tc .vmem S1024x1024 .f32 := Memref.whole cc3_scratch0
abbrev scM3_1 : Memref sig .tc .vmem S1024x512 .bf16 := Memref.whole cc3_scratch1

/-- The invariant between points: inside an output tile the accumulator, inside a row block the normalised rows. -/
def Phi3 (c : Dev nD) (n : ℕ) : sProp 𝕄 :=
  iprop(∃ d0 d1, ⌜(n % 16 ≠ 0 → d0 = acc3 V c n) ∧ (n % 64 ≠ 0 → d1 = gb3 V c n)⌝
    ∗ owns (c : Thread nD τ) scM3_0 fullShare d0 ∗ owns (c : Thread nD τ) scM3_1 fullShare d1
    ∗ Pipeline.scopedRestBut (Ix := Unit) (Name := ℕ) (U := UR sig nD τ) (Lvl := ℕ) (Val := Elt F) spec3 c [cc3_scratch0, cc3_scratch1])

/-- The region's proof data. -/
def dat3 (c : Dev nD) : Dat τ (Elt F) Unit ℕ (UR sig nD τ) ℕ cfg3 c where
  A w := V c (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => k3_pay6 (gb3 V c (t.val + 1)) (iblk3 V c 5 t) (iblk3 V c 8 t) (acc3 V c (t.val + 1)) (iblk3 V c 9 t) (iblk3 V c 10 t)
    | ⟨12, _⟩ => k3_pay5 (acc3 V c (t.val + 1)) (iblk3 V c 9 t)
    | ⟨13, _⟩ => k3_pay4 (gb3 V c (t.val + 1)) (iblk3 V c 5 t) (iblk3 V c 8 t)
  Φ t := Phi3 V c t.val
  q _ := fullShare
  owed _ := 0

theorem A_eq3 (c : Dev nD) (w : Fin cfg3.W) : (dat3 V c).A w = V c (Proc.devRef .tc (Pipeline.arrRef spec3 w)) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = k3_pay6 (gb3 V c (t.val + 1)) (iblk3 V c 5 t) (iblk3 V c 8 t) (acc3 V c (t.val + 1)) (iblk3 V c 9 t) (iblk3 V c 10 t) := by dsimp only [dat3]
theorem after3_12 (c : Dev nD) (t : Fin cfg3.N) : (dat3 V c).after 12 t = k3_pay5 (acc3 V c (t.val + 1)) (iblk3 V c 9 t) := by dsimp only [dat3]
theorem after3_13 (c : Dev nD) (t : Fin cfg3.N) : (dat3 V c).after 13 t = k3_pay4 (gb3 V c (t.val + 1)) (iblk3 V c 5 t) (iblk3 V c 8 t) := by dsimp only [dat3]

/-- An input's staging buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]) t d).trans
    (by unfold Dat.fetched Dat.blockOf iblk3; rw [A_eq3]; rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]) t d).trans
    (by unfold Dat.fetched Dat.blockOf iblk3; rw [A_eq3]; rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]) t d).trans
    (by unfold Dat.fetched Dat.blockOf iblk3; rw [A_eq3]; rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]) t d).trans
    (by unfold Dat.fetched Dat.blockOf iblk3; rw [A_eq3]; rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]) t d).trans
    (by unfold Dat.fetched Dat.blockOf iblk3; rw [A_eq3]; rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]) t d).trans
    (by unfold Dat.fetched Dat.blockOf iblk3; rw [A_eq3]; rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]) t d).trans
    (by unfold Dat.fetched Dat.blockOf iblk3; rw [A_eq3]; rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]) t d).trans
    (by unfold Dat.fetched Dat.blockOf iblk3; rw [A_eq3]; rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]) t d).trans
    (by unfold Dat.fetched Dat.blockOf iblk3; rw [A_eq3]; rfl)
theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A_eq3]) t d).trans
    (by unfold Dat.fetched Dat.blockOf iblk3; rw [A_eq3]; rfl)
theorem before3_10 (c : Dev nD) (t : Fin cfg3.N) (d) : (dat3 V c).before 10 t d = iblk3 V c 10 t :=
  ((dat3 V c).before_in_eq_fetched 10 rfl (fun _ => rfl) (fun _ _ _ => rfl) (fun t => by rw [after3_10]; unfold Dat.blockOf iblk3; rw [A_eq3]) t d).trans
    (by unfold Dat.fetched Dat.blockOf iblk3; rw [A_eq3]; rfl)

/-- The staging memrefs at a point. -/
abbrev ms3_0 (t : Fin cfg3.N) := win3_0.stage (cfg3.slots t 0)
abbrev ms3_1 (t : Fin cfg3.N) := win3_1.stage (cfg3.slots t 1)
abbrev ms3_2 (t : Fin cfg3.N) := win3_2.stage (cfg3.slots t 2)
abbrev ms3_3 (t : Fin cfg3.N) := win3_3.stage (cfg3.slots t 3)
abbrev ms3_4 (t : Fin cfg3.N) := win3_4.stage (cfg3.slots t 4)
abbrev ms3_5 (t : Fin cfg3.N) := win3_5.stage (cfg3.slots t 5)
abbrev ms3_6 (t : Fin cfg3.N) := win3_6.stage (cfg3.slots t 6)
abbrev ms3_7 (t : Fin cfg3.N) := win3_7.stage (cfg3.slots t 7)
abbrev ms3_8 (t : Fin cfg3.N) := win3_8.stage (cfg3.slots t 8)
abbrev ms3_9 (t : Fin cfg3.N) := win3_9.stage (cfg3.slots t 9)
abbrev ms3_10 (t : Fin cfg3.N) := win3_10.stage (cfg3.slots t 10)
abbrev ms3_11 (t : Fin cfg3.N) := win3_11.stage (cfg3.slots t 11)
abbrev ms3_12 (t : Fin cfg3.N) := win3_12.stage (cfg3.slots t 12)
abbrev ms3_13 (t : Fin cfg3.N) := win3_13.stage (cfg3.slots t 13)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d))
    ∗ (∃ d, owns (c : Thread nD τ) (ms3_13 t) fullShare ((dat3 V c).before 13 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t ∗ (dat3 V c).leavesExact 9 t ∗ (dat3 V c).leavesExact 10 t ∗ (dat3 V c).leavesExact 11 t ∗ (dat3 V c).leavesExact 12 t ∗ (dat3 V c).leavesExact 13 t)

/-- A live window's buffer is left at its contents. -/
theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem hc3a : ∀ t : Fin cfg3.N, c3a (grid3.coords t) ↔ t.val % 16 = 0 :=
  (fun t => by
    have ht : t.val < 128 := Nat.lt_of_lt_of_eq t.isLt N_3
    have e2 : (grid3.coords t 2).val = t.val / 1 % 16 := Pipeline.Grid.coords_val t 2 (by decide) rfl
    simp only [c3a, e2]
    word_cmp
   : ∀ t : Fin grid3.N, c3a (grid3.coords t) ↔ t.val % 16 = 0)

theorem hc3b : ∀ t : Fin cfg3.N, c3b (grid3.coords t) ↔ t.val % 64 = 0 :=
  (fun t => by
    have ht : t.val < 128 := Nat.lt_of_lt_of_eq t.isLt N_3
    have e1 : (grid3.coords t 1).val = t.val / 16 % 4 := Pipeline.Grid.coords_val t 1 (by decide) rfl
    have e2 : (grid3.coords t 2).val = t.val / 1 % 16 := Pipeline.Grid.coords_val t 2 (by decide) rfl
    simp only [c3b, e1, e2]
    word_cmp
   : ∀ t : Fin grid3.N, c3b (grid3.coords t) ↔ t.val % 64 = 0)

theorem hc3c : ∀ t : Fin cfg3.N, c3c (grid3.coords t) ↔ t.val % 16 = 15 :=
  (fun t => by
    have ht : t.val < 128 := Nat.lt_of_lt_of_eq t.isLt N_3
    have e0 : (grid3.coords t 0).val = t.val / 64 % 2 := Pipeline.Grid.coords_val t 0 (by decide) rfl
    have e1 : (grid3.coords t 1).val = t.val / 16 % 4 := Pipeline.Grid.coords_val t 1 (by decide) rfl
    have e2 : (grid3.coords t 2).val = t.val / 1 % 16 := Pipeline.Grid.coords_val t 2 (by decide) rfl
    simp only [c3c, k3_cond3, e0, e1, e2]
    word_cmp
   : ∀ t : Fin grid3.N, c3c (grid3.coords t) ↔ t.val % 16 = 15)

theorem idle3 : ∀ (t : Fin cfg3.N), t.val % 16 ≠ 15 → (cfg3.idle 11 (grid3.coords t) = true ∧ (cfg3.win 11).flush t = false)
    ∧ (cfg3.idle 12 (grid3.coords t) = true ∧ (cfg3.win 12).flush t = false) ∧ (cfg3.idle 13 (grid3.coords t) = true ∧ (cfg3.win 13).flush t = false) := by
  decide +kernel
theorem live3 : ∀ (t : Fin cfg3.N), t.val % 16 = 15 → cfg3.idle 11 (grid3.coords t) = false
    ∧ cfg3.idle 12 (grid3.coords t) = false ∧ cfg3.idle 13 (grid3.coords t) = false := by
  decide +kernel

set_option maxHeartbeats 8000000 in
/-- The body's triple at every point. -/
theorem sound3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).owesAt () t.succ = (dat3 V c).owesAt () t.castSucc from rfl]
  rw [show (dat3 V c).Φ t.succ = Phi3 V c (t.val + 1) from rfl, show (dat3 V c).Φ t.castSucc = Phi3 V c t.val from rfl]
  rw [leaves3 V c 0 t rfl, leaves3 V c 1 t rfl, leaves3 V c 2 t rfl, leaves3 V c 3 t rfl, leaves3 V c 4 t rfl, leaves3 V c 5 t rfl, leaves3 V c 6 t rfl, leaves3 V c 7 t rfl, leaves3 V c 8 t rfl, leaves3 V c 9 t rfl, leaves3 V c 10 t rfl, after3_0, after3_1, after3_2, after3_3, after3_4, after3_5, after3_6, after3_7, after3_8, after3_9, after3_10]
  unfold Phi3
  rw [acc3_succ, gb3_succ]
  by_cases h1 : t.val % 16 = 15
  · have h0 : t.val % 16 ≠ 0 := by omega
    have h2 : t.val % 64 ≠ 0 := by omega
    obtain ⟨l4, l5, l6⟩ := live3 t h1
    rw [leaves3 V c 11 t l4, leaves3 V c 12 t l5, leaves3 V c 13 t l6, after3_11, after3_12, after3_13, acc3_succ, gb3_succ, if_neg h0, if_neg h2]
    iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := hab.1 h0; obtain rfl := hab.2 h2
    iapply (body3_last c (grid3.coords t) (ms3_0 t) _ (ms3_1 t) _ (ms3_2 t) _ (ms3_3 t) _ (ms3_4 t) _ (ms3_5 t) _ (ms3_6 t) _ (ms3_7 t) _ (ms3_8 t) _ (ms3_9 t) _ (ms3_10 t) _ (ms3_11 t) _ (ms3_12 t) _ (ms3_13 t) _ scM3_0 _ scM3_1 _ (fun h => h0 ((hc3a t).mp h)) (fun h => h2 ((hc3b t).mp h)) ((hc3c t).mpr h1) (iblk3 V c 0 t) (iblk3 V c 1 t) (iblk3 V c 5 t) (iblk3 V c 8 t) (iblk3 V c 9 t) (iblk3 V c 10 t) _ _ _ (acc3 V c t.val) (gb3 V c t.val) Set.univ _)
    isplitl [H0]; · iexact H0
    isplitl [H1]; · iexact H1
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H5, H8, H9, H10, H11, H12, H13, HS0, HS1⟩
    isplitl [HS0 HS1 Hr]
    · iexists _; iexists _; isplitr
      · ipureintro; exact ⟨fun _ => rfl, fun _ => rfl⟩
      isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · obtain ⟨⟨i4, f4⟩, ⟨i5, f5⟩, ⟨i6, f6⟩⟩ := idle3 t h1
    rw [Dat.leavesExact_idle (dat3 V c) 11 t i4 f4, Dat.leavesExact_idle (dat3 V c) 12 t i5 f5, Dat.leavesExact_idle (dat3 V c) 13 t i6 f6]
    by_cases h0 : t.val % 16 = 0
    · rw [if_pos h0]
      by_cases h2 : t.val % 64 = 0
      · rw [if_pos h2]
        iintro ⟨⟨%a, %b, -, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply (body3_row c (grid3.coords t) (ms3_0 t) _ (ms3_1 t) _ (ms3_2 t) _ (ms3_3 t) _ (ms3_4 t) _ (ms3_5 t) _ (ms3_6 t) _ (ms3_7 t) _ (ms3_8 t) _ (ms3_9 t) _ (ms3_10 t) _ (ms3_11 t) _ (ms3_12 t) _ (ms3_13 t) _ scM3_0 _ scM3_1 _ ((hc3a t).mpr h0) ((hc3b t).mpr h2) (fun h => h1 ((hc3c t).mp h)) (iblk3 V c 0 t) (iblk3 V c 1 t) (iblk3 V c 2 t) (iblk3 V c 3 t) (iblk3 V c 4 t) (iblk3 V c 6 t) (iblk3 V c 7 t) _ _ Set.univ _)
        isplitl [H0]; · iexact H0
        isplitl [H1]; · iexact H1
        isplitl [H2]; · iexact H2
        isplitl [H3]; · iexact H3
        isplitl [H4]; · iexact H4
        isplitl [H6]; · iexact H6
        isplitl [H7]; · iexact H7
        isplitl [HS0]; · iexact HS0
        isplitl [HS1]; · iexact HS1
        iintro ⟨H0, H1, H2, H3, H4, H6, H7, HS0, HS1⟩
        isplitl [HS0 HS1 Hr]
        · iexists _; iexists _; isplitr
          · ipureintro; exact ⟨fun _ => rfl, fun _ => rfl⟩
          isplitl [HS0]; · iexact HS0
          isplitl [HS1]; · iexact HS1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        iexists _; iexact H13
      · rw [if_neg h2]
        iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        obtain rfl := hab.2 h2
        iapply (body3_first c (grid3.coords t) (ms3_0 t) _ (ms3_1 t) _ (ms3_2 t) _ (ms3_3 t) _ (ms3_4 t) _ (ms3_5 t) _ (ms3_6 t) _ (ms3_7 t) _ (ms3_8 t) _ (ms3_9 t) _ (ms3_10 t) _ (ms3_11 t) _ (ms3_12 t) _ (ms3_13 t) _ scM3_0 _ scM3_1 _ ((hc3a t).mpr h0) (fun h => h2 ((hc3b t).mp h)) (fun h => h1 ((hc3c t).mp h)) (iblk3 V c 0 t) (iblk3 V c 1 t) _ Set.univ _)
        isplitl [H0]; · iexact H0
        isplitl [H1]; · iexact H1
        isplitl [HS0]; · iexact HS0
        iintro ⟨H0, H1, HS0⟩
        isplitl [HS0 HS1 Hr]
        · iexists _; iexists _; isplitr
          · ipureintro; exact ⟨fun _ => rfl, fun _ => rfl⟩
          isplitl [HS0]; · iexact HS0
          isplitl [HS1]; · iexact HS1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        iexists _; iexact H13
    · have h2 : t.val % 64 ≠ 0 := by omega
      rw [if_neg h0, if_neg h2]
      iintro ⟨⟨%a, %b, %hab, HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      obtain rfl := hab.1 h0; obtain rfl := hab.2 h2
      iapply (body3_mid c (grid3.coords t) (ms3_0 t) _ (ms3_1 t) _ (ms3_2 t) _ (ms3_3 t) _ (ms3_4 t) _ (ms3_5 t) _ (ms3_6 t) _ (ms3_7 t) _ (ms3_8 t) _ (ms3_9 t) _ (ms3_10 t) _ (ms3_11 t) _ (ms3_12 t) _ (ms3_13 t) _ scM3_0 _ scM3_1 _ (fun h => h0 ((hc3a t).mp h)) (fun h => h2 ((hc3b t).mp h)) (fun h => h1 ((hc3c t).mp h)) (iblk3 V c 0 t) (iblk3 V c 1 t) (acc3 V c t.val) Set.univ _)
      isplitl [H0]; · iexact H0
      isplitl [H1]; · iexact H1
      isplitl [HS0]; · iexact HS0
      iintro ⟨H0, H1, HS0⟩
      isplitl [HS0 HS1 Hr]
      · iexists _; iexists _; isplitr
        · ipureintro; exact ⟨fun _ => rfl, fun _ => rfl⟩
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13

/-- The body table's row at point `t`'s slots is the body. -/
theorem defs₀_row3 (t : Fin cfg3.N) : defs₀ (F := F) .tc cfg3.body (cfg3.bodyArgs t (cfg3.slots t)) = bodyAt3 t := by
  unfold defs₀; rw [Defs.onTc_tc]

/-- The library's body obligation at every point. -/
theorem obl3 (c : Dev nD) : BodyObligation (dat3 (F := F) V c) (defs₀ (F := F)) Variants.none () Set.univ := fun t => by
  rw [bigSep_W3, bigSep_W3, defs₀_row3]
  exact triple_restated (sound3 V c t) rfl .rfl fun _ => .rfl

/-- What the launch hands the region is the invariant before the first point. -/
theorem hin3 (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = Phi3 V c 0 from rfl, scopedRest3_split]
  unfold Phi3
  simp only [owns_whole]
  iintro ⟨⟨⟨%f0, H0⟩, ⟨%f1, H1⟩⟩, Hr⟩
  iexists f0; iexists f1; isplitr
  · ipureintro; exact ⟨fun h => absurd rfl h, fun h => absurd rfl h⟩
  isplitl [H0]; · iexact H0
  isplitl [H1]; · iexact H1
  iexact Hr

/-- After the last point the invariant gives the scoped rest back. -/
theorem hout3 (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = Phi3 V c cfg3.N from rfl, scopedRest3_split]
  unfold Phi3
  simp only [owns_whole]
  iintro ⟨%d0, %d1, -, H0, H1, Hr⟩
  isplitl [H0 H1]
  · isplitl [H0]
    · iexists _; iexact H0
    iexists _; iexact H1
  iexact Hr

end Cert.KernelIdeal.Reg

end
-- ==== Proof.KI.Run.lean ====
/- The whole program's run: the four regions and the two stretches of host operations in turn, and what every unscoped buffer holds at the end. -/
module

public import proofs.«01_k».proof.Proof.KI.Region0
public import proofs.«01_k».proof.Proof.KI.Region1
public import proofs.«01_k».proof.Proof.KI.Region2
public import proofs.«01_k».proof.Proof.KI.Region3
public import proofs.«01_k».proof.Proof.Gen.KernelIdeal.Regions
public import Idealize.ShloMosaic.Lib.Pipeline.RegionArraysS

@[expose] public section

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion ucRefs)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What a core's buffers hold between the items -/

/-- At launch. -/
def W0 (c : Dev nD) : Valuation τ sig (Elt F) := fun b => m (c, b)
/-- After the selection's kernel. -/
def W1 (c : Dev nD) : Valuation τ sig (Elt F) := afterRegion (dat0 (W0 m) c) (W0 m c)
/-- After the pooling's kernel. -/
def W2 (c : Dev nD) : Valuation τ sig (Elt F) := afterRegion (dat1 (W1 m) c) (W1 m c)
/-- After the reshapes before the third kernel. -/
def W3 (c : Dev nD) : Valuation τ sig (Elt F) := StableHlo.after hostOps2 (W2 m c)
/-- After the first layer's kernel. -/
def W4 (c : Dev nD) : Valuation τ sig (Elt F) := afterRegion (dat2 (W3 m) c) (W3 m c)
/-- After the reshapes before the last kernel. -/
def W5 (c : Dev nD) : Valuation τ sig (Elt F) := StableHlo.after hostOps3 (W4 m c)
/-- After the two products' kernel. -/
def W6 (c : Dev nD) : Valuation τ sig (Elt F) := afterRegion (dat3 (W5 m) c) (W5 m c)

/-- The regions' proof data, each at the contents its region finds. -/
def pdats : (p : Fin 4) → (c : Dev nD) → Dat τ (Elt F) Unit ℕ (UR sig nD τ) ℕ (cfgs p) c := fun p => match p with
  | ⟨0, _⟩ => fun c => dat0 (W0 m) c
  | ⟨1, _⟩ => fun c => dat1 (W1 m) c
  | ⟨2, _⟩ => fun c => dat2 (W3 m) c
  | ⟨3, _⟩ => fun c => dat3 (W5 m) c

/-- The one level index on every core's counters. -/
def Lset : GSem nD τ sig → Finset Unit := fun g => if g.1.2 = .tc then {()} else ∅
abbrev lv0 : GSem nD τ sig → Unit → ℕ := fun _ _ => 0

/-- What rides beside the buffers: the core owes nothing. -/
abbrev R0w (c : Dev nD) : sProp 𝕄 := iprop(∃ Wd, owes (c : Thread nD τ) (0 : CellTallies nD τ sig Unit) Wd)

theorem cut (p : Fin 4) : Pipeline.LevelCut (pcfgs (F := F)) adm () Lset lv0 p (fun _ => (0 : CellTallies nD τ sig Unit)) (fun _ : Dev nD => (0 : ℕ)) where
  hι c w s := by unfold Lset; rw [if_pos rfl]; exact Finset.mem_singleton_self _
  hιb c w s := le_refl _
  hD c g i h := absurd h (lt_irrefl _)

theorem hS0 : Pipeline.arrRefs ((pcfgs (F := F)) 0).spec ⊆ ucRefs τ sig :=
  Pipeline.arrRefs_sub_ucRefs (τ := τ) spec0 (by decide)
theorem hin0' (V : Dev nD → Valuation τ sig (Elt F)) (c : Dev nD) :
    (iprop(Pipeline.scopedRest (Ix := Unit) (Name := ℕ) (U := UR sig nD τ) (Lvl := ℕ) (Val := Elt F) spec0 c ∗ emp) : sProp 𝕄) ⊢ (dat0 V c).Φ 0 := by
  refine BIBase.Entails.trans ?_ (hin0 V c)
  iintro ⟨H, -⟩
  iexact H

theorem hout0' (V : Dev nD → Valuation τ sig (Elt F)) (c : Dev nD) :
    (dat0 V c).Φ (Fin.last cfg0.N) ⊢ (iprop(Pipeline.scopedRest (Ix := Unit) (Name := ℕ) (U := UR sig nD τ) (Lvl := ℕ) (Val := Elt F) spec0 c ∗ emp) : sProp 𝕄) := by
  refine BIBase.Entails.trans (hout0 V c) ?_
  iintro H
  isplitl [H]; · iexact H
  iempintro

set_option backward.isDefEq.respectTransparency.types false in
/-- Region 0's record. -/
def reg0 : RegionSeg (pcfgs (F := F)) adm (pdats m) () defs₀ Variants.none Lset lv0 0 :=
  RegionSeg.ofHeldIn (pcfgs (F := F)) adm (pdats m) () defs₀ Variants.none Lset lv0 0 (fun _ => 0) (ucRefs τ sig)
    (fun _ => iprop(emp)) (fun _ => iprop(emp)) launch0.toP rfl (fun c => (obl0 (W0 m) c).loose) (fun _ _ => rfl) (fun _ => rfl)
    (fun c w => (dat0 (W0 m) c).share_full (fun _ => rfl) w)
    (hin0' (W0 m)) (hout0' (W0 m))
    (fun _ => 0) (cut 0) (fun _ => iprop(emp)) (W0 m) (fun c w => A_eq0 (W0 m) c w)

set_option backward.isDefEq.respectTransparency.types false in
theorem reg0_pre (c : Dev nD) : iprop(StableHlo.held (c : Thread nD τ) (ucRefs τ sig) (W0 m c) ∗ R0w (F := F) c) ⊢ (reg0 m).pre c := by
  unfold reg0
  refine BIBase.Entails.trans ?_ (RegionSeg.ofHeldIn_pre (pcs := pcfgs (F := F)) (a := adm) (p := 0) (S := ucRefs τ sig) (hS0 (F := F)) c)
  iintro ⟨H, HO⟩
  isplitl [H]; · iexact H
  isplitl [HO]; · iexact HO
  isplitl []; · iempintro
  iempintro

set_option backward.isDefEq.respectTransparency.types false in
theorem reg0_post (c : Dev nD) : (reg0 m).post c ⊢ iprop(StableHlo.held (c : Thread nD τ) (ucRefs τ sig) (W1 m c) ∗ R0w (F := F) c) := by
  unfold W1
  unfold reg0
  refine BIBase.Entails.trans (RegionSeg.ofHeldIn_post (pcs := pcfgs (F := F)) (a := adm) (p := 0) (S := ucRefs τ sig) (hS0 (F := F)) c) ?_
  iintro ⟨H, HO, -⟩
  isplitl [H]; · iexact H
  iexact HO

theorem hS1 : Pipeline.arrRefs ((pcfgs (F := F)) 1).spec ⊆ ucRefs τ sig :=
  Pipeline.arrRefs_sub_ucRefs (τ := τ) spec1 (by decide)
theorem hin1' (V : Dev nD → Valuation τ sig (Elt F)) (c : Dev nD) :
    (iprop(Pipeline.scopedRest (Ix := Unit) (Name := ℕ) (U := UR sig nD τ) (Lvl := ℕ) (Val := Elt F) spec1 c ∗ emp) : sProp 𝕄) ⊢ (dat1 V c).Φ 0 := by
  refine BIBase.Entails.trans ?_ (hin1 V c)
  iintro ⟨H, -⟩
  iexact H

theorem hout1' (V : Dev nD → Valuation τ sig (Elt F)) (c : Dev nD) :
    (dat1 V c).Φ (Fin.last cfg1.N) ⊢ (iprop(Pipeline.scopedRest (Ix := Unit) (Name := ℕ) (U := UR sig nD τ) (Lvl := ℕ) (Val := Elt F) spec1 c ∗ emp) : sProp 𝕄) := by
  refine BIBase.Entails.trans (hout1 V c) ?_
  iintro H
  isplitl [H]; · iexact H
  iempintro

set_option backward.isDefEq.respectTransparency.types false in
/-- Region 1's record. -/
def reg1 : RegionSeg (pcfgs (F := F)) adm (pdats m) () defs₀ Variants.none Lset lv0 1 :=
  RegionSeg.ofHeldIn (pcfgs (F := F)) adm (pdats m) () defs₀ Variants.none Lset lv0 1 (fun _ => 0) (ucRefs τ sig)
    (fun _ => iprop(emp)) (fun _ => iprop(emp)) launch1.toP rfl (fun c => (obl1 (W1 m) c).loose) (fun _ _ => rfl) (fun _ => rfl)
    (fun c w => (dat1 (W1 m) c).share_full (fun _ => rfl) w)
    (hin1' (W1 m)) (hout1' (W1 m))
    (fun _ => 0) (cut 1) (fun _ => iprop(emp)) (W1 m) (fun c w => A_eq1 (W1 m) c w)

set_option backward.isDefEq.respectTransparency.types false in
theorem reg1_pre (c : Dev nD) : iprop(StableHlo.held (c : Thread nD τ) (ucRefs τ sig) (W1 m c) ∗ R0w (F := F) c) ⊢ (reg1 m).pre c := by
  unfold reg1
  refine BIBase.Entails.trans ?_ (RegionSeg.ofHeldIn_pre (pcs := pcfgs (F := F)) (a := adm) (p := 1) (S := ucRefs τ sig) (hS1 (F := F)) c)
  iintro ⟨H, HO⟩
  isplitl [H]; · iexact H
  isplitl [HO]; · iexact HO
  isplitl []; · iempintro
  iempintro

set_option backward.isDefEq.respectTransparency.types false in
theorem reg1_post (c : Dev nD) : (reg1 m).post c ⊢ iprop(StableHlo.held (c : Thread nD τ) (ucRefs τ sig) (W2 m c) ∗ R0w (F := F) c) := by
  unfold W2
  unfold reg1
  refine BIBase.Entails.trans (RegionSeg.ofHeldIn_post (pcs := pcfgs (F := F)) (a := adm) (p := 1) (S := ucRefs τ sig) (hS1 (F := F)) c) ?_
  iintro ⟨H, HO, -⟩
  isplitl [H]; · iexact H
  iexact HO

theorem hS2 : Pipeline.arrRefs ((pcfgs (F := F)) 2).spec ⊆ ucRefs τ sig :=
  Pipeline.arrRefs_sub_ucRefs (τ := τ) spec2 (by decide)
theorem hin2' (V : Dev nD → Valuation τ sig (Elt F)) (c : Dev nD) :
    (iprop(Pipeline.scopedRest (Ix := Unit) (Name := ℕ) (U := UR sig nD τ) (Lvl := ℕ) (Val := Elt F) spec2 c ∗ emp) : sProp 𝕄) ⊢ (dat2 V c).Φ 0 := by
  rw [show (dat2 V c).Φ 0 = Phi2 (F := F) c 0 from rfl]
  unfold Phi2
  iintro ⟨H, -⟩
  iexact H

theorem hout2' (V : Dev nD → Valuation τ sig (Elt F)) (c : Dev nD) :
    (dat2 V c).Φ (Fin.last cfg2.N) ⊢ (iprop(Pipeline.scopedRest (Ix := Unit) (Name := ℕ) (U := UR sig nD τ) (Lvl := ℕ) (Val := Elt F) spec2 c ∗ emp) : sProp 𝕄) := by
  rw [show (dat2 V c).Φ (Fin.last cfg2.N) = Phi2 (F := F) c cfg2.N from rfl]
  unfold Phi2
  iintro H
  isplitl [H]; · iexact H
  iempintro

set_option backward.isDefEq.respectTransparency.types false in
/-- Region 2's record. -/
def reg2 : RegionSeg (pcfgs (F := F)) adm (pdats m) () defs₀ Variants.none Lset lv0 2 :=
  RegionSeg.ofHeldIn (pcfgs (F := F)) adm (pdats m) () defs₀ Variants.none Lset lv0 2 (fun _ => 0) (ucRefs τ sig)
    (fun _ => iprop(emp)) (fun _ => iprop(emp)) launch2.toP rfl (fun c => (obl2 (W3 m) c).loose) (fun _ _ => rfl) (fun _ => rfl)
    (fun c w => (dat2 (W3 m) c).share_full (fun _ => rfl) w)
    (hin2' (W3 m)) (hout2' (W3 m))
    (fun _ => 0) (cut 2) (fun _ => iprop(emp)) (W3 m) (fun c w => A_eq2 (W3 m) c w)

set_option backward.isDefEq.respectTransparency.types false in
theorem reg2_pre (c : Dev nD) : iprop(StableHlo.held (c : Thread nD τ) (ucRefs τ sig) (W3 m c) ∗ R0w (F := F) c) ⊢ (reg2 m).pre c := by
  unfold reg2
  refine BIBase.Entails.trans ?_ (RegionSeg.ofHeldIn_pre (pcs := pcfgs (F := F)) (a := adm) (p := 2) (S := ucRefs τ sig) (hS2 (F := F)) c)
  iintro ⟨H, HO⟩
  isplitl [H]; · iexact H
  isplitl [HO]; · iexact HO
  isplitl []; · iempintro
  iempintro

set_option backward.isDefEq.respectTransparency.types false in
theorem reg2_post (c : Dev nD) : (reg2 m).post c ⊢ iprop(StableHlo.held (c : Thread nD τ) (ucRefs τ sig) (W4 m c) ∗ R0w (F := F) c) := by
  unfold W4
  unfold reg2
  refine BIBase.Entails.trans (RegionSeg.ofHeldIn_post (pcs := pcfgs (F := F)) (a := adm) (p := 2) (S := ucRefs τ sig) (hS2 (F := F)) c) ?_
  iintro ⟨H, HO, -⟩
  isplitl [H]; · iexact H
  iexact HO

theorem hS3 : Pipeline.arrRefs ((pcfgs (F := F)) 3).spec ⊆ ucRefs τ sig :=
  Pipeline.arrRefs_sub_ucRefs (τ := τ) spec3 (by decide)
theorem hin3' (V : Dev nD → Valuation τ sig (Elt F)) (c : Dev nD) :
    (iprop(Pipeline.scopedRest (Ix := Unit) (Name := ℕ) (U := UR sig nD τ) (Lvl := ℕ) (Val := Elt F) spec3 c ∗ emp) : sProp 𝕄) ⊢ (dat3 V c).Φ 0 := by
  refine BIBase.Entails.trans ?_ (hin3 V c)
  iintro ⟨H, -⟩
  iexact H

theorem hout3' (V : Dev nD → Valuation τ sig (Elt F)) (c : Dev nD) :
    (dat3 V c).Φ (Fin.last cfg3.N) ⊢ (iprop(Pipeline.scopedRest (Ix := Unit) (Name := ℕ) (U := UR sig nD τ) (Lvl := ℕ) (Val := Elt F) spec3 c ∗ emp) : sProp 𝕄) := by
  refine BIBase.Entails.trans (hout3 V c) ?_
  iintro H
  isplitl [H]; · iexact H
  iempintro

set_option backward.isDefEq.respectTransparency.types false in
/-- Region 3's record. -/
def reg3 : RegionSeg (pcfgs (F := F)) adm (pdats m) () defs₀ Variants.none Lset lv0 3 :=
  RegionSeg.ofHeldIn (pcfgs (F := F)) adm (pdats m) () defs₀ Variants.none Lset lv0 3 (fun _ => 0) (ucRefs τ sig)
    (fun _ => iprop(emp)) (fun _ => iprop(emp)) launch3.toP rfl (fun c => (obl3 (W5 m) c).loose) (fun _ _ => rfl) (fun _ => rfl)
    (fun c w => (dat3 (W5 m) c).share_full (fun _ => rfl) w)
    (hin3' (W5 m)) (hout3' (W5 m))
    (fun _ => 0) (cut 3) (fun _ => iprop(emp)) (W5 m) (fun c w => A_eq3 (W5 m) c w)

set_option backward.isDefEq.respectTransparency.types false in
theorem reg3_pre (c : Dev nD) : iprop(StableHlo.held (c : Thread nD τ) (ucRefs τ sig) (W5 m c) ∗ R0w (F := F) c) ⊢ (reg3 m).pre c := by
  unfold reg3
  refine BIBase.Entails.trans ?_ (RegionSeg.ofHeldIn_pre (pcs := pcfgs (F := F)) (a := adm) (p := 3) (S := ucRefs τ sig) (hS3 (F := F)) c)
  iintro ⟨H, HO⟩
  isplitl [H]; · iexact H
  isplitl [HO]; · iexact HO
  isplitl []; · iempintro
  iempintro

set_option backward.isDefEq.respectTransparency.types false in
theorem reg3_post (c : Dev nD) : (reg3 m).post c ⊢ iprop(StableHlo.held (c : Thread nD τ) (ucRefs τ sig) (W6 m c) ∗ R0w (F := F) c) := by
  unfold W6
  unfold reg3
  refine BIBase.Entails.trans (RegionSeg.ofHeldIn_post (pcs := pcfgs (F := F)) (a := adm) (p := 3) (S := ucRefs τ sig) (hS3 (F := F)) c) ?_
  iintro ⟨H, HO, -⟩
  isplitl [H]; · iexact H
  iexact HO

/-- Host stretch `hostOps2` over the unscoped buffers. -/
def hseg2 : HostSeg (Ix := Unit) (Name := ℕ) (U := UR sig nD τ) (Lvl := ℕ) (pcfgs (F := F)) defs₀ Variants.none Lset lv0 :=
  HostSeg.ofOps _ _ _ _ _ (ucRefs τ sig) hostOps2
    (fun op h => Pipeline.sub_ucRefs op ((List.forall_iff_forall_mem.mp hostOps2_sub) op h))
    (fun op h => (List.forall_iff_forall_mem.mp hostOps2_fresh) op h) (W2 m) (R0w (F := F))

/-- Host stretch `hostOps3` over the unscoped buffers. -/
def hseg3 : HostSeg (Ix := Unit) (Name := ℕ) (U := UR sig nD τ) (Lvl := ℕ) (pcfgs (F := F)) defs₀ Variants.none Lset lv0 :=
  HostSeg.ofOps _ _ _ _ _ (ucRefs τ sig) hostOps3
    (fun op h => Pipeline.sub_ucRefs op ((List.forall_iff_forall_mem.mp hostOps3_sub) op h))
    (fun op h => (List.forall_iff_forall_mem.mp hostOps3_fresh) op h) (W4 m) (R0w (F := F))

/-- The program's items on a core. -/
abbrev items (_ : Dev nD) : List (Seg (pcfgs (F := F)) adm (pdats m) () defs₀ Variants.none Lset lv0) :=
  [.region (reg0 m), .region (reg1 m), .host (hseg2 m), .region (reg2 m), .host (hseg3 m), .region (reg3 m)]

set_option backward.isDefEq.respectTransparency.types false in
/-- From any memory with every counter at zero the program runs to its end on every fair schedule; every unscoped buffer then holds
    what the chain of contents says, and every counter is zero. -/
theorem run_all (ρ : Dev nD → PrngReg) :
    θ_run defs (onTc (τ := τ) (main (F := F))) ⟨m, fun _ => 0, ρ⟩ (fun r =>
      (∀ c : Dev nD, ∀ b ∈ ucRefs τ sig, r.2.mem (c, b) = W6 m c b) ∧ r.2.sem = fun _ => 0) := by
  refine Pipeline.θ_run_regions_kit_dev_sems (pcfgs (F := F)) adm (pdats m) () cellOf_inj (emb₁ : Emb (UR sig nD τ) 𝕄) defs₀ Variants.none Lset lv0 m ρ main
    (items m)
    (fun c Q => by
      rewrite [main_chain c, Seg.run_eq_chain,
        show (items m c).map Seg.prog = [
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Seg.pipes_host, Seg.pipes_region, Seg.pipes_nil]; decide) (fun _ => 0)
    (fun g hg => by unfold Lset; rw [if_neg hg]) (fun _ => iprop(emp))
    (initOf (Pipeline.cells cfgs cellOf_inj) (Pipeline.launchToks cfgs cellOf_inj))
    (by
      iintro Hu; imodintro
      isplitl [Hu]; · iapply (show (ownU (initOf (Pipeline.cells cfgs cellOf_inj) (Pipeline.launchToks cfgs cellOf_inj) : UR sig nD τ) : sProp 𝕄) ⊢ BI.own ((emb₁ : Emb (UR sig nD τ) 𝕄) (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W0 m c) ∗ R0w (F := F) c))
    (Tₙ := fun c => StableHlo.held (c : Thread nD τ) (ucRefs τ sig) (W6 m c))
    (hch := fun c => ⟨reg0_pre m c, (reg0_post m c).trans (reg1_pre m c), reg1_post m c, reg2_pre m c, reg2_post m c, reg3_pre m c, reg3_post m c⟩)
    (hinit := ?_) (QY := fun c s => ∀ b ∈ ucRefs τ sig, s.mem (c, b) = W6 m c b)
    (hfin := fun c s' => ?_) (hQ := fun _ h hz => ⟨h, funext fun g => hz g (.inr (regions_no_unscoped g.2))⟩)
  · refine Pipeline.initEach Lset lv0 fun c => ?_
    rw [show unscopedBufs c (fun b => m ((c : Thread nD τ).loc b)) = StableHlo.held (c : Thread nD τ) (ucRefs τ sig) (W0 m c) from
      Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (W6 m c) s') $$ [Hh HSI]
    · isplitl [Hh] <;> iassumption
    icases Hr with ⟨%h, HSI⟩
    imodintro
    isplitr
    · ipureintro
      exact h
    · iexact HSI

end Cert.KernelIdeal.Reg

end
-- ==== Proof.KI.Frame.lean ====
/- Every argument ends as launched: no region has it as an output and no host operation writes it. -/
module

public import proofs.«01_k».proof.Proof.KI.Run
public import Idealize.ShloMosaic.Lib.StableHlo.RunHlo

@[expose] public section

set_option maxRecDepth 16384

noncomputable section

namespace Cert.KernelIdeal.Reg

open Idealize.ShloMosaic Idealize.ShloMosaic.TcCoe
open Idealize.SL Idealize.SL.Sem
open Idealize.ShloMosaic.Pipeline (Dat afterRegion ucRefs afterRegion_keeps arrRef)
open Cert.KernelIdeal Cert.KernelIdeal.Gen

variable {F : FTy → Type} [FloatOps F]
variable (m : (ℓ : Loc nD τ sig) → Buf (Elt F) ℓ)

/-- A buffer that is no output of the first kernel is as launched after it. -/
theorem W1_keep (c : Dev nD) (r : Ref sig .tc) (h : ∀ w, arrRef spec0 w = r → (cfg0.win w).isOut = false) :
    W1 m c (Proc.devRef .tc r) = m ((c : Thread nD τ).loc r) :=
  afterRegion_keeps (dat0 (W0 m) c) (W0 m c) launch0.win.arr_inj (A_eq0 (W0 m) c) r h

/-- A buffer that is no output of the second kernel keeps through it. -/
theorem W2_keep (c : Dev nD) (r : Ref sig .tc) (h : ∀ w, arrRef spec1 w = r → (cfg1.win w).isOut = false) :
    W2 m c (Proc.devRef .tc r) = W1 m c (Proc.devRef .tc r) :=
  afterRegion_keeps (dat1 (W1 m) c) (W1 m c) launch1.win.arr_inj (A_eq1 (W1 m) c) r h

/-- A buffer none of the first reshapes writes keeps through them. -/
theorem W3_keep (c : Dev nD) (r : Ref sig .tc) (h : r ∉ hostOps2_W) :
    W3 m c (Proc.devRef .tc r) = W2 m c (Proc.devRef .tc r) :=
  StableHlo.after_of_writes_sub hostOps2 _ hostOps2_writes h

/-- A buffer that is no output of the third kernel keeps through it. -/
theorem W4_keep (c : Dev nD) (r : Ref sig .tc) (h : ∀ w, arrRef spec2 w = r → (cfg2.win w).isOut = false) :
    W4 m c (Proc.devRef .tc r) = W3 m c (Proc.devRef .tc r) :=
  afterRegion_keeps (dat2 (W3 m) c) (W3 m c) launch2.win.arr_inj (A_eq2 (W3 m) c) r h

/-- A buffer none of the second reshapes writes keeps through them. -/
theorem W5_keep (c : Dev nD) (r : Ref sig .tc) (h : r ∉ hostOps3_W) :
    W5 m c (Proc.devRef .tc r) = W4 m c (Proc.devRef .tc r) :=
  StableHlo.after_of_writes_sub hostOps3 _ hostOps3_writes h

/-- A buffer that is no output of the last kernel keeps through it. -/
theorem W6_keep (c : Dev nD) (r : Ref sig .tc) (h : ∀ w, arrRef spec3 w = r → (cfg3.win w).isOut = false) :
    W6 m c (Proc.devRef .tc r) = W5 m c (Proc.devRef .tc r) :=
  afterRegion_keeps (dat3 (W5 m) c) (W5 m c) launch3.win.arr_inj (A_eq3 (W5 m) c) r h

/-- The launch's contents at the buffers the last kernel finds untouched. -/
theorem W5_launch (c : Dev nD) (r : Ref sig .tc)
    (h0 : ∀ w, arrRef spec0 w = r → (cfg0.win w).isOut = false) (h1 : ∀ w, arrRef spec1 w = r → (cfg1.win w).isOut = false)
    (h2 : r ∉ hostOps2_W) (h3 : ∀ w, arrRef spec2 w = r → (cfg2.win w).isOut = false) (h4 : r ∉ hostOps3_W) :
    W5 m c (Proc.devRef .tc r) = m ((c : Thread nD τ).loc r) :=
  (W5_keep m c r h4).trans <| (W4_keep m c r h3).trans <| (W3_keep m c r h2).trans <| (W2_keep m c r h1).trans (W1_keep m c r h0)

theorem W5_arg0 (c : Dev nD) : W5 m c (Proc.devRef .tc main_arg0) = m ((c : Thread nD τ).loc main_arg0) :=
  W5_launch m c main_arg0 (by decide) (by decide) (by decide) (by decide) (by decide)
theorem W5_arg1 (c : Dev nD) : W5 m c (Proc.devRef .tc main_arg1) = m ((c : Thread nD τ).loc main_arg1) :=
  W5_launch m c main_arg1 (by decide) (by decide) (by decide) (by decide) (by decide)
theorem W5_arg2 (c : Dev nD) : W5 m c (Proc.devRef .tc main_arg2) = m ((c : Thread nD τ).loc main_arg2) :=
  W5_launch m c main_arg2 (by decide) (by decide) (by decide) (by decide) (by decide)
theorem W5_arg3 (c : Dev nD) : W5 m c (Proc.devRef .tc main_arg3) = m ((c : Thread nD τ).loc main_arg3) :=
  W5_launch m c main_arg3 (by decide) (by decide) (by decide) (by decide) (by decide)
theorem W5_arg4 (c : Dev nD) : W5 m c (Proc.devRef .tc main_arg4) = m ((c : Thread nD τ).loc main_arg4) :=
  W5_launch m c main_arg4 (by decide) (by decide) (by decide) (by decide) (by decide)
theorem W5_arg5 (c : Dev nD) : W5 m c (Proc.devRef .tc main_arg5) = m ((c : Thread nD τ).loc main_arg5) :=
  W5_launch m c main_arg5 (by decide) (by decide) (by decide) (by decide) (by decide)
theorem W5_arg6 (c : Dev nD) : W5 m c (Proc.devRef .tc main_arg6) = m ((c : Thread nD τ).loc main_arg6) :=
  W5_launch m c main_arg6 (by decide) (by decide) (by decide) (by decide) (by decide)
theorem W5_arg7 (c : Dev nD) : W5 m c (Proc.devRef .tc main_arg7) = m ((c : Thread nD τ).loc main_arg7) :=
  W5_launch m c main_arg7 (by decide) (by decide) (by decide) (by decide) (by decide)
theorem W5_arg8 (c : Dev nD) : W5 m c (Proc.devRef .tc main_arg8) = m ((c : Thread nD τ).loc main_arg8) :=
  W5_launch m c main_arg8 (by decide) (by decide) (by decide) (by decide) (by decide)
theorem W5_arg9 (c : Dev nD) : W5 m c (Proc.devRef .tc main_arg9) = m ((c : Thread nD τ).loc main_arg9) :=
  W5_launch m c main_arg9 (by decide) (by decide) (by decide) (by decide) (by decide)
theorem W5_arg10 (c : Dev nD) : W5 m c (Proc.devRef .tc main_arg10) = m ((c : Thread nD τ).loc main_arg10) :=
  W5_launch m c main_arg10 (by decide) (by decide) (by decide) (by decide) (by decide)
theorem W5_arg11 (c : Dev nD) : W5 m c (Proc.devRef .tc main_arg11) = m ((c : Thread nD τ).loc main_arg11) :=
  W5_launch m c main_arg11 (by decide) (by decide) (by decide) (by decide) (by decide)
theorem W5_arg12 (c : Dev nD) : W5 m c (Proc.devRef .tc main_arg12) = m ((c : Thread nD τ).loc main_arg12) :=
  W5_launch m c main_arg12 (by decide) (by decide) (by decide) (by decide) (by decide)

/-- What the frame claim says of one final memory. -/
def Kept (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

/-- An unscoped buffer among those the run accounts for. -/
theorem mem_uc (r : Ref sig .tc) (h : (Proc.devRef .tc r : DevRef τ sig).isScoped = false) : (Proc.devRef .tc r : DevRef τ sig) ∈ ucRefs τ sig :=
  Finset.mem_filter.mpr ⟨StableHlo.devRef_mem_tcRefs r, by rw [h]; exact Bool.false_ne_true⟩

/-- The final contents the run leaves have every argument as launched. -/
theorem kept_of (s : MemSt nD τ sig (Elt F)) (h : ∀ c : Dev nD, ∀ b ∈ ucRefs τ sig, s.mem (c, b) = W6 m c b) : Kept m s := fun c =>
  ⟨(h c _ (mem_uc main_arg0 rfl)).trans ((W6_keep m c main_arg0 (by decide)).trans (W5_arg0 m c)),
   (h c _ (mem_uc main_arg1 rfl)).trans ((W6_keep m c main_arg1 (by decide)).trans (W5_arg1 m c)),
   (h c _ (mem_uc main_arg2 rfl)).trans ((W6_keep m c main_arg2 (by decide)).trans (W5_arg2 m c)),
   (h c _ (mem_uc main_arg3 rfl)).trans ((W6_keep m c main_arg3 (by decide)).trans (W5_arg3 m c)),
   (h c _ (mem_uc main_arg4 rfl)).trans ((W6_keep m c main_arg4 (by decide)).trans (W5_arg4 m c)),
   (h c _ (mem_uc main_arg5 rfl)).trans ((W6_keep m c main_arg5 (by decide)).trans (W5_arg5 m c)),
   (h c _ (mem_uc main_arg6 rfl)).trans ((W6_keep m c main_arg6 (by decide)).trans (W5_arg6 m c)),
   (h c _ (mem_uc main_arg7 rfl)).trans ((W6_keep m c main_arg7 (by decide)).trans (W5_arg7 m c)),
   (h c _ (mem_uc main_arg8 rfl)).trans ((W6_keep m c main_arg8 (by decide)).trans (W5_arg8 m c)),
   (h c _ (mem_uc main_arg9 rfl)).trans ((W6_keep m c main_arg9 (by decide)).trans (W5_arg9 m c)),
   (h c _ (mem_uc main_arg10 rfl)).trans ((W6_keep m c main_arg10 (by decide)).trans (W5_arg10 m c)),
   (h c _ (mem_uc main_arg11 rfl)).trans ((W6_keep m c main_arg11 (by decide)).trans (W5_arg11 m c)),
   (h c _ (mem_uc main_arg12 rfl)).trans ((W6_keep m c main_arg12 (by decide)).trans (W5_arg12 m c))⟩

/-- The program runs to its end, its arguments as launched and its counters at zero. -/
theorem frame (ρ : Dev nD → PrngReg) :
    θ_run defs (onTc (τ := τ) (main (F := F))) ⟨m, fun _ => 0, ρ⟩ (fun r => Kept m r.2 ∧ r.2.sem = fun _ => 0) :=
  θ_run_mono (run_all m ρ) (fun _ h => ⟨kept_of m _ h.1, h.2⟩)

end Cert.KernelIdeal.Reg

end
-- ==== Proof.KB.Frame.lean ====
/- The program over words keeps its arguments: its text is the other program's, whose run is proved at any float values. -/
module

public import proofs.«01_k».proof.Proof.KB.Defs0
public import proofs.«01_k».proof.Proof.KI.Frame

@[expose] public section

set_option maxRecDepth 65536
set_option maxHeartbeats 0

namespace Cert.Same

open Idealize.ShloMosaic Idealize.SL.Sem

attribute [local instance] Cert.Kernel.Gen.facts Cert.KernelIdeal.Gen.facts

variable {F : FTy → Type} [FloatOps F]

/-- The two programs define the same kernels and pipelines. -/
theorem defs_eq : (@Cert.Kernel.defs F _ _) = (@Cert.KernelIdeal.defs F _ _) := by
  unfold Cert.Kernel.defs Cert.KernelIdeal.defs
  rw [defs0_eq]
  rfl

/-- The two programs' main functions are one. -/
theorem main_eq : (@Cert.Kernel.main F _) = (@Cert.KernelIdeal.main F _) := rfl

/-- The program over words runs to its end, its arguments as launched and its counters at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => Cert.KernelIdeal.Reg.Kept (F := F) m r.2 ∧ r.2.sem = fun _ => 0) := by
  rw [defs_eq, main_eq]
  exact Cert.KernelIdeal.Reg.frame m ρ

end Cert.Same
-- ==== Proof.V.Common.lean ====
/- Sums and blocks used by every value argument. -/
module

public import proofs.«01_k».proof.Proof.KI.Frame
public import Idealize.ShloMosaic.Lib.MatmulPlain
public import Idealize.ShloMosaic.Lib.ValueIdx
public import Idealize.ShloMosaic.Lib.ValueIdxCoords
public import Idealize.ShloMosaic.Lib.StableHlo.RunHlo

@[expose] public section

noncomputable section

namespace Cert.KernelIdeal.Val

open Idealize.ShloMosaic Idealize.ShloMosaic.ValueIdx

/-- A sum over blocks of equal length is the sum over the whole. -/
theorem sum_blocks {M : Type*} [AddCommMonoid M] (f : ℕ → M) (n a : ℕ) :
    ∑ k ∈ Finset.range a, ∑ l ∈ Finset.range n, f (k * n + l) = ∑ j ∈ Finset.range (a * n), f j := by
  induction a with
  | zero => simp
  | succ a ih => rw [Finset.sum_range_succ, ih, Nat.succ_mul, Finset.sum_range_add]

/-- A sum over the indices of an axis is the sum over the numbers below its extent. -/
theorem sum_fin_range {M : Type*} [AddCommMonoid M] (f : ℕ → M) (n : ℕ) :
    ∑ l : Fin n, f l.val = ∑ l ∈ Finset.range n, f l := (Finset.sum_range f).symm

/-- A matrix read at two numbers: zero outside. -/
def rd {A B : ℕ} {φ : FTy} (X : FVec Ideal ⟨2, ![A, B]⟩ φ) (r k : ℕ) : EReal :=
  if h : r < A ∧ k < B then X (ix2 ⟨r, h.1⟩ ⟨k, h.2⟩) else 0

theorem rd_ix2 {A B : ℕ} {φ : FTy} (X : FVec Ideal ⟨2, ![A, B]⟩ φ) (r : Fin A) (k : Fin B) : rd X r.val k.val = X (ix2 r k) := by
  unfold rd; rw [dif_pos ⟨r.isLt, k.isLt⟩]

theorem rd_eq {A B : ℕ} {φ : FTy} (X : FVec Ideal ⟨2, ![A, B]⟩ φ) (i : (⟨2, ![A, B]⟩ : Shape).Idx) (r k : ℕ) (h0 : (i 0).val = r) (h1 : (i 1).val = k) :
    X i = rd X r k := by
  subst h0; subst h1
  refine Eq.trans ?_ (rd_ix2 X (i 0) (i 1)).symm
  congr 1
  funext a
  match a with
  | ⟨0, _⟩ => rfl
  | ⟨1, _⟩ => rfl

end Cert.KernelIdeal.Val

end
-- ==== Proof.V.Lin.lean ====
/- The large product: what the last kernel's second result holds, over the arrays the kernel finds. -/
module

public import proofs.«01_k».proof.Proof.V.Common
public import Idealize.ShloMosaic.Lib.Pipeline.Value

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg

variable (V : Dev nD → Valuation τ sig (Elt Ideal))

theorem ix3_0w : ∀ t : Fin cfg3.N, win3_0.index t (0 : Fin 2) = t.val / 64 ∧ win3_0.index t (1 : Fin 2) = t.val % 16 :=
  (by decide +kernel : ∀ t : Fin grid3.N, _)
theorem ix3_1w : ∀ t : Fin cfg3.N, win3_1.index t (0 : Fin 2) = t.val / 16 % 4 ∧ win3_1.index t (1 : Fin 2) = t.val % 16 :=
  (by decide +kernel : ∀ t : Fin grid3.N, _)
theorem ix3_9w : ∀ t : Fin cfg3.N, win3_9.index t (0 : Fin 2) = 0 ∧ win3_9.index t (1 : Fin 2) = t.val / 16 % 4 :=
  (by decide +kernel : ∀ t : Fin grid3.N, _)
theorem ix3_12w : ∀ t : Fin cfg3.N, win3_12.index t (0 : Fin 2) = t.val / 64 ∧ win3_12.index t (1 : Fin 2) = t.val / 16 % 4 :=
  (by decide +kernel : ∀ t : Fin grid3.N, _)
theorem flush3_12w : ∀ t : Fin cfg3.N, (cfg3.win 12).flush t = true → t.val % 16 = 15 :=
  (by decide +kernel : ∀ t : Fin grid3.N, _)
theorem flush3_12i : ∀ t : Fin cfg3.N, t.val % 16 = 15 → (cfg3.win 12).flush t = true :=
  (by decide +kernel : ∀ t : Fin grid3.N, _)

theorem lt128 (t : Fin cfg3.N) : t.val < 128 := lt_of_lt_of_eq t.isLt N_3

/-- The left operand's block at a point, read off its array. -/
theorem blk3_0 (c : Dev nD) (t : Fin cfg3.N) (p k : Fin 1024) :
    iblk3 V c 0 t (ix2 p k) = rd (A := 2048) (B := 16384) (φ := .bf16) (V c main_v0_2) (t.val / 64 * 1024 + p.val) (t.val % 16 * 1024 + k.val) := by
  obtain ⟨e0, e1⟩ := ix3_0w t
  refine rd_eq (A := 2048) (B := 16384) (φ := .bf16) (V c main_v0_2) (((cfg3.win 0).blk t).view.emb (ix2 p k)) _ _ ?_ ?_
  · show win3_0.index t (0 : Fin 2) * 1024 + 1 * p.val = _
    omega
  · show win3_0.index t (1 : Fin 2) * 1024 + 1 * k.val = _
    omega

/-- The right operand's block at a point. -/
theorem blk3_1 (c : Dev nD) (t : Fin cfg3.N) (q k : Fin 1024) :
    iblk3 V c 1 t (ix2 q k) = rd (A := 4096) (B := 16384) (φ := .f32) (V c main_arg2) (t.val / 16 % 4 * 1024 + q.val) (t.val % 16 * 1024 + k.val) := by
  obtain ⟨e0, e1⟩ := ix3_1w t
  refine rd_eq (A := 4096) (B := 16384) (φ := .f32) (V c main_arg2) (((cfg3.win 1).blk t).view.emb (ix2 q k)) _ _ ?_ ?_
  · show win3_1.index t (0 : Fin 2) * 1024 + 1 * q.val = _
    omega
  · show win3_1.index t (1 : Fin 2) * 1024 + 1 * k.val = _
    omega

/-- The bias's block at a point. -/
theorem blk3_9 (c : Dev nD) (t : Fin cfg3.N) (q : Fin 1024) :
    iblk3 V c 9 t (ix2 (0 : Fin 1) q) = rd (A := 1) (B := 4096) (φ := .f32) (V c main_v10) 0 (t.val / 16 % 4 * 1024 + q.val) := by
  obtain ⟨e0, e1⟩ := ix3_9w t
  refine rd_eq (A := 1) (B := 4096) (φ := .f32) (V c main_v10) (((cfg3.win 9).blk t).view.emb (ix2 (0 : Fin 1) q)) _ _ ?_ ?_
  · show win3_9.index t (0 : Fin 2) * 1 + 1 * 0 = _
    omega
  · show win3_9.index t (1 : Fin 2) * 1024 + 1 * q.val = _
    omega

/-- The accumulator is cleared to zero. -/
theorem pay1_apply (p q : Fin 1024) : (k3_pay1 (F := Ideal)) (ix2 p q) = 0 := by
  unfold k3_pay1
  simp only [shapeCast_self]
  show Ideal.ofBits .f32 0x00000000#32 = 0
  simp [Ideal.ofBits, Ideal.ieee]

/-- One accumulation adds a block product. -/
theorem pay3_apply (a : Vec Ideal S1024x1024 .f32) (x : Vec Ideal S1024x1024 .bf16) (w : Vec Ideal S1024x1024 .f32) (p q : Fin 1024) :
    k3_pay3 a x w (ix2 p q) = a (ix2 p q) + ∑ k : Fin 1024, x (ix2 p k) * w (ix2 q k) := by
  unfold k3_pay3
  simp only [shapeCast_self]
  show a (ix2 p q) + FloatOps.matmul (F := Ideal) (DotDims.transposedRhs 1024 1024 1024) none x (truncf .bf16 w bitsLt_bf16_f32) (constant S1024x1024 .f32 0x00000000#32) (ix2 p q) = _
  rw [Ideal.matmul_transposedRhs_apply]
  refine congrArg (a (ix2 p q) + ·) ?_
  rw [show (constant (F := Ideal) S1024x1024 .f32 0x00000000#32) (ix2 p q) = 0 from by
    show Ideal.ofBits .f32 0x00000000#32 = 0
    simp [Ideal.ofBits, Ideal.ieee]]
  rw [zero_add]
  rfl

/-- The bias is added to every row. -/
theorem pay5_apply (a : Vec Ideal S1024x1024 .f32) (b : Vec Ideal S1x1024 .f32) (p q : Fin 1024) :
    k3_pay5 a b (ix2 p q) = a (ix2 p q) + b (ix2 (0 : Fin 1) q) := by
  unfold k3_pay5
  simp only [shapeCast_self]
  show a (ix2 p q) + broadcastTo S1024x1024 b broadcasts_S1x1024_S1024x1024 (ix2 p q) = _
  refine congrArg (a (ix2 p q) + ·) ?_
  unfold broadcastTo
  congr 1
  funext x
  match x with
  | ⟨0, _⟩ => rfl
  | ⟨1, _⟩ => rfl

/-- One step of the accumulator, at a natural number. -/
theorem acc3_nat (c : Dev nD) (n : ℕ) : acc3 V c (n + 1) =
    k3_pay3 (if n % 16 = 0 then k3_pay1 else acc3 V c n) (iblk3 V c 0 (pt3 n)) (iblk3 V c 1 (pt3 n)) := rfl

/-- What the accumulator holds after a point: the partial products of the points of its block so far. -/
theorem acc3_apply (c : Dev nD) (p q : Fin 1024) : ∀ n : ℕ, n < 128 →
    acc3 V c (n + 1) (ix2 p q) = ∑ k ∈ Finset.range (n % 16 + 1), ∑ l ∈ Finset.range 1024,
      rd (A := 2048) (B := 16384) (φ := .bf16) (V c main_v0_2) (n / 64 * 1024 + p.val) (k * 1024 + l)
      * rd (A := 4096) (B := 16384) (φ := .f32) (V c main_arg2) (n / 16 % 4 * 1024 + q.val) (k * 1024 + l) := by
  intro n
  induction n with
  | zero =>
    intro hn
    rw [acc3_nat, if_pos (Nat.zero_mod 16), pay3_apply, pay1_apply, zero_add, Finset.sum_range_one]
    rw [← sum_fin_range (fun l => rd (A := 2048) (B := 16384) (φ := .bf16) (V c main_v0_2) (0 / 64 * 1024 + p.val) (0 * 1024 + l)
      * rd (A := 4096) (B := 16384) (φ := .f32) (V c main_arg2) (0 / 16 % 4 * 1024 + q.val) (0 * 1024 + l))]
    refine Finset.sum_congr rfl fun k _ => ?_
    rw [blk3_0, blk3_1]
    rfl
  | succ n ih =>
    intro hn
    have hpt : (pt3 (n + 1)).val = n + 1 := Nat.mod_eq_of_lt hn
    rw [acc3_nat, pay3_apply]
    have hs : ∀ (x : Vec Ideal S1024x1024 .bf16) (w : Vec Ideal S1024x1024 .f32), x = iblk3 V c 0 (pt3 (n + 1)) → w = iblk3 V c 1 (pt3 (n + 1)) →
        ∑ k : Fin 1024, x (ix2 p k) * w (ix2 q k)
        = ∑ l ∈ Finset.range 1024, rd (A := 2048) (B := 16384) (φ := .bf16) (V c main_v0_2) ((n + 1) / 64 * 1024 + p.val) ((n + 1) % 16 * 1024 + l)
          * rd (A := 4096) (B := 16384) (φ := .f32) (V c main_arg2) ((n + 1) / 16 % 4 * 1024 + q.val) ((n + 1) % 16 * 1024 + l) := by
      rintro x w rfl rfl
      rw [← sum_fin_range (fun l => rd (A := 2048) (B := 16384) (φ := .bf16) (V c main_v0_2) ((n + 1) / 64 * 1024 + p.val) ((n + 1) % 16 * 1024 + l)
          * rd (A := 4096) (B := 16384) (φ := .f32) (V c main_arg2) ((n + 1) / 16 % 4 * 1024 + q.val) ((n + 1) % 16 * 1024 + l))]
      refine Finset.sum_congr rfl fun k _ => ?_
      rw [blk3_0, blk3_1, hpt]
    rw [hs _ _ rfl rfl]
    by_cases h : (n + 1) % 16 = 0
    · rw [if_pos h, pay1_apply, zero_add, h, Finset.sum_range_one]
    · rw [if_neg h, ih (by omega), Finset.sum_range_succ (n := (n + 1) % 16)]
      rw [show n % 16 + 1 = (n + 1) % 16 from by omega, show (n + 1) / 64 = n / 64 from by omega, show (n + 1) / 16 = n / 16 from by omega]

/-- The product and its bias, of two arrays as wholes. -/
def linG (X : FVec Ideal ⟨2, ![2048, 16384]⟩ .bf16) (W : FVec Ideal ⟨2, ![4096, 16384]⟩ .f32) (b : FVec Ideal ⟨2, ![1, 4096]⟩ .f32) :
    FVec Ideal ⟨2, ![2048, 4096]⟩ .f32 := fun i =>
  (∑ k ∈ Finset.range 16384, rd X (i 0).val k * rd W (i 1).val k) + rd b 0 (i 1).val

/-- What a point that writes back leaves is its block of the product. -/
theorem flushed3_12 (c : Dev nD) (t : Fin cfg3.N) (hf : (cfg3.win 12).flush t = true) :
    (dat3 V c).flushed 12 t = ((cfg3.win 12).blk t).view.read (Elt Ideal) (linG (V c main_v0_2) (V c main_arg2) (V c main_v10)) := by
  have h15 := flush3_12w t hf
  obtain ⟨e0, e1⟩ := ix3_12w t
  have ht := lt128 t
  funext j
  obtain ⟨p, q, rfl⟩ : ∃ p q : Fin 1024, j = ix2 p q := ⟨j 0, j 1, by funext a; match a with | ⟨0, _⟩ => rfl | ⟨1, _⟩ => rfl⟩
  show k3_pay5 (acc3 V c (t.val + 1)) (iblk3 V c 9 t) (ix2 p q) = linG (V c main_v0_2) (V c main_arg2) (V c main_v10) (((cfg3.win 12).blk t).view.emb (ix2 p q))
  have h0 : (((cfg3.win 12).blk t).view.emb (ix2 p q) (0 : Fin 2)).val = t.val / 64 * 1024 + p.val := by
    show win3_12.index t (0 : Fin 2) * 1024 + 1 * p.val = _
    omega
  have h1 : (((cfg3.win 12).blk t).view.emb (ix2 p q) (1 : Fin 2)).val = t.val / 16 % 4 * 1024 + q.val := by
    show win3_12.index t (1 : Fin 2) * 1024 + 1 * q.val = _
    omega
  rw [pay5_apply, acc3_apply V c p q t.val ht, h15, blk3_9]
  unfold linG
  rw [h0, h1]
  rw [sum_blocks (fun k => rd (A := 2048) (B := 16384) (φ := .bf16) (V c main_v0_2) (t.val / 64 * 1024 + p.val) k
      * rd (A := 4096) (B := 16384) (φ := .f32) (V c main_arg2) (t.val / 16 % 4 * 1024 + q.val) k) 1024 16]

/-- Every index of the result lies in the block of a point that writes back. -/
theorem cover3_12 (i : S2048x4096.Idx) : ∃ t : Fin cfg3.N, (cfg3.win 12).flush t = true ∧ i ∈ ((cfg3.win 12).blk t).view.set := by
  have hi0 : (i 0).val < 2048 := (i 0).isLt
  have hi1 : (i 1).val < 4096 := (i 1).isLt
  let t : Fin cfg3.N := pt3 ((i 0).val / 1024 * 64 + (i 1).val / 1024 * 16 + 15)
  have htv : t.val = (i 0).val / 1024 * 64 + (i 1).val / 1024 * 16 + 15 := Nat.mod_eq_of_lt (by omega)
  obtain ⟨e0, e1⟩ := ix3_12w t
  refine ⟨t, flush3_12i t (by omega), ?_⟩
  have h := ((cfg3.win 12).blk t).view.emb_mem_set (ix2 (⟨(i 0).val % 1024, by omega⟩ : Fin 1024) (⟨(i 1).val % 1024, by omega⟩ : Fin 1024))
  have he : ((cfg3.win 12).blk t).view.emb (ix2 (⟨(i 0).val % 1024, by omega⟩ : Fin 1024) (⟨(i 1).val % 1024, by omega⟩ : Fin 1024)) = i := by
    funext a; apply Fin.ext
    match a with
    | ⟨0, _⟩ =>
      show win3_12.index t (0 : Fin 2) * 1024 + 1 * ((i 0).val % 1024) = (i 0).val
      omega
    | ⟨1, _⟩ =>
      show win3_12.index t (1 : Fin 2) * 1024 + 1 * ((i 1).val % 1024) = (i 1).val
      omega
  rwa [he] at h

/-- The second result's array after the last kernel. -/
theorem arr3_12 (c : Dev nD) : (dat3 V c).arrAt 12 cfg3.N = linG (V c main_v0_2) (V c main_arg2) (V c main_v10) :=
  (dat3 V c).arrAt_eq_of_cover 12 _ (flushed3_12 V c) cover3_12

end Cert.KernelIdeal.Val

end
-- ==== Proof.V.Copy.lean ====
/- The first kernel's copy of the features, and what the last kernel finds of it and of the linear layer's arguments. -/
module

public import proofs.«01_k».proof.Proof.V.Lin

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg

section
variable (V : Dev nD → Valuation τ sig (Elt Ideal))

theorem ix0_0w : ∀ t : Fin cfg0.N, win0_0.index t (0 : Fin 2) = t.val ∧ win0_0.index t (1 : Fin 2) = 0 :=
  (by decide +kernel : ∀ t : Fin grid0.N, _)
theorem ix0_3w : ∀ t : Fin cfg0.N, win0_3.index t (0 : Fin 2) = t.val ∧ win0_3.index t (1 : Fin 2) = 0 :=
  (by decide +kernel : ∀ t : Fin grid0.N, _)
theorem flush0_3i : ∀ t : Fin cfg0.N, (cfg0.win 3).flush t = true :=
  (by decide +kernel : ∀ t : Fin grid0.N, _)

theorem lt16 (t : Fin cfg0.N) : t.val < 16 := lt_of_lt_of_eq t.isLt N_0

/-- The narrower copy holds, over the reals, the features themselves. -/
theorem flushed0_3 (c : Dev nD) (t : Fin cfg0.N) (hf : (cfg0.win 3).flush t = true) :
    (dat0 V c).flushed 3 t = ((cfg0.win 3).blk t).view.read (Elt Ideal) (V c main_arg0 : FVec Ideal ⟨2, ![2048, 16384]⟩ .f32) := by
  obtain ⟨e0, e1⟩ := ix0_0w t
  obtain ⟨f0, f1⟩ := ix0_3w t
  funext j
  obtain ⟨p, q, rfl⟩ : ∃ (p : Fin 128) (q : Fin 16384), j = ix2 p q := ⟨j 0, j 1, by funext a; match a with | ⟨0, _⟩ => rfl | ⟨1, _⟩ => rfl⟩
  show V c main_arg0 (((cfg0.win 0).blk t).view.emb (ix2 p q)) = V c main_arg0 (((cfg0.win 3).blk t).view.emb (ix2 p q))
  refine congrArg (V c main_arg0) ?_
  funext a; apply Fin.ext
  match a with
  | ⟨0, _⟩ =>
    show win0_0.index t (0 : Fin 2) * 128 + 1 * p.val = win0_3.index t (0 : Fin 2) * 128 + 1 * p.val
    omega
  | ⟨1, _⟩ =>
    show win0_0.index t (1 : Fin 2) * 16384 + 1 * q.val = win0_3.index t (1 : Fin 2) * 16384 + 1 * q.val
    omega

/-- Every index of the copy lies in a block that is written back. -/
theorem cover0_3 (i : S2048x16384.Idx) : ∃ t : Fin cfg0.N, (cfg0.win 3).flush t = true ∧ i ∈ ((cfg0.win 3).blk t).view.set := by
  have hi0 : (i 0).val < 2048 := (i 0).isLt
  have hi1 : (i 1).val < 16384 := (i 1).isLt
  let t : Fin cfg0.N := ⟨(i 0).val / 128, lt_of_lt_of_eq (show (i 0).val / 128 < 16 by omega) N_0.symm⟩
  have htv : t.val = (i 0).val / 128 := rfl
  obtain ⟨e0, e1⟩ := ix0_3w t
  refine ⟨t, flush0_3i t, ?_⟩
  have h := ((cfg0.win 3).blk t).view.emb_mem_set (ix2 (⟨(i 0).val % 128, by omega⟩ : Fin 128) (⟨(i 1).val, hi1⟩ : Fin 16384))
  have he : ((cfg0.win 3).blk t).view.emb (ix2 (⟨(i 0).val % 128, by omega⟩ : Fin 128) (⟨(i 1).val, hi1⟩ : Fin 16384)) = i := by
    funext a; apply Fin.ext
    match a with
    | ⟨0, _⟩ =>
      show win0_3.index t (0 : Fin 2) * 128 + 1 * ((i 0).val % 128) = (i 0).val
      omega
    | ⟨1, _⟩ =>
      show win0_3.index t (1 : Fin 2) * 16384 + 1 * (i 1).val = (i 1).val
      omega
  rwa [he] at h

/-- The copy's array after the first kernel is the features. -/
theorem arr0_3 (c : Dev nD) : (dat0 V c).arrAt 3 cfg0.N = (V c main_arg0 : FVec Ideal ⟨2, ![2048, 16384]⟩ .f32) :=
  (dat0 V c).arrAt_eq_of_cover 3 _ (flushed0_3 V c) cover0_3

end

variable (m : (ℓ : Loc nD τ sig) → Buf (Elt Ideal) ℓ)

/-- The last kernel finds the features in the copy. -/
theorem W5_copy (c : Dev nD) : W5 m c main_v0_2 = (m ((c : Thread nD τ).loc main_arg0) : FVec Ideal ⟨2, ![2048, 16384]⟩ .f32) := by
  refine (W5_keep m c main_v0_2 (by decide)).trans ((W4_keep m c main_v0_2 (by decide)).trans ((W3_keep m c main_v0_2 (by decide)).trans
    ((W2_keep m c main_v0_2 (by decide)).trans ?_)))
  exact (afterRegion_arr (dat0 (W0 m) c) (W0 m c) launch0.win.arr_inj 3).trans (arr0_3 (W0 m) c)

/-- Before the second reshapes the linear layer's bias is as launched. -/
theorem W4_arg3 (c : Dev nD) : W4 m c main_arg3 = m ((c : Thread nD τ).loc main_arg3) :=
  (W4_keep m c main_arg3 (by decide)).trans ((W3_keep m c main_arg3 (by decide)).trans
    ((W2_keep m c main_arg3 (by decide)).trans (W1_keep m c main_arg3 (by decide))))

/-- A vector laid out as one row, read at a column. -/
theorem row_apply {n : ℕ} (v : FVec Ideal ⟨1, ![n]⟩ .f32) (h : Shape.ShapeCasts (⟨1, ![n]⟩ : Shape) ⟨2, ![1, n]⟩) (q : Fin n) :
    shapeCast (⟨2, ![1, n]⟩ : Shape) v h (ix2 (0 : Fin 1) q) = v (ix1 q) := by
  refine (shapeCast_addUnit_apply ![n] v h (ix2 (0 : Fin 1) q)).trans (congrArg v ?_)
  funext a
  match a with
  | ⟨0, _⟩ => rfl

/-- The last kernel finds the linear layer's bias as one row. -/
theorem W5_v10 (c : Dev nD) (q : Fin 4096) : W5 m c main_v10 (ix2 (0 : Fin 1) q) = m ((c : Thread nD τ).loc main_arg3) (ix1 q) := by
  have h : W5 m c main_v10 = shapeCast S1x4096 (W4 m c main_arg3) shapeCasts_S4096_S1x4096 := by
    unfold W5
    after_results
    rfl
  rw [h, W4_arg3]
  exact row_apply _ _ q

/-- The second result after the run: the features against the weights' rows, plus the bias. -/
theorem W6_lin (c : Dev nD) : W6 m c main_v12_1 = linG (m ((c : Thread nD τ).loc main_arg0)) (m ((c : Thread nD τ).loc main_arg2)) (W5 m c main_v10) := by
  refine (afterRegion_arr (dat3 (W5 m) c) (W5 m c) launch3.win.arr_inj 12).trans ((arr3_12 (W5 m) c).trans ?_)
  rw [W5_copy, W5_arg2]

end Cert.KernelIdeal.Val

end
-- ==== Proof.V.Sel.lean ====
/- Selecting the largest entries of a row by a threshold, as mathematics on any linear order. -/
module

public import Idealize.ShloMosaic.PureOps
public import Mathlib.Data.EReal.Basic
public import Mathlib.Algebra.BigOperators.Group.Finset.Basic

@[expose] public section

noncomputable section

namespace Cert.Sel

open Finset Classical

variable {J α : Type} [Fintype J] [LinearOrder α]

/-- `t` is the threshold of the `K` largest entries of `x`: so many lie above it that `need` of those equal to it are still wanted, and there are that many. -/
structure IsCut (x : J → α) (K : ℕ) (t : α) (need : ℕ) : Prop where
  above : (univ.filter fun j => t < x j).card + need = K
  pos : 0 < need
  le : need ≤ (univ.filter fun j => x j = t).card

/-- After `n` rounds the values in `U` have been used: `r` entries hold one, fewer than `K`, and every other entry is smaller than all of them. -/
structure Used (x : J → α) (K n : ℕ) (U : Set α) (r : ℕ) : Prop where
  up : ∀ j, x j ∉ U → ∀ u ∈ U, x j < u
  card : (univ.filter fun j => x j ∈ U).card = r
  lt : r < K
  ge : n ≤ r

/-- Before any round no value is used. -/
theorem Used.zero (x : J → α) {K : ℕ} (hK : 0 < K) : Used x K 0 ∅ 0 :=
  ⟨fun _ _ _ h => h.elim, by simp, hK, le_rfl⟩

/-- With fewer than `K` entries used some entry is left. -/
theorem Used.left {x : J → α} {K n : ℕ} {U : Set α} {r : ℕ} (h : Used x K n U r) (hK : K ≤ Fintype.card J) : ∃ j, x j ∉ U := by
  by_contra hc
  push Not at hc
  have : (univ.filter fun j => x j ∈ U) = univ := by ext j; simp [hc j]
  have h1 := h.card
  rw [this, card_univ] at h1
  have := h.lt
  omega

/-- A round on the largest value left: either it is the threshold, or it becomes a used value. -/
theorem Used.step {x : J → α} {K n : ℕ} {U : Set α} {r : ℕ} (h : Used x K n U r) {m : α} (hm : ∃ j, x j = m) (hU : m ∉ U)
    (hle : ∀ j, x j ∉ U → x j ≤ m) {c : ℕ} (hc : c = (univ.filter fun j => x j = m).card) :
    (K ≤ r + c → IsCut x K m (K - r)) ∧ (r + c < K → Used x K (n + 1) (insert m U) (r + c)) := by
  obtain ⟨j0, hj0⟩ := hm
  have hlt := h.lt
  have hpos : 0 < c := by rw [hc]; exact card_pos.2 ⟨j0, by simp [hj0]⟩
  constructor
  · intro hK
    have ha : (univ.filter fun j => m < x j) = univ.filter fun j => x j ∈ U := by
      ext j
      simp only [mem_filter, mem_univ, true_and]
      constructor
      · intro hj
        by_contra hn
        exact absurd (hle j hn) (not_le.2 hj)
      · intro hj
        have := h.up j0 (by rw [hj0]; exact hU) _ hj
        rwa [hj0] at this
    refine ⟨?_, by omega, by omega⟩
    rw [ha, h.card]
    omega
  · intro hK
    refine ⟨?_, ?_, hK, by have := h.ge; omega⟩
    · intro j hj u hu
      have hj1 : x j ≠ m := fun e => hj (by rw [e]; exact Set.mem_insert _ _)
      have hj2 : x j ∉ U := fun e => hj (Set.mem_insert_of_mem _ e)
      rcases hu with rfl | hu
      · exact lt_of_le_of_ne (hle j hj2) hj1
      · exact h.up j hj2 u hu
    · refine (congrArg Finset.card (?_ : _ = (univ.filter fun j => x j ∈ U) ∪ univ.filter fun j => x j = m)).trans ?_
      · ext j
        simp [or_comm]
      rw [card_union_of_disjoint, h.card, hc]
      rw [disjoint_left]
      intro j h1 h2
      simp only [mem_filter, mem_univ, true_and] at h1 h2
      rw [h2] at h1
      exact hU h1

/-! ## The levels of the lane classes -/

variable {L : Type} [Fintype L]

/-- The four largest distinct values `D` of each class and how often each occurs; `s` stands for none. -/
structure Levels (x : J → α) (s : α) (cls : J → L) (D : Fin 4 → L → α) (k : Fin 4 → L → ℕ) : Prop where
  cnt : ∀ d l, D d l ≠ s → k d l = (univ.filter fun j => cls j = l ∧ x j = D d l).card
  all : ∀ j, (∃ d, x j = D d (cls j)) ∨ x j < D 3 (cls j)
  inj : ∀ d e l, D d l = D e l → D d l ≠ s → d = e
  mem : ∀ d l, D d l ≠ s → ∃ j, x j = D d l

/-- Levels got by marking, four times, each class's largest entries. -/
theorem levels_of_marking {x : J → α} {s : α} (hs : ∀ j, s < x j) {cls : J → L} (w : ℕ → J → α) (M : ℕ → L → α) (k : ℕ → L → ℕ)
    (w0 : w 0 = x) (hw : ∀ d j, w (d + 1) j = if w d j = M d (cls j) then s else w d j)
    (hM : ∀ d j, w d j ≤ M d (cls j)) (hM' : ∀ d l, ∃ j, cls j = l ∧ w d j = M d l)
    (hk : ∀ d l, M d l ≠ s → k d l = (univ.filter fun j => cls j = l ∧ w d j = M d l).card) :
    Levels x s cls (fun d => M d.val) (fun d => k d.val) := by
  have inv : ∀ d j, w d j = x j ∨ (w d j = s ∧ (∃ e < d, x j = M e (cls j)) ∧ ∀ j', cls j' = cls j → w d j' < x j) := by
    intro d
    induction d with
    | zero => intro j; left; rw [w0]
    | succ d ih =>
      intro j
      have hmono : ∀ j', w (d + 1) j' ≤ w d j' := by
        intro j'
        rw [hw]
        split
        · rcases ih j' with h | h
          · rw [h]; exact (hs j').le
          · rw [h.1]
        · exact le_rfl
      rcases ih j with h | ⟨h1, ⟨e, he, hx⟩, h2⟩
      · by_cases e : w d j = M d (cls j)
        · right
          refine ⟨by rw [hw, if_pos e], ⟨d, Nat.lt_succ_self d, by rw [← h, e]⟩, ?_⟩
          intro j' hj'
          rw [hw, hj']
          split
          · exact hs j
          · rename_i hne
            have := lt_of_le_of_ne (hM d j') (by rw [hj']; exact hne)
            rwa [hj', ← e, h] at this
        · left
          rw [hw, if_neg e, h]
      · right
        refine ⟨?_, ⟨e, Nat.lt_succ_of_lt he, hx⟩, fun j' hj' => lt_of_le_of_lt (hmono j') (h2 j' hj')⟩
        rw [hw]
        split
        · rfl
        · exact h1
  have val : ∀ d j, w d j ≠ s → w d j = x j := fun d j h => (inv d j).resolve_right fun q => h q.1
  have ge : ∀ d l, s ≤ M d l := by
    intro d l
    obtain ⟨j, hj, e⟩ := hM' d l
    rw [← e]
    rcases inv d j with h | h
    · rw [h]; exact (hs j).le
    · rw [h.1]
  -- an entry equal to a level's value is still there at that level
  have keep : ∀ d j, M d (cls j) ≠ s → x j = M d (cls j) → w d j = x j := by
    intro d j h e
    rcases inv d j with h1 | ⟨h1, _, h2⟩
    · exact h1
    · obtain ⟨j', hj', e'⟩ := hM' d (cls j)
      have := h2 j' hj'
      rw [e', e] at this
      exact absurd this (lt_irrefl _)
  -- levels decrease
  have dec : ∀ d e l, d < e → M d l ≠ s → M e l < M d l := by
    intro d e l hde h
    obtain ⟨j, hj, ej⟩ := hM' d l
    have hx : w d j = x j := val d j (by rw [ej]; exact h)
    have hm : w (d + 1) j = s := by rw [hw, hj, if_pos ej]
    have hlt : ∀ n, w (d + 1 + n) j = s := by
      intro n
      induction n with
      | zero => exact hm
      | succ n ih => rw [← Nat.add_assoc, hw, ih]; split <;> rfl
    have hes : w e j = s := by
      have := hlt (e - (d + 1))
      rwa [Nat.add_sub_cancel' hde] at this
    obtain ⟨j', hj', e'⟩ := hM' e l
    rcases inv e j with q | ⟨_, _, q⟩
    · exact absurd (q.symm.trans hes) (hs j).ne'
    · have := q j' (hj'.trans hj.symm)
      rwa [e', ← hx, ej] at this
  refine ⟨?_, ?_, ?_, ?_⟩
  · intro d l h
    rw [hk d l h]
    congr 1
    ext j
    simp only [mem_filter, mem_univ, true_and]
    constructor
    · rintro ⟨rfl, e⟩
      exact ⟨rfl, by rw [← val d j (by rw [e]; exact h), e]⟩
    · rintro ⟨rfl, e⟩
      exact ⟨rfl, by rw [keep d j h e, e]⟩
  · intro j
    rcases inv 4 j with h | ⟨_, ⟨e, he, hx⟩, _⟩
    · right
      have h3 : w 3 j ≠ M 3 (cls j) := by
        intro e
        have := hw 3 j
        rw [if_pos e] at this
        exact absurd (h.symm.trans this) (hs j).ne'
      have hx : w 3 j = x j := by
        have := hw 3 j
        rw [if_neg h3] at this
        rw [← this]; exact h
      have := lt_of_le_of_ne (hM 3 j) h3
      rwa [hx] at this
    · left
      exact ⟨⟨e, he⟩, hx⟩
  · intro d e l h hd
    rcases lt_trichotomy d.val e.val with q | q | q
    · exact absurd h (dec d.val e.val l q hd).ne'
    · exact Fin.ext q
    · exact absurd h (dec e.val d.val l q (h ▸ hd)).ne
  · intro d l h
    obtain ⟨j, _, e⟩ := hM' d.val l
    exact ⟨j, by rw [← val d j (by rw [e]; exact h), e]⟩

/-- The number of entries equal to the largest value left is what the planes' counts say. -/
theorem Levels.count {x : J → α} {s : α} {cls : J → L} {D : Fin 4 → L → α} {k : Fin 4 → L → ℕ} (h : Levels x s cls D k) {m : α}
    (hm : m ≠ s) (h3 : ∀ l, D 3 l ≤ m) :
    ∑ l, ∑ d, (if D d l = m then k d l else 0) = (univ.filter fun j => x j = m).card := by
  rw [card_eq_sum_card_fiberwise (f := cls) (t := univ) (fun _ _ => mem_coe.2 (mem_univ _))]
  refine sum_congr rfl fun l _ => ?_
  rw [filter_filter]
  have e : (univ.filter fun j => x j = m ∧ cls j = l) = univ.filter fun j => cls j = l ∧ x j = m := by
    ext j; simp [and_comm]
  rw [e]
  by_cases hj : ∃ j, cls j = l ∧ x j = m
  · obtain ⟨j, rfl, hx⟩ := hj
    have hd : ∃ d, D d (cls j) = m := by
      rcases h.all j with ⟨d, hd⟩ | hd
      · exact ⟨d, by rw [← hd, hx]⟩
      · rw [hx] at hd
        exact absurd (h3 _) (not_le.2 hd)
    obtain ⟨d, hd⟩ := hd
    rw [sum_eq_single d, if_pos hd, h.cnt d _ (by rw [hd]; exact hm), hd]
    · intro b _ hb
      rw [if_neg fun q => hb (h.inj b d _ (q.trans hd.symm) (by rw [q]; exact hm))]
    · intro q; exact absurd (mem_univ _) q
  · rw [(filter_eq_empty_iff).2 fun j _ q => hj ⟨j, q⟩, card_empty]
    refine sum_eq_zero fun d _ => ?_
    split
    · rename_i hd
      rw [h.cnt d l (by rw [hd]; exact hm), hd, (filter_eq_empty_iff).2 fun j _ q => hj ⟨j, q⟩, card_empty]
    · rfl

/-! ## The rounds on the planes -/

/-- What holds of a row after `n` rounds: it may have lost values (`su`), or its threshold is found, or the used values are known. -/
def Good (x : J → α) (s : α) (K : ℕ) (D : Fin 4 → L → α) (n : ℕ) (P : Fin 4 → L → α) (thr : α) (nk : ℕ → Prop) (fd su : Prop) (rc : ℕ → Prop) : Prop :=
  su ∨ (fd ∧ ∃ need, nk need ∧ IsCut x K thr need)
    ∨ (¬ fd ∧ ∃ U r, rc r ∧ Used x K n U r ∧ s ∉ U ∧ (∀ d l, P d l = if D d l ∈ U then s else D d l) ∧ ∀ l, D 3 l ∉ U)

/-- One round keeps it. The counters are read through predicates (`rc r` says the counter is `r`). -/
theorem Good.step {x : J → α} {s : α} (hs : ∀ j, s < x j) {K : ℕ} (hK : K ≤ Fintype.card J) {cls : J → L} {D : Fin 4 → L → α} {k : Fin 4 → L → ℕ}
    (hL : Levels x s cls D k) {n : ℕ} {P P' : Fin 4 → L → α} {thr thr' : α} {nk nk' : ℕ → Prop} {fd fd' su su' : Prop} {rc rc' : ℕ → Prop}
    (h : Good x s K D n P thr nk fd su rc) {m : α} (hm : ∀ d l, P d l ≤ m) (hm' : ∃ d l, P d l = m)
    (hP : ∀ d l, P' d l = if P d l = m then s else P d l)
    (hsu : su → su') (hfd : fd → fd' ∧ thr' = thr ∧ ∀ a, nk a → nk' a)
    (hhit : ¬ fd → ∀ r, rc r → r < K → K ≤ r + ∑ l, ∑ d, (if P d l = m then k d l else 0) → fd' ∧ thr' = m ∧ nk' (K - r))
    (hmiss : ¬ fd → ∀ r, rc r → r + ∑ l, ∑ d, (if P d l = m then k d l else 0) < K → ¬ fd' ∧ rc' (r + ∑ l, ∑ d, (if P d l = m then k d l else 0)))
    (hdeep : ¬ fd' → (∃ l, P 3 l = m) → su') :
    Good x s K D (n + 1) P' thr' nk' fd' su' rc' := by
  rcases h with h | ⟨hf, need, hn, hc⟩ | ⟨hf, U, r, hr, hu, hsU, hPD, h3⟩
  · exact Or.inl (hsu h)
  · obtain ⟨a, b, c⟩ := hfd hf
    exact Or.inr (Or.inl ⟨a, need, c _ hn, by rw [b]; exact hc⟩)
  · have h3m : ∀ l, D 3 l ≤ m := fun l => by
      have := hm 3 l
      rwa [hPD, if_neg (h3 l)] at this
    have hle : ∀ j, x j ∉ U → x j ≤ m := by
      intro j hj
      rcases hL.all j with ⟨d, hd⟩ | hd
      · have := hm d (cls j)
        rwa [hPD, ← hd, if_neg hj] at this
      · exact hd.le.trans (h3m _)
    obtain ⟨j0, hj0⟩ := hu.left hK
    have hms : m ≠ s := ((hs j0).trans_le (hle j0 hj0)).ne'
    obtain ⟨d0, l0, e0⟩ := hm'
    have hD0 : D d0 l0 = m ∧ m ∉ U := by
      rw [hPD] at e0
      split at e0
      · exact absurd e0.symm hms
      · rename_i q
        exact ⟨e0, by rw [← e0]; exact q⟩
    have hiff : ∀ d l, P d l = m ↔ D d l = m := by
      intro d l
      rw [hPD]
      split
      · rename_i q
        exact ⟨fun e => absurd e.symm hms, fun e => absurd (e ▸ q) hD0.2⟩
      · exact Iff.rfl
    have hcnt : ∑ l, ∑ d, (if P d l = m then k d l else 0) = (univ.filter fun j => x j = m).card := by
      rw [← hL.count hms h3m]
      exact sum_congr rfl fun l _ => sum_congr rfl fun d _ => by simp only [hiff]
    obtain ⟨s1, s2⟩ := hu.step (by
      obtain ⟨j, hj⟩ := hL.mem d0 l0 (by rw [hD0.1]; exact hms)
      exact ⟨j, by rw [hj, hD0.1]⟩) hD0.2 hle hcnt
    rcases Nat.lt_or_ge (r + ∑ l, ∑ d, (if P d l = m then k d l else 0)) K with q | q
    · obtain ⟨a, b⟩ := hmiss hf r hr q
      by_cases hdp : ∃ l, P 3 l = m
      · exact Or.inl (hdeep a hdp)
      · refine Or.inr (Or.inr ⟨a, insert m U, _, b, s2 q, ?_, ?_, ?_⟩)
        · rintro (e | e)
          · exact hms e.symm
          · exact hsU e
        · intro d l
          rw [hP]
          by_cases e : D d l = m
          · rw [if_pos ((hiff d l).2 e), if_pos (by rw [e]; exact Set.mem_insert _ _)]
          · rw [if_neg fun e' => e ((hiff d l).1 e'), hPD]
            by_cases e' : D d l ∈ U
            · rw [if_pos e', if_pos (Set.mem_insert_of_mem _ e')]
            · rw [if_neg e', if_neg]
              rintro (e'' | e'')
              · exact e e''
              · exact e' e''
        · rintro l (e | e)
          · exact hdp ⟨l, (hiff 3 l).2 e⟩
          · exact h3 l e
    · obtain ⟨a, b, c⟩ := hhit hf r hr hu.lt q
      exact Or.inr (Or.inl ⟨a, _, c, by rw [b]; exact s1 q⟩)

/-- After `K` rounds a row that has not lost values has its threshold. -/
theorem Good.done {x : J → α} {s : α} {K : ℕ} {D : Fin 4 → L → α} {P : Fin 4 → L → α} {thr : α} {nk : ℕ → Prop} {fd su : Prop} {rc : ℕ → Prop}
    (h : Good x s K D K P thr nk fd su rc) (hsu : ¬ su) : ∃ need, nk need ∧ IsCut x K thr need := by
  rcases h with h | ⟨_, h⟩ | ⟨_, _, _, _, hu, _⟩
  · exact absurd h hsu
  · exact h
  · exact absurd hu.ge (not_le.2 hu.lt)

/-! ## The rounds on the whole row -/

/-- What holds of a row after `n` rounds on all of it. -/
def Whole (x : J → α) (s : α) (K n : ℕ) (w : J → α) (thr : α) (nk : ℕ → Prop) (fd : Prop) (rc : ℕ → Prop) : Prop :=
  (fd ∧ ∃ need, nk need ∧ IsCut x K thr need)
    ∨ (¬ fd ∧ ∃ U r, rc r ∧ Used x K n U r ∧ ∀ j, w j = if x j ∈ U then s else x j)

/-- One round keeps it. -/
theorem Whole.step {x : J → α} {s : α} (hs : ∀ j, s < x j) {K : ℕ} (hK : K ≤ Fintype.card J) {n : ℕ} {w w' : J → α} {thr thr' : α}
    {nk nk' : ℕ → Prop} {fd fd' : Prop} {rc rc' : ℕ → Prop} (h : Whole x s K n w thr nk fd rc) {m : α} (hm : ∀ j, w j ≤ m) (hm' : ∃ j, w j = m)
    (hw : ∀ j, w' j = if w j = m then s else w j) (hfd : fd → fd' ∧ thr' = thr ∧ ∀ a, nk a → nk' a)
    (hhit : ¬ fd → ∀ r, rc r → r < K → K ≤ r + (univ.filter fun j => w j = m).card → fd' ∧ thr' = m ∧ nk' (K - r))
    (hmiss : ¬ fd → ∀ r, rc r → r + (univ.filter fun j => w j = m).card < K → ¬ fd' ∧ rc' (r + (univ.filter fun j => w j = m).card)) :
    Whole x s K (n + 1) w' thr' nk' fd' rc' := by
  rcases h with ⟨hf, need, hn, hc⟩ | ⟨hf, U, r, hr, hu, hwx⟩
  · obtain ⟨a, b, c⟩ := hfd hf
    exact Or.inl ⟨a, need, c _ hn, by rw [b]; exact hc⟩
  · have hle : ∀ j, x j ∉ U → x j ≤ m := by
      intro j hj
      have := hm j
      rwa [hwx, if_neg hj] at this
    obtain ⟨j0, hj0⟩ := hu.left hK
    have hms : m ≠ s := ((hs j0).trans_le (hle j0 hj0)).ne'
    obtain ⟨j1, e1⟩ := hm'
    have hx1 : x j1 = m ∧ m ∉ U := by
      rw [hwx] at e1
      split at e1
      · exact absurd e1.symm hms
      · rename_i q
        exact ⟨e1, by rw [← e1]; exact q⟩
    have hiff : ∀ j, w j = m ↔ x j = m := by
      intro j
      rw [hwx]
      split
      · rename_i q
        exact ⟨fun e => absurd e.symm hms, fun e => absurd (e ▸ q) hx1.2⟩
      · exact Iff.rfl
    have hcnt : (univ.filter fun j => w j = m).card = (univ.filter fun j => x j = m).card := by
      simp only [hiff]
    obtain ⟨s1, s2⟩ := hu.step ⟨j1, hx1.1⟩ hx1.2 hle hcnt
    rcases Nat.lt_or_ge (r + (univ.filter fun j => w j = m).card) K with q | q
    · obtain ⟨a, b⟩ := hmiss hf r hr q
      refine Or.inr ⟨a, insert m U, _, b, s2 q, ?_⟩
      intro j
      rw [hw]
      by_cases e : x j = m
      · rw [if_pos ((hiff j).2 e), if_pos (by rw [e]; exact Set.mem_insert _ _)]
      · rw [if_neg fun e' => e ((hiff j).1 e'), hwx]
        by_cases e' : x j ∈ U
        · rw [if_pos e', if_pos (Set.mem_insert_of_mem _ e')]
        · rw [if_neg e', if_neg]
          rintro (e'' | e'')
          · exact e e''
          · exact e' e''
    · obtain ⟨a, b, c⟩ := hhit hf r hr hu.lt q
      exact Or.inl ⟨a, _, c, by rw [b]; exact s1 q⟩

/-- After `K` rounds the row has its threshold. -/
theorem Whole.done {x : J → α} {s : α} {K : ℕ} {w : J → α} {thr : α} {nk : ℕ → Prop} {fd : Prop} {rc : ℕ → Prop}
    (h : Whole x s K K w thr nk fd rc) : ∃ need, nk need ∧ IsCut x K thr need := by
  rcases h with ⟨_, h⟩ | ⟨_, _, _, _, hu, _⟩
  · exact h
  · exact absurd hu.ge (not_le.2 hu.lt)

/-! ## The ties -/

/-- What holds of the positions of the ties after some were dropped: `R`, the first ones, are gone; `n` of the `b` to drop. -/
def Ties {N : ℕ} {β : Type} [LinearOrder β] (T : Finset (Fin N)) (pos : Fin N → β) (top : β) (b n : ℕ) (w : Fin N → β) (nk : ℕ → Prop) : Prop :=
  ∃ R : Finset (Fin N), R ⊆ T ∧ (∀ a ∈ R, ∀ j ∈ T, j ∉ R → a < j) ∧ R.card = min n b ∧ nk (b - R.card)
    ∧ ∀ j, w j = if j ∈ T ∧ j ∉ R then pos j else top

section ties
variable {N : ℕ} {β : Type} [LinearOrder β] {T : Finset (Fin N)} {pos : Fin N → β} {top : β}

/-- The least entry of the work row is the first tie not dropped. -/
theorem ties_first (hpos : ∀ a b : Fin N, a < b ↔ pos a < pos b) (htop : ∀ a, pos a < top) {R : Finset (Fin N)} (hRT : R ⊆ T)
    (hc : R.card < T.card) {w : Fin N → β} (hw : ∀ j, w j = if j ∈ T ∧ j ∉ R then pos j else top) {m : β} (hm : ∀ j, m ≤ w j) (hm' : ∃ j, w j = m) :
    ∃ j, j ∈ T ∧ j ∉ R ∧ m = pos j ∧ ∀ i ∈ T, i ∉ R → j ≤ i := by
  obtain ⟨i, hi, hiR⟩ : ∃ i ∈ T, i ∉ R := by
    by_contra hn
    push Not at hn
    exact absurd (card_le_card (fun i hi => hn i hi : T ⊆ R)) (not_le.2 hc)
  obtain ⟨j, hj⟩ := hm'
  have h1 := hm i
  rw [hw, if_pos ⟨hi, hiR⟩] at h1
  rw [hw] at hj
  split at hj
  · rename_i q
    refine ⟨j, q.1, q.2, hj.symm, fun i hi hiR => ?_⟩
    have h2 := hm i
    rw [hw, if_pos ⟨hi, hiR⟩, ← hj] at h2
    by_contra hlt
    exact absurd ((hpos i j).1 (not_le.1 hlt)) (not_lt.2 h2)
  · rw [← hj] at h1
    exact absurd (htop i) (not_lt.2 h1)

/-- One round keeps it. -/
theorem Ties.step (hpos : ∀ a b : Fin N, a < b ↔ pos a < pos b) (htop : ∀ a, pos a < top) {b n : ℕ} (hb : b < T.card) {w w' : Fin N → β}
    {nk nk' : ℕ → Prop} (h : Ties T pos top b n w nk) {m : β} (hm : ∀ j, m ≤ w j) (hm' : ∃ j, w j = m)
    (hgo : ∀ a, 0 < a → nk a → nk' (a - 1) ∧ ∀ j, w' j = if w j = m then top else w j)
    (hstop : nk 0 → nk' 0 ∧ ∀ j, w' j = w j) : Ties T pos top b (n + 1) w' nk' := by
  obtain ⟨R, hRT, hlow, hcard, hnk, hw⟩ := h
  rcases Nat.eq_zero_or_pos (b - R.card) with q | q
  · rw [q] at hnk
    obtain ⟨a, e⟩ := hstop hnk
    refine ⟨R, hRT, hlow, by omega, by rw [q]; exact a, fun j => by rw [e, hw]⟩
  · obtain ⟨a, e⟩ := hgo _ q hnk
    obtain ⟨j0, hj0, hj0R, hmj, hmin⟩ := ties_first hpos htop hRT (by omega) hw hm hm'
    refine ⟨insert j0 R, insert_subset hj0 hRT, ?_, ?_, ?_, ?_⟩
    · intro i hi j hj hjR
      rw [mem_insert, not_or] at hjR
      rcases mem_insert.1 hi with rfl | hi
      · exact lt_of_le_of_ne (hmin j hj hjR.2) (Ne.symm hjR.1)
      · exact hlow i hi j hj hjR.2
    · rw [card_insert_of_notMem hj0R]; omega
    · rw [card_insert_of_notMem hj0R]
      have : b - R.card - 1 = b - (R.card + 1) := by omega
      rwa [this] at a
    · intro j
      rw [e]
      by_cases hj : j = j0
      · subst hj
        rw [if_pos (by rw [hw, if_pos ⟨hj0, hj0R⟩, hmj]), if_neg (fun q => q.2 (mem_insert_self _ _))]
      · have hne : w j ≠ m := by
          rw [hw, hmj]
          split
          · intro e'
            rcases lt_trichotomy j j0 with l | l | l
            · exact absurd e' ((hpos _ _).1 l).ne
            · exact hj l
            · exact absurd e' ((hpos _ _).1 l).ne'
          · exact (htop j0).ne'
        rw [if_neg hne, hw]
        simp [hj]

/-- When all of the `b` are dropped the least entry is the tie with exactly `b` ties before it. -/
theorem Ties.done (hpos : ∀ a b : Fin N, a < b ↔ pos a < pos b) (htop : ∀ a, pos a < top) {b n : ℕ} (hb : b < T.card) (hbn : b ≤ n) {w : Fin N → β}
    {nk : ℕ → Prop} (h : Ties T pos top b n w nk) {m : β} (hm : ∀ j, m ≤ w j) (hm' : ∃ j, w j = m) :
    ∃ j ∈ T, m = pos j ∧ (T.filter fun i => i ≤ j).card = b + 1 := by
  obtain ⟨R, hRT, hlow, hcard, hnk, hw⟩ := h
  obtain ⟨j0, hj0, hj0R, hmj, hmin⟩ := ties_first hpos htop hRT (by omega) hw hm hm'
  refine ⟨j0, hj0, hmj, ?_⟩
  have : (T.filter fun i => i ≤ j0) = insert j0 R := by
    ext i
    rw [mem_filter, mem_insert]
    constructor
    · rintro ⟨hi, hle⟩
      by_cases hiR : i ∈ R
      · exact Or.inr hiR
      · exact Or.inl (le_antisymm hle (hmin i hi hiR))
    · rintro (rfl | hi)
      · exact ⟨hj0, le_rfl⟩
      · exact ⟨hRT hi, (hlow i hi j0 hj0 hj0R).le⟩
  rw [this, card_insert_of_notMem hj0R]
  omega

end ties

/-! ## The set kept is the only one of its size -/

/-- Entry `a` comes before entry `b`: it is larger, or equal and earlier. -/
def Before {N : ℕ} (x : Fin N → α) (a b : Fin N) : Prop := x b < x a ∨ (x a = x b ∧ a < b)

/-- Two sets of the same size that each hold everything before their members are the same. -/
theorem first_unique {N : ℕ} {x : Fin N → α} {A B : Finset (Fin N)} (hA : ∀ a b, Before x a b → b ∈ A → a ∈ A)
    (hB : ∀ a b, Before x a b → b ∈ B → a ∈ B) (h : A.card = B.card) : A = B := by
  have tot : ∀ a b, a = b ∨ Before x a b ∨ Before x b a := by
    intro a b
    rcases lt_trichotomy (x a) (x b) with h | h | h
    · exact Or.inr (Or.inr (Or.inl h))
    · rcases lt_trichotomy a b with g | g | g
      · exact Or.inr (Or.inl (Or.inr ⟨h, g⟩))
      · exact Or.inl g
      · exact Or.inr (Or.inr (Or.inr ⟨h.symm, g⟩))
    · exact Or.inr (Or.inl (Or.inl h))
  by_cases hs : A ⊆ B
  · exact eq_of_subset_of_card_le hs h.ge
  · obtain ⟨a, ha, haB⟩ := not_subset.1 hs
    refine (eq_of_subset_of_card_le (fun b hb => ?_) h.le).symm
    rcases tot a b with rfl | q | q
    · exact absurd hb haB
    · exact absurd (hB a b q hb) haB
    · exact hA b a q ha

/-- The set a cut and its last tie keep: it holds everything before its members and has `K` of them. -/
theorem kept_first {N K : ℕ} {x : Fin N → α} {t : α} {need : ℕ} (h : IsCut x K t need) {j0 : Fin N}
    (hj : ((univ.filter fun j => x j = t).filter fun i => i ≤ j0).card = need) :
    (∀ a b, Before x a b → b ∈ (univ.filter fun j => t < x j ∨ (x j = t ∧ j ≤ j0)) → a ∈ (univ.filter fun j => t < x j ∨ (x j = t ∧ j ≤ j0)))
      ∧ (univ.filter fun j => t < x j ∨ (x j = t ∧ j ≤ j0)).card = K := by
  constructor
  · intro a b hab hb
    simp only [mem_filter, mem_univ, true_and] at hb ⊢
    rcases hab with g | ⟨g, g'⟩
    · rcases hb with q | ⟨q, _⟩
      · exact Or.inl (q.trans g)
      · exact Or.inl (q ▸ g)
    · rcases hb with q | ⟨q, q'⟩
      · exact Or.inl (by rw [g]; exact q)
      · exact Or.inr ⟨g.trans q, g'.le.trans q'⟩
  · rw [filter_or, card_union_of_disjoint, ← h.above, ← hj, filter_filter]
    rw [disjoint_left]
    intro j h1 h2
    simp only [mem_filter, mem_univ, true_and] at h1 h2
    exact absurd h2.1 h1.ne'

end Cert.Sel
-- ==== Proof.V.RowOps.lean ====
/- Rows of a matrix: their largest and least entries, sums, and copies along the row, read at an index. -/
module

public import Idealize.ShloMosaic.Lib.Pipeline.Value
public import Idealize.ShloMosaic.Lib.ValueLayout
public import Idealize.ShloMosaic.Lib.ValueLayoutCasts
public import Idealize.ShloMosaic.PureOps.Ideal.Laws

@[expose] public section

noncomputable section

namespace Cert.Row

open Idealize.ShloMosaic Idealize.ShloMosaic.ValueIdx Idealize.ShloMosaic.Pipeline

variable {A B : ℕ}

abbrev M (A B : ℕ) : Shape := ⟨2, ![A, B]⟩
abbrev V1 (A : ℕ) : Shape := ⟨1, ![A]⟩

theorem negInf : Ideal.ofBits .f32 0xFF800000#32 = ⊥ := by simp [Ideal.ofBits, Ideal.ieee]
theorem posInf : Ideal.ofBits .f32 0x7F800000#32 = ⊤ := by simp [Ideal.ofBits, Ideal.ieee]
theorem zero : Ideal.ofBits .f32 0x00000000#32 = 0 := by simp [Ideal.ofBits, Ideal.ieee]
theorem one : Ideal.ofBits .f32 0x3F800000#32 = 1 := by
  rw [show (1 : EReal) = ((1 : ℝ) : EReal) by norm_cast]
  simp [Ideal.ofBits, Ideal.ieee, -EReal.coe_mul, -EReal.coe_neg]; norm_num
theorem minusOne : Ideal.ofBits .f32 0xBF800000#32 = ((-(1 : ℝ)) : EReal) := by
  simp [Ideal.ofBits, Ideal.ieee, -EReal.coe_mul, -EReal.coe_neg]; norm_num
theorem half : Ideal.ofBits .f32 0x3F000000#32 = ((1 / 2 : ℝ) : EReal) := by
  simp [Ideal.ofBits, Ideal.ieee, -EReal.coe_mul, -EReal.coe_neg]; norm_num
theorem twenty : Ideal.ofBits .f32 0x41A00000#32 = ((20 : ℕ) : EReal) := by
  rw [show ((20 : ℕ) : EReal) = ((20 : ℝ) : EReal) by norm_cast]
  simp [Ideal.ofBits, Ideal.ieee, -EReal.coe_mul, -EReal.coe_neg]; norm_num
theorem rows2048 : Ideal.ofBits .f32 0x45000000#32 = ((2048 : ℝ) : EReal) := by
  simp [Ideal.ofBits, Ideal.ieee, -EReal.coe_mul, -EReal.coe_neg]; norm_num
/-- The small number added to a variance is a positive real. -/
theorem eps_pos : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul, -EReal.coe_neg]

/-- The entry `(p, k)` under a reduction of the second axis. -/
theorem lift_row (h : (M A B).Reduces [1] (V1 A)) (p : Fin A) (k : Fin B) : h.lift (ix1 p) k = ix2 p k := by
  funext a
  apply Fin.ext
  match a with
  | ⟨0, _⟩ => rfl
  | ⟨1, _⟩ => rfl

/-- A row's largest entry bounds the row and, if the row has an entry, is one of them. -/
theorem rowMax (x : FVec Ideal (M A B) .f32) (h : (M A B).Reduces [1] (V1 A)) (hφ : FKind.Formats .f32)
    (hacc : (0xFF800000#32 : BitVec 32) = FKind.maximumf.neutral .f32 hφ) (hB : 0 < B) (p : Fin A) :
    (∀ k, x (ix2 p k) ≤ multiReduction .maximumf [1] (V1 A) x 0xFF800000#32 h hφ hacc (ix1 p))
      ∧ ∃ k, x (ix2 p k) = multiReduction .maximumf [1] (V1 A) x 0xFF800000#32 h hφ hacc (ix1 p) := by
  have e : multiReduction .maximumf [1] (V1 A) x 0xFF800000#32 h hφ hacc (ix1 p) = Finset.univ.sup fun k : Fin B => x (ix2 p k) := by
    rw [Ideal.multiReduction_maximumf_single]
    have : (FloatOps.ofBits .f32 0xFF800000#32 : Ideal .f32) = (⊥ : EReal) := negInf
    rw [this]
    exact congrArg (fun f => (Finset.univ : Finset (Fin B)).fold max (⊥ : EReal) f) (funext fun k => congrArg x (lift_row h p k))
  rw [e]
  refine ⟨fun k => Finset.le_sup (f := fun k : Fin B => x (ix2 p k)) (Finset.mem_univ k), ?_⟩
  obtain ⟨k, _, hk⟩ := Finset.exists_mem_eq_sup (Finset.univ : Finset (Fin B)) ⟨⟨0, hB⟩, Finset.mem_univ _⟩ fun k => x (ix2 p k)
  exact ⟨k, hk.symm⟩

/-- A row's least entry bounds the row and, if the row has an entry, is one of them. -/
theorem rowMin (x : FVec Ideal (M A B) .f32) (h : (M A B).Reduces [1] (V1 A)) (hφ : FKind.Formats .f32)
    (hacc : (0x7F800000#32 : BitVec 32) = FKind.minimumf.neutral .f32 hφ) (hB : 0 < B) (p : Fin A) :
    (∀ k, multiReduction .minimumf [1] (V1 A) x 0x7F800000#32 h hφ hacc (ix1 p) ≤ x (ix2 p k))
      ∧ ∃ k, x (ix2 p k) = multiReduction .minimumf [1] (V1 A) x 0x7F800000#32 h hφ hacc (ix1 p) := by
  have e : multiReduction .minimumf [1] (V1 A) x 0x7F800000#32 h hφ hacc (ix1 p) = Finset.univ.inf fun k : Fin B => x (ix2 p k) := by
    rw [multiReduction_minimumf_eq_fold]
    have : (FloatOps.ofBits .f32 0x7F800000#32 : Ideal .f32) = (⊤ : EReal) := posInf
    rw [this]
    refine (h.fold_filter_drop_single (FloatOps.minimumf (F := Ideal) (φ := .f32)) (⊤ : EReal) x (ix1 p)).trans ?_
    exact congrArg (fun f => (Finset.univ : Finset (Fin B)).fold min (⊤ : EReal) f) (funext fun k => congrArg x (lift_row h p k))
  rw [e]
  refine ⟨fun k => Finset.inf_le (f := fun k : Fin B => x (ix2 p k)) (Finset.mem_univ k), ?_⟩
  obtain ⟨k, _, hk⟩ := Finset.exists_mem_eq_inf (Finset.univ : Finset (Fin B)) ⟨⟨0, hB⟩, Finset.mem_univ _⟩ fun k => x (ix2 p k)
  exact ⟨k, hk.symm⟩

/-- A row's sum. -/
theorem rowSum (x : FVec Ideal (M A B) .f32) (h : (M A B).Reduces [1] (V1 A)) (hφ : FKind.Formats .f32)
    (hacc : (0x00000000#32 : BitVec 32) = FKind.add.neutral .f32 hφ) (p : Fin A) :
    multiReduction .add [1] (V1 A) x 0x00000000#32 h hφ hacc (ix1 p) = ∑ k : Fin B, x (ix2 p k) := by
  rw [Ideal.multiReduction_add_single]
  exact Finset.sum_congr rfl fun k _ => congrArg x (lift_row h p k)

/-- The largest entry of everything bounds every entry. -/
theorem allMax {s t : Shape} {axes : List (Fin s.rank)} (x : FVec Ideal s .f32) (h : s.Reduces axes t) (ht : ∀ b, t.size b = 1) (hφ : FKind.Formats .f32)
    (hacc : (0xFF800000#32 : BitVec 32) = FKind.maximumf.neutral .f32 hφ) (j : t.Idx) (i : s.Idx) :
    x i ≤ multiReduction .maximumf axes t x 0xFF800000#32 h hφ hacc j := by
  rw [multiReduction_maximumf_eq_fold]
  have hd : h.drop i = j := funext fun b => Fin.ext (by
    have := (h.drop i b).isLt; have := (j b).isLt; have := ht b; omega)
  exact Finset.le_fold_max (x i) |>.2 (Or.inr ⟨i, Finset.mem_filter.2 ⟨Finset.mem_univ _, hd⟩, le_rfl⟩)

/-- A column copied along the rows. -/
theorem bcast_col {α : Type} (x : (M A 1).Idx → α) (h : (M A 1).Broadcasts (M A B)) (p : Fin A) (k : Fin B) :
    broadcastTo (M A B) x h (ix2 p k) = x (ix2 p 0) := by
  refine broadcastTo_apply x h _ _ fun a => ?_
  match a with
  | ⟨0, _⟩ =>
    show p.val = if A = 1 then 0 else p.val
    split
    · have := p.isLt; omega
    · rfl
  | ⟨1, _⟩ => rfl

/-- A list of row values as a column. -/
theorem cast_col {α : Type} (x : (V1 A).Idx → α) (h : (V1 A).ShapeCasts (M A 1)) (p : Fin A) :
    shapeCast (M A 1) x h (ix2 p 0) = x (ix1 p) :=
  shapeCast_a_a1_apply x h p 0

/-- A slice of the columns. -/
theorem slice_row {α : Type} {B' : ℕ} (o : ℕ) (x : (M A B).Idx → α) (h : (M A B).Slices ![0, o] (M A B')) (p : Fin A) (k : Fin B') (hk : o + k.val < B) :
    extractStridedSlice (M A B') ![0, o] x h (ix2 p k) = x (ix2 p ⟨o + k.val, hk⟩) := by
  refine extractStridedSlice_apply _ x h _ _ fun a => ?_
  match a with
  | ⟨0, _⟩ => show p.val = 0 + p.val; omega
  | ⟨1, _⟩ => rfl

/-- A bit is set or clear. -/
theorem bit_ne {b : BitVec 1} : b ≠ 1#1 ↔ b = 0#1 := by
  revert b; decide
theorem sel {α : Type} (c : BitVec 1) (a b : α) : Scalar.select c a b = if c = 1#1 then a else b := by
  unfold Scalar.select
  rcases (by decide : ∀ v : BitVec 1, v = 1#1 ∨ v = 0#1) c with rfl | rfl <;> rfl
theorem bit_and (a b : BitVec 1) : IntOp.andi a b = 1#1 ↔ a = 1#1 ∧ b = 1#1 := by revert a b; decide
theorem bit_or (a b : BitVec 1) : IntOp.ori a b = 1#1 ↔ a = 1#1 ∨ b = 1#1 := by revert a b; decide
theorem bit_not (a : BitVec 1) : IntOp.xori a 1#1 = 1#1 ↔ ¬ a = 1#1 := by revert a; decide
theorem ofBool_iff (b : Bool) : BitVec.ofBool b = 1#1 ↔ b = true := by revert b; decide
theorem oeq (a b : EReal) : FloatOps.cmpf (F := Ideal) (φ := .f32) .oeq a b = 1#1 ↔ a = b := by
  show BitVec.ofBool (decide (a = b)) = 1#1 ↔ _
  rw [ofBool_iff, decide_eq_true_iff]
theorem ogt (a b : EReal) : FloatOps.cmpf (F := Ideal) (φ := .f32) .ogt a b = 1#1 ↔ b < a := by
  show BitVec.ofBool (decide (b < a)) = 1#1 ↔ _
  rw [ofBool_iff, decide_eq_true_iff]
theorem oge (a b : EReal) : FloatOps.cmpf (F := Ideal) (φ := .f32) .oge a b = 1#1 ↔ b ≤ a := by
  show BitVec.ofBool (decide (b ≤ a)) = 1#1 ↔ _
  rw [ofBool_iff, decide_eq_true_iff]
theorem olt (a b : EReal) : FloatOps.cmpf (F := Ideal) (φ := .f32) .olt a b = 1#1 ↔ a < b := by
  show BitVec.ofBool (decide (a < b)) = 1#1 ↔ _
  rw [ofBool_iff, decide_eq_true_iff]

/-- A sum of indicator weights is a count. -/
theorem cast_sum {ι : Type} (s : Finset ι) (f : ι → ℕ) : ((∑ i ∈ s, f i : ℕ) : EReal) = ∑ i ∈ s, ((f i : ℕ) : EReal) := by
  classical
  induction s using Finset.induction_on with
  | empty => simp
  | insert a s ha ih => rw [Finset.sum_insert ha, Finset.sum_insert ha, ← ih]; push_cast; rfl

/-- A sum of ones and zeros is the number of ones. -/
theorem ind_sum {ι : Type} (s : Finset ι) (P : ι → Prop) [DecidablePred P] (f : ι → EReal) (h1 : ∀ i, P i → f i = 1) (h0 : ∀ i, ¬ P i → f i = 0) :
    ∑ i ∈ s, f i = (((s.filter P).card : ℕ) : EReal) := by
  rw [Finset.card_filter, cast_sum]
  refine Finset.sum_congr rfl fun i _ => ?_
  by_cases h : P i
  · rw [h1 i h, if_pos h]; norm_cast
  · rw [h0 i h, if_neg h]; norm_cast

theorem cast_le (a b : ℕ) : ((a : ℕ) : EReal) ≤ ((b : ℕ) : EReal) ↔ a ≤ b := by norm_cast
theorem cast_lt (a b : ℕ) : ((a : ℕ) : EReal) < ((b : ℕ) : EReal) ↔ a < b := by norm_cast
theorem cast_sub (a b : ℕ) (h : b ≤ a) : ((a : ℕ) : EReal) - ((b : ℕ) : EReal) = ((a - b : ℕ) : EReal) := by
  have h1 : ((a : ℕ) : EReal) = ((a : ℝ) : EReal) := by norm_cast
  have h2 : ((b : ℕ) : EReal) = ((b : ℝ) : EReal) := by norm_cast
  have h3 : ((a - b : ℕ) : EReal) = (((a - b : ℕ) : ℝ) : EReal) := by norm_cast
  rw [h1, h2, h3, ← EReal.coe_sub, Nat.cast_sub h]

end Cert.Row
-- ==== Proof.V.Planes.lean ====
/- The planes of lane-class maxima and counts are the four levels of a row. -/
module

public import proofs.«01_k».proof.Proof.V.Sel
public import proofs.«01_k».proof.Proof.V.RowOps
public import proofs.«01_k».proof.Proof.KI.Body0

@[expose] public section

set_option maxRecDepth 65536

noncomputable section

namespace Cert.Row

open Idealize.ShloMosaic Idealize.ShloMosaic.ValueIdx Idealize.ShloMosaic.Pipeline
open Finset

/-- `Y` holds the maxima of the classes modulo `B` of the row `X`. -/
def MaxCls {N : ℕ} (X : Fin N → EReal) (B : ℕ) (Y : Fin B → EReal) : Prop :=
  ∀ k : Fin B, (∀ j : Fin N, j.val % B = k.val → X j ≤ Y k) ∧ ∃ j : Fin N, j.val % B = k.val ∧ X j = Y k

/-- `Y` holds the sums of the classes modulo `B` of the row `X`. -/
def SumCls {N : ℕ} (X : Fin N → EReal) (B : ℕ) (Y : Fin B → EReal) : Prop :=
  ∀ k : Fin B, Y k = ∑ j ∈ univ.filter (fun j : Fin N => j.val % B = k.val), X j

theorem MaxCls.whole {N : ℕ} (X : Fin N → EReal) : MaxCls X N X := by
  intro k
  refine ⟨fun j hj => ?_, k, Nat.mod_eq_of_lt k.isLt, rfl⟩
  rw [Nat.mod_eq_of_lt j.isLt] at hj
  rw [Fin.ext hj]

theorem SumCls.whole {N : ℕ} (X : Fin N → EReal) : SumCls X N X := by
  intro k
  have : univ.filter (fun j : Fin N => j.val % N = k.val) = {k} := by
    ext j
    rw [mem_filter, mem_singleton, Nat.mod_eq_of_lt j.isLt]
    exact ⟨fun h => Fin.ext h.2, fun h => ⟨mem_univ _, congrArg _ h⟩⟩
  rw [this, sum_singleton]

/-- A position's class modulo half the width: one of two classes modulo the width. -/
theorem mod_half (j B k : ℕ) (hB : 0 < B) (hk : k < B) : j % B = k ↔ j % (B + B) = k ∨ j % (B + B) = B + k := by
  have h1 : j % (B + B) % B = j % B := by
    rw [show B + B = B * 2 by ring]; exact Nat.mod_mul_right_mod j B 2
  have h2 : j % (B + B) < B + B := Nat.mod_lt _ (by omega)
  constructor
  · intro h
    rcases lt_or_ge (j % (B + B)) B with q | q
    · left; rw [← h, ← h1, Nat.mod_eq_of_lt q]
    · right
      have : j % (B + B) % B = j % (B + B) - B := by
        rw [Nat.mod_eq_sub_mod q, Nat.mod_eq_of_lt (by omega)]
      omega
  · rintro (h | h)
    · rw [← h1, h, Nat.mod_eq_of_lt hk]
    · rw [← h1, h, Nat.add_mod_left, Nat.mod_eq_of_lt hk]

/-- Halving a row by the larger of two entries keeps its class maxima. -/
theorem MaxCls.halve {N A B C : ℕ} {X : Fin N → EReal} {p : Fin A} (y : FVec Ideal (M A C) .f32) (hC : B + B = C)
    (h0 : (M A C).Slices ![0, 0] (M A B)) (h1 : (M A C).Slices ![0, B] (M A B)) (h : MaxCls X C fun k => y (ix2 p k)) :
    MaxCls X B fun k => maximumf (extractStridedSlice (M A B) ![0, 0] y h0) (extractStridedSlice (M A B) ![0, B] y h1) (ix2 p k) := by
  subst hC
  intro k
  have hk := k.isLt
  have e : maximumf (extractStridedSlice (M A B) ![0, 0] y h0) (extractStridedSlice (M A B) ![0, B] y h1) (ix2 p k)
      = max (y (ix2 p ⟨0 + k.val, by omega⟩)) (y (ix2 p ⟨B + k.val, by omega⟩)) := by
    rw [← slice_row 0 y h0 p k, ← slice_row B y h1 p k]; rfl
  beta_reduce
  rw [e]
  obtain ⟨a1, j1, b1, c1⟩ := h ⟨0 + k.val, by omega⟩
  obtain ⟨a2, j2, b2, c2⟩ := h ⟨B + k.val, by omega⟩
  refine ⟨fun j hj => ?_, ?_⟩
  · rcases (mod_half j.val B k.val (by omega) hk).1 hj with q | q
    · exact le_max_of_le_left (a1 j (by rw [q]; exact (Nat.zero_add _).symm))
    · exact le_max_of_le_right (a2 j q)
  · rcases le_total (y (ix2 p ⟨0 + k.val, by omega⟩)) (y (ix2 p ⟨B + k.val, by omega⟩)) with q | q
    · exact ⟨j2, (mod_half j2.val B k.val (by omega) hk).2 (Or.inr b2), by rw [max_eq_right q]; exact c2⟩
    · exact ⟨j1, (mod_half j1.val B k.val (by omega) hk).2 (Or.inl (b1.trans (Nat.zero_add _))), by rw [max_eq_left q]; exact c1⟩

/-- Halving a row by the sum of two entries keeps its class sums. -/
theorem SumCls.halve {N A B C : ℕ} {X : Fin N → EReal} {p : Fin A} (y : FVec Ideal (M A C) .f32) (hC : B + B = C)
    (h0 : (M A C).Slices ![0, 0] (M A B)) (h1 : (M A C).Slices ![0, B] (M A B)) (h : SumCls X C fun k => y (ix2 p k)) :
    SumCls X B fun k => addf (extractStridedSlice (M A B) ![0, 0] y h0) (extractStridedSlice (M A B) ![0, B] y h1) (ix2 p k) := by
  subst hC
  intro k
  have hk := k.isLt
  have e : addf (extractStridedSlice (M A B) ![0, 0] y h0) (extractStridedSlice (M A B) ![0, B] y h1) (ix2 p k)
      = y (ix2 p ⟨0 + k.val, by omega⟩) + y (ix2 p ⟨B + k.val, by omega⟩) := by
    rw [← slice_row 0 y h0 p k, ← slice_row B y h1 p k]; rfl
  beta_reduce
  rw [e]
  refine (congrArg₂ (fun a b : EReal => a + b) (h ⟨0 + k.val, by omega⟩) (h ⟨B + k.val, by omega⟩)).trans ?_
  show ∑ j ∈ univ.filter (fun j : Fin N => j.val % (B + B) = 0 + k.val), X j + ∑ j ∈ univ.filter (fun j : Fin N => j.val % (B + B) = B + k.val), X j = _
  rw [← sum_union (disjoint_left.2 fun j h1 h2 => by
    have h1 := (mem_filter.1 h1).2; have h2 := (mem_filter.1 h2).2; omega)]
  refine sum_congr ?_ fun _ _ => rfl
  ext j
  rw [mem_union, mem_filter, mem_filter, mem_filter, mod_half j.val B k.val (by omega) hk, Nat.zero_add]
  simp

end Cert.Row

namespace Cert.KernelIdeal.Val

open Idealize.ShloMosaic Idealize.ShloMosaic.ValueIdx Idealize.ShloMosaic.Pipeline
open Cert.KernelIdeal Cert.KernelIdeal.Gen Cert.KernelIdeal.Reg Cert.Row
open Finset

/-- The folded row holds the maxima of the 256 lane classes. -/
theorem pay1_cls (x : FVec Ideal S128x16384 .f32) (p : Fin 128) :
    MaxCls (fun j => x (ix2 p j)) 256 fun k => k0_pay1 (F := Ideal) x (ix2 p k) := by
  unfold k0_pay1
  exact MaxCls.halve (A := 128) (B := 256) (C := 512) _ rfl _ _ <| MaxCls.halve (A := 128) (B := 512) (C := 1024) _ rfl _ _ <|
    MaxCls.halve (A := 128) (B := 1024) (C := 2048) _ rfl _ _ <| MaxCls.halve (A := 128) (B := 2048) (C := 4096) _ rfl _ _ <|
    MaxCls.halve (A := 128) (B := 4096) (C := 8192) _ rfl _ _ <| MaxCls.halve (A := 128) (B := 8192) (C := 16384) _ rfl _ _ <|
    MaxCls.whole _

/-- The class of an index. -/
abbrev cls (j : Fin 16384) : Fin 256 := ⟨j.val % 256, Nat.mod_lt _ (by omega)⟩

/-- An entry is marked when it is the maximum of its class. -/
theorem pay2_apply (x : FVec Ideal S128x16384 .f32) (p : Fin 128) (j : Fin 16384) :
    k0_pay2 (F := Ideal) x (ix2 p j) = 1#1 ↔ x (ix2 p j) = k0_pay1 (F := Ideal) x (ix2 p (cls j)) := by
  unfold k0_pay2
  refine (oeq _ _).trans (Iff.of_eq (congrArg (fun z : EReal => x (ix2 p j) = z) ?_))
  exact concatenate_replicate_apply (s₁ := S128x256) (t := S128x16384) 1 64 (k0_pay1 (F := Ideal) x) _ rfl (ix2 p j) (ix2 p (cls j)) rfl (by
    intro b hb
    match b with
    | ⟨0, _⟩ => rfl
    | ⟨1, _⟩ => exact absurd rfl hb)

/-- The weight one at the marked entries, zero elsewhere. -/
theorem ones_apply {s : Shape} (c : IVec s 1) (i : s.Idx) :
    (c i = 1#1 → select c (broadcast s (Scalar.ofBits .f32 0x3F800000#32 : Ideal .f32)) (broadcast s (Scalar.ofBits .f32 0x00000000#32 : Ideal .f32)) i = (1 : EReal))
      ∧ (¬ c i = 1#1 → select c (broadcast s (Scalar.ofBits .f32 0x3F800000#32 : Ideal .f32)) (broadcast s (Scalar.ofBits .f32 0x00000000#32 : Ideal .f32)) i = (0 : EReal)) := by
  have e : select c (broadcast s (Scalar.ofBits .f32 0x3F800000#32 : Ideal .f32)) (broadcast s (Scalar.ofBits .f32 0x00000000#32 : Ideal .f32)) i
      = if c i = 1#1 then (1 : EReal) else 0 := by
    refine (sel _ _ _).trans ?_
    rw [show (broadcast s (Scalar.ofBits .f32 0x3F800000#32 : Ideal .f32)) i = (1 : EReal) from one,
      show (broadcast s (Scalar.ofBits .f32 0x00000000#32 : Ideal .f32)) i = (0 : EReal) from zero]
  rw [e]
  exact ⟨fun h => if_pos h, fun h => if_neg h⟩

/-- The number of marked entries of each class, where its maximum is not the mark. -/
theorem pay4_cls (x : FVec Ideal S128x16384 .f32) (p : Fin 128) (k : Fin 256) (h : (0 : EReal) ≤ k0_pay1 (F := Ideal) x (ix2 p k)) :
    k0_pay4 (F := Ideal) x (ix2 p k)
      = ((((univ : Finset (Fin 16384)).filter fun j => cls j = k ∧ x (ix2 p j) = k0_pay1 (F := Ideal) x (ix2 p k)).card : ℕ) : EReal) := by
  unfold k0_pay4
  refine (sel _ _ _).trans ((if_pos ((oge _ _).2 ?_)).trans ?_)
  · exact (le_of_eq zero).trans h
  · refine ((SumCls.halve (A := 128) (B := 256) (C := 512) _ rfl _ _ <| SumCls.halve (A := 128) (B := 512) (C := 1024) _ rfl _ _ <|
      SumCls.halve (A := 128) (B := 1024) (C := 2048) _ rfl _ _ <| SumCls.halve (A := 128) (B := 2048) (C := 4096) _ rfl _ _ <|
      SumCls.halve (A := 128) (B := 4096) (C := 8192) _ rfl _ _ <| SumCls.halve (A := 128) (B := 8192) (C := 16384) (p := p) _ rfl _ _ <|
      SumCls.whole _) k).trans ?_
    refine (ind_sum _ (fun j => x (ix2 p j) = k0_pay1 (F := Ideal) x (ix2 p (cls j))) _ (fun j hj => ?_) fun j hj => ?_).trans ?_
    · exact (ones_apply _ _).1 ((pay2_apply x p j).2 hj)
    · exact (ones_apply _ _).2 fun q => hj ((pay2_apply x p j).1 q)
    · rw [filter_filter]
      refine congrArg (fun n : ℕ => (n : EReal)) (congrArg card ?_)
      ext j
      simp only [mem_filter, mem_univ, true_and]
      constructor
      · rintro ⟨a, b⟩
        have : cls j = k := Fin.ext a
        exact ⟨this, by rw [← this]; exact b⟩
      · rintro ⟨a, b⟩
        exact ⟨congrArg Fin.val a, by rw [a]; exact b⟩

/-- The mark of a used entry. -/
abbrev mark : EReal := ((-(1 : ℝ)) : EReal)
theorem mark_lt : mark < 0 := by
  show ((-1 : ℝ) : EReal) < ((0 : ℝ) : EReal)
  exact EReal.coe_lt_coe_iff.2 (by norm_num)

/-- Marking the entries chosen by `c`. -/
theorem marked_apply {s : Shape} (c : IVec s 1) (x : FVec Ideal s .f32) (i : s.Idx) :
    select c (broadcast s (Scalar.ofBits .f32 0xBF800000#32 : Ideal .f32)) x i = if c i = 1#1 then mark else x i := by
  refine (sel _ _ _).trans ?_
  rw [show (broadcast s (Scalar.ofBits .f32 0xBF800000#32 : Ideal .f32)) i = mark from minusOne]

/-- Each trip marks the class maxima. -/
theorem wk1_succ (x : FVec Ideal S128x16384 .f32) (d : ℕ) (p : Fin 128) (j : Fin 16384) :
    wk1 (F := Ideal) x (d + 1) (ix2 p j)
      = if (wk1 (F := Ideal) x d (ix2 p j) : EReal) = k0_pay1 (F := Ideal) (wk1 (F := Ideal) x d) (ix2 p (cls j)) then mark else wk1 (F := Ideal) x d (ix2 p j) := by
  show k0_pay15 (F := Ideal) _ _ _ = _
  unfold k0_pay15
  rw [shapeCast_self, marked_apply]
  by_cases h : (wk1 (F := Ideal) x d (ix2 p j) : EReal) = k0_pay1 (F := Ideal) (wk1 (F := Ideal) x d) (ix2 p (cls j))
  · rw [if_pos h, if_pos ((pay2_apply _ p j).2 h)]
  · rw [if_neg h, if_neg fun q => h ((pay2_apply _ p j).1 q)]

theorem wk1_zero (x : FVec Ideal S128x16384 .f32) : wk1 (F := Ideal) x 0 = x := by
  show k0_pay13 (F := Ideal) x = x
  unfold k0_pay13
  exact shapeCast_self _ _

/-- Every entry of the work array is the mark or not negative. -/
theorem wk1_nonneg (x : FVec Ideal S128x16384 .f32) (p : Fin 128) (hx : ∀ j, (0 : EReal) ≤ x (ix2 p j)) (d : ℕ) (j : Fin 16384) :
    wk1 (F := Ideal) x d (ix2 p j) = mark ∨ (0 : EReal) ≤ wk1 (F := Ideal) x d (ix2 p j) := by
  induction d with
  | zero => right; rw [wk1_zero]; exact hx j
  | succ d ih =>
    rw [wk1_succ]
    split
    · exact Or.inl rfl
    · exact ih

/-- The levels' values and counts. -/
abbrev lvD (x : FVec Ideal S128x16384 .f32) (p : Fin 128) (d : ℕ) (l : Fin 256) : EReal := k0_pay1 (F := Ideal) (wk1 (F := Ideal) x d) (ix2 p l)
def lvK (x : FVec Ideal S128x16384 .f32) (p : Fin 128) (d : ℕ) (l : Fin 256) : ℕ :=
  ((univ : Finset (Fin 16384)).filter fun j => cls j = l ∧ wk1 (F := Ideal) x d (ix2 p j) = lvD x p d l).card

/-- The planes hold the four levels of the row. -/
theorem levels (x : FVec Ideal S128x16384 .f32) (p : Fin 128) (hx : ∀ j, (0 : EReal) ≤ x (ix2 p j)) :
    Cert.Sel.Levels (fun j => (x (ix2 p j) : EReal)) mark cls (fun d => lvD x p d.val) (fun d => lvK x p d.val) := by
  refine Cert.Sel.levels_of_marking (fun j => mark_lt.trans_le (hx j)) (fun d j => wk1 (F := Ideal) x d (ix2 p j)) (lvD x p) (lvK x p) ?_ ?_ ?_ ?_ ?_
  · funext j; rw [wk1_zero]
  · intro d j
    exact (wk1_succ x d p j).trans (by congr)
  · exact fun d j => (pay1_cls _ p (cls j)).1 j rfl
  · intro d l
    obtain ⟨j, a, b⟩ := (pay1_cls (wk1 (F := Ideal) x d) p l).2
    exact ⟨j, Fin.ext a, b⟩
  · intro d l _
    unfold lvK
    congr

/-- The count plane holds the count where the level is not the mark. -/
theorem pay4_wk1 (x : FVec Ideal S128x16384 .f32) (p : Fin 128) (hx : ∀ j, (0 : EReal) ≤ x (ix2 p j)) (d : ℕ) (l : Fin 256) (h : lvD x p d l ≠ mark) :
    k0_pay4 (F := Ideal) (wk1 (F := Ideal) x d) (ix2 p l) = ((lvK x p d l : ℕ) : EReal) := by
  obtain ⟨j, a, b⟩ := (pay1_cls (wk1 (F := Ideal) x d) p l).2
  refine pay4_cls _ p l ?_
  rcases wk1_nonneg x p hx d j with q | q
  · exact absurd (b.symm.trans q) h
  · exact le_of_le_of_eq q b

theorem pay4_mark (x : FVec Ideal S128x16384 .f32) (p : Fin 128) (k : Fin 256) (h : k0_pay1 (F := Ideal) x (ix2 p k) = mark) :
    k0_pay4 (F := Ideal) x (ix2 p k) = (0 : EReal) := by
  unfold k0_pay4
  refine (sel _ _ _).trans ((if_neg fun q => ?_).trans zero)
  have q : Ideal.ofBits .f32 0x00000000#32 ≤ k0_pay1 (F := Ideal) x (ix2 p k) := (oge _ _).1 q
  rw [zero, h] at q
  exact absurd mark_lt (not_lt.2 q)

/-- The counts, zero where a class has no further value. -/
def lvN (x : FVec Ideal S128x16384 .f32) (p : Fin 128) (d : ℕ) (l : Fin 256) : ℕ := if lvD x p d l = mark then 0 else lvK x p d l

theorem levelsN (x : FVec Ideal S128x16384 .f32) (p : Fin 128) (hx : ∀ j, (0 : EReal) ≤ x (ix2 p j)) :
    Cert.Sel.Levels (fun j => (x (ix2 p j) : EReal)) mark cls (fun d => lvD x p d.val) (fun d => lvN x p d.val) := by
  have h := levels x p hx
  exact ⟨fun d l q => (if_neg q).trans (h.cnt d l q), h.all, h.inj, h.mem⟩

/-- The count plane holds the counts. -/
theorem pay4_lvN (x : FVec Ideal S128x16384 .f32) (p : Fin 128) (hx : ∀ j, (0 : EReal) ≤ x (ix2 p j)) (d : ℕ) (l : Fin 256) :
    k0_pay4 (F := Ideal) (wk1 (F := Ideal) x d) (ix2 p l) = ((lvN x p d l : ℕ) : EReal) := by
  unfold lvN
  by_cases h : lvD x p d l = mark
  · rw [if_pos h, pay4_mark _ p l h]; norm_cast
  · rw [if_neg h]; exact pay4_wk1 x p hx d l h

/-- The planes as the rounds read them. -/
theorem cast_round {α : Type} (y : S128x256.Idx → α) (h : S128x256.ShapeCasts S1x128x256) (h' : S1x128x256.ShapeCasts S128x256) :
    shapeCast S128x256 (shapeCast S1x128x256 y h) h' = y := by
  funext i
  obtain ⟨p, l, rfl⟩ : ∃ p l, i = ix2 p l := ⟨i 0, i 1, by funext a; match a with | ⟨0, _⟩ => rfl | ⟨1, _⟩ => rfl⟩
  exact (shapeCast_1ab_ab_apply (a := 128) (b := 256) _ h' p l).trans (shapeCast_ab_1ab_apply (a := 128) (b := 256) y h 0 p l)

end Cert.KernelIdeal.Val
-- ==== Proof.V.Search.lean ====
/- The rounds on the planes find a row's threshold or report that they may not have. -/
module

public import proofs.«01_k».proof.Proof.V.Planes

@[expose] public section

set_option maxRecDepth 65536

noncomputable section

namespace Cert.KernelIdeal.Val

open Idealize.ShloMosaic Idealize.ShloMosaic.ValueIdx Idealize.ShloMosaic.Pipeline
open Cert.KernelIdeal Cert.KernelIdeal.Gen Cert.KernelIdeal.Reg Cert.Row
open Finset

/-- A row of the four planes. -/
def rowP (s : RS Ideal) (p : Fin 128) (d : Fin 4) (l : Fin 256) : EReal :=
  ![(s.p0 (ix2 p l) : EReal), s.p1 (ix2 p l), s.p2 (ix2 p l), s.p3 (ix2 p l)] d

/-- The row's largest value left. -/
abbrev rowM (s : RS Ideal) (p : Fin 128) : EReal := rM (F := Ideal) s (ix2 p 0)

theorem rowM_le (s : RS Ideal) (p : Fin 128) : (∀ d l, rowP s p d l ≤ rowM s p) ∧ ∃ d l, rowP s p d l = rowM s p := by
  have e : rowM s p = multiReduction .maximumf [1] S128 (rX s) 0xFF800000#32 reduces_S128x256_S128 (.inl rfl) rfl (ix1 p) := cast_col (A := 128) _ _ p
  obtain ⟨h1, l0, h2⟩ := rowMax (A := 128) (B := 256) (rX s) reduces_S128x256_S128 (.inl rfl) rfl (by omega) p
  rw [← e] at h1 h2
  have ex : ∀ l, (rX s (ix2 p l) : EReal) = max (max (max (rowP s p 0 l) (rowP s p 1 l)) (rowP s p 2 l)) (rowP s p 3 l) := fun l => rfl
  constructor
  · intro d l
    refine le_trans ?_ (h1 l)
    rw [ex]
    fin_cases d
    · exact (le_max_left _ _).trans ((le_max_left _ _).trans (le_max_left _ _))
    · exact (le_max_right _ _).trans ((le_max_left _ _).trans (le_max_left _ _))
    · exact (le_max_right _ _).trans (le_max_left _ _)
    · exact le_max_right _ _
  · rw [← h2, ex]
    rcases max_choice (max (max (rowP s p 0 l0) (rowP s p 1 l0)) (rowP s p 2 l0)) (rowP s p 3 l0) with a | a
    · rcases max_choice (max (rowP s p 0 l0) (rowP s p 1 l0)) (rowP s p 2 l0) with b | b
      · rcases max_choice (rowP s p 0 l0) (rowP s p 1 l0) with c | c
        · exact ⟨0, l0, by rw [a, b, c]⟩
        · exact ⟨1, l0, by rw [a, b, c]⟩
      · exact ⟨2, l0, by rw [a, b]⟩
    · exact ⟨3, l0, by rw [a]⟩

theorem eq_bit (y : FVec Ideal S128x256 .f32) (s : RS Ideal) (p : Fin 128) (l : Fin 256) :
    cmpf .oeq y (rB (F := Ideal) s) (ix2 p l) = 1#1 ↔ (y (ix2 p l) : EReal) = rowM s p := by
  refine (oeq _ _).trans (Iff.of_eq (congrArg (fun z : EReal => (y (ix2 p l) : EReal) = z) ?_))
  exact bcast_col (A := 128) (B := 256) _ _ p l

/-- The number of entries the planes' counts give for the row's largest value left. -/
abbrev rowN (s : RS Ideal) (p : Fin 128) (k : Fin 4 → Fin 256 → ℕ) : ℕ := ∑ l, ∑ d, (if rowP s p d l = rowM s p then k d l else 0)

theorem pick (y c : FVec Ideal S128x256 .f32) (s : RS Ideal) (p : Fin 128) (l : Fin 256) (n : ℕ) (hc : c (ix2 p l) = ((n : ℕ) : EReal)) :
    select (cmpf .oeq y (rB (F := Ideal) s)) c (rZ (F := Ideal)) (ix2 p l) = (((if (y (ix2 p l) : EReal) = rowM s p then n else 0 : ℕ)) : EReal) := by
  refine (sel _ _ _).trans ?_
  by_cases h : (y (ix2 p l) : EReal) = rowM s p
  · rw [if_pos ((eq_bit y s p l).2 h), if_pos h, hc]
  · rw [if_neg fun q => h ((eq_bit y s p l).1 q), if_neg h]
    exact zero.trans (by norm_cast)

theorem rowC (c0 c1 c2 c3 : FVec Ideal S128x256 .f32) (s : RS Ideal) (p : Fin 128) (k : Fin 4 → Fin 256 → ℕ)
    (h0 : ∀ l, c0 (ix2 p l) = ((k 0 l : ℕ) : EReal)) (h1 : ∀ l, c1 (ix2 p l) = ((k 1 l : ℕ) : EReal))
    (h2 : ∀ l, c2 (ix2 p l) = ((k 2 l : ℕ) : EReal)) (h3 : ∀ l, c3 (ix2 p l) = ((k 3 l : ℕ) : EReal)) :
    rC (F := Ideal) c0 c1 c2 c3 s (ix2 p 0) = ((rowN s p k : ℕ) : EReal) := by
  refine (cast_col (A := 128) _ _ p).trans ((rowSum (A := 128) (B := 256) _ reduces_S128x256_S128 (.inl rfl) rfl p).trans ?_)
  rw [cast_sum]
  refine sum_congr rfl fun l _ => ?_
  have e : ∀ a b c d : EReal, ∀ a' b' c' d' : ℕ, a = (a' : EReal) → b = (b' : EReal) → c = (c' : EReal) → d = (d' : EReal) → a + b + c + d = ((a' + b' + c' + d' : ℕ) : EReal) := by
    rintro _ _ _ _ a' b' c' d' rfl rfl rfl rfl
    push_cast; rfl
  refine (e _ _ _ _ _ _ _ _ (pick s.p0 c0 s p l _ (h0 l)) (pick s.p1 c1 s p l _ (h1 l)) (pick s.p2 c2 s p l _ (h2 l)) (pick s.p3 c3 s p l _ (h3 l))).trans ?_
  rw [Fin.sum_univ_four]
  rfl

theorem flipped (a : IVec S128x1 1) (i : S128x1.Idx) : xori a (constantI S128x1 1 1#1) i = 1#1 ↔ ¬ a i = 1#1 := bit_not _

theorem hit_iff (c0 c1 c2 c3 : FVec Ideal S128x256 .f32) (s : RS Ideal) (p : Fin 128) (r n : ℕ) (hr : s.rc (ix2 p 0) = ((r : ℕ) : EReal))
    (hn : rC (F := Ideal) c0 c1 c2 c3 s (ix2 p 0) = ((n : ℕ) : EReal)) :
    rHit (F := Ideal) c0 c1 c2 c3 s (ix2 p 0) = 1#1 ↔ ¬ s.fd (ix2 p 0) = 1#1 ∧ 20 ≤ r + n := by
  refine (bit_and _ _).trans (and_congr (flipped _ _) ((oge _ _).trans ?_))
  have e1 : (addf s.rc (rC (F := Ideal) c0 c1 c2 c3 s) (ix2 p 0) : EReal) = ((r + n : ℕ) : EReal) := by
    refine (congrArg₂ (fun a b : EReal => a + b) hr hn).trans ?_
    push_cast; rfl
  rw [e1, show (broadcast S128x1 (Scalar.ofBits .f32 0x41A00000#32 : Ideal .f32)) (ix2 p 0) = ((20 : ℕ) : EReal) from twenty, cast_le]

/-- What the planes' rounds know of row `p` of `x` after `n` rounds. -/
def GoodAt (x : FVec Ideal S128x16384 .f32) (p : Fin 128) (n : ℕ) (s : RS Ideal) : Prop :=
  Cert.Sel.Good (fun j : Fin 16384 => (x (ix2 p j) : EReal)) mark 20 (fun d l => lvD x p d.val l) n (rowP s p) (s.thr (ix2 p 0) : EReal)
    (fun a => s.nk (ix2 p 0) = ((a : ℕ) : EReal)) (s.fd (ix2 p 0) = 1#1) (s.su (ix2 p 0) = 1#1) (fun r => s.rc (ix2 p 0) = ((r : ℕ) : EReal))

theorem goodAt_step (x : FVec Ideal S128x16384 .f32) (p : Fin 128) (hx : ∀ j, (0 : EReal) ≤ x (ix2 p j)) (c0 c1 c2 c3 : FVec Ideal S128x256 .f32)
    (h0 : ∀ l, c0 (ix2 p l) = ((lvN x p 0 l : ℕ) : EReal)) (h1 : ∀ l, c1 (ix2 p l) = ((lvN x p 1 l : ℕ) : EReal))
    (h2 : ∀ l, c2 (ix2 p l) = ((lvN x p 2 l : ℕ) : EReal)) (h3 : ∀ l, c3 (ix2 p l) = ((lvN x p 3 l : ℕ) : EReal))
    (n : ℕ) (s : RS Ideal) (h : GoodAt x p n s) : GoodAt x p (n + 1) (rstep (F := Ideal) c0 c1 c2 c3 s) := by
  have hC := rowC c0 c1 c2 c3 s p (fun d l => lvN x p d.val l) h0 h1 h2 h3
  obtain ⟨hm, hm'⟩ := rowM_le s p
  have hit : rHit (F := Ideal) c0 c1 c2 c3 s (ix2 p 0) = 1#1 → ¬ s.fd (ix2 p 0) = 1#1 := fun q => (flipped _ _).1 ((bit_and _ _).1 q).1
  have ethr : ((rstep (F := Ideal) c0 c1 c2 c3 s).thr (ix2 p 0) : EReal) = if rHit (F := Ideal) c0 c1 c2 c3 s (ix2 p 0) = 1#1 then rowM s p else s.thr (ix2 p 0) := sel _ _ _
  have enk : ((rstep (F := Ideal) c0 c1 c2 c3 s).nk (ix2 p 0) : EReal)
      = if rHit (F := Ideal) c0 c1 c2 c3 s (ix2 p 0) = 1#1 then subf (broadcast S128x1 (Scalar.ofBits .f32 0x41A00000#32 : Ideal .f32)) s.rc (ix2 p 0) else s.nk (ix2 p 0) := sel _ _ _
  have efd : (rstep (F := Ideal) c0 c1 c2 c3 s).fd (ix2 p 0) = 1#1 ↔ s.fd (ix2 p 0) = 1#1 ∨ rHit (F := Ideal) c0 c1 c2 c3 s (ix2 p 0) = 1#1 := bit_or _ _
  refine Cert.Sel.Good.step (fun j => mark_lt.trans_le (hx j)) (by simp) (levelsN x p hx) h hm hm' ?_ ?_ ?_ ?_ ?_ ?_
  · intro d l
    fin_cases d
    · exact (marked_apply _ s.p0 _).trans (if_congr (eq_bit s.p0 s p l) rfl rfl)
    · exact (marked_apply _ s.p1 _).trans (if_congr (eq_bit s.p1 s p l) rfl rfl)
    · exact (marked_apply _ s.p2 _).trans (if_congr (eq_bit s.p2 s p l) rfl rfl)
    · exact (marked_apply _ s.p3 _).trans (if_congr (eq_bit s.p3 s p l) rfl rfl)
  · exact fun q => (bit_or _ _).2 (Or.inl q)
  · intro q
    have nh : ¬ rHit (F := Ideal) c0 c1 c2 c3 s (ix2 p 0) = 1#1 := fun g => hit g q
    exact ⟨efd.2 (Or.inl q), by rw [ethr, if_neg nh], fun a ha => by rw [enk, if_neg nh]; exact ha⟩
  · intro q r hr hlt hge
    have g := (hit_iff c0 c1 c2 c3 s p r _ hr hC).2 ⟨q, hge⟩
    refine ⟨efd.2 (Or.inr g), by rw [ethr, if_pos g], ?_⟩
    rw [enk, if_pos g, ← cast_sub 20 r hlt.le]
    exact congrArg₂ (fun a b : EReal => a - b) twenty hr
  · intro q r hr hlt
    have g : ¬ rHit (F := Ideal) c0 c1 c2 c3 s (ix2 p 0) = 1#1 := fun g => absurd ((hit_iff c0 c1 c2 c3 s p r _ hr hC).1 g).2 (not_le.2 hlt)
    refine ⟨fun w => (efd.1 w).elim q g, ?_⟩
    refine (congrArg₂ (fun a b : EReal => a + b) hr hC).trans ?_
    push_cast; rfl
  · rintro q ⟨l, hl⟩
    refine (bit_or _ _).2 (Or.inr ((bit_and _ _).2 ⟨(ogt _ _).2 ?_, (flipped _ _).2 q⟩))
    have e := (rowMax (A := 128) (B := 256) (select (rE3 s) (broadcast S128x256 (Scalar.ofBits .f32 0x3F800000#32 : Ideal .f32)) rZ) reduces_S128x256_S128 (.inl rfl) rfl (by omega) p).1 l
    refine lt_of_lt_of_le ?_ (e.trans (le_of_eq (cast_col (A := 128) _ shapeCasts_S128_S128x1 p).symm))
    rw [show select (rE3 (F := Ideal) s) (broadcast S128x256 (Scalar.ofBits .f32 0x3F800000#32 : Ideal .f32)) rZ (ix2 p l) = (1 : EReal) from (ones_apply _ _).1 ((eq_bit s.p3 s p l).2 hl)]
    exact (le_of_eq zero).trans_lt zero_lt_one

theorem not_gt01 (i : S128x1.Idx) : ¬ cmpf .ogt (broadcast S128x1 (Scalar.ofBits .f32 0x00000000#32) : FVec Ideal S128x1 .f32) (broadcast S128x1 (Scalar.ofBits .f32 0x3F800000#32)) i = 1#1 := by
  intro q
  have q : Ideal.ofBits .f32 0x3F800000#32 < Ideal.ofBits .f32 0x00000000#32 := (ogt _ _).1 q
  rw [one, zero] at q
  exact absurd q (not_lt.2 zero_le_one)

/-! The count planes as the rounds read them. -/

theorem plC0 (x : FVec Ideal S128x16384 .f32) : k0_pay20 (F := Ideal) (plC (F := Ideal) x 0) = k0_pay4 (F := Ideal) (wk1 (F := Ideal) x 0) := by
  unfold k0_pay20 plC k0_pay14; exact cast_round _ _ _
theorem plC1 (x : FVec Ideal S128x16384 .f32) : k0_pay21 (F := Ideal) (plC (F := Ideal) x 1) = k0_pay4 (F := Ideal) (wk1 (F := Ideal) x 1) := by
  unfold k0_pay21 plC k0_pay14; exact cast_round _ _ _
theorem plC2 (x : FVec Ideal S128x16384 .f32) : k0_pay22 (F := Ideal) (plC (F := Ideal) x 2) = k0_pay4 (F := Ideal) (wk1 (F := Ideal) x 2) := by
  unfold k0_pay22 plC k0_pay14; exact cast_round _ _ _
theorem plC3 (x : FVec Ideal S128x16384 .f32) : k0_pay23 (F := Ideal) (plC (F := Ideal) x 3) = k0_pay4 (F := Ideal) (wk1 (F := Ideal) x 3) := by
  unfold k0_pay23 plC k0_pay14; exact cast_round _ _ _

/-- After every round the planes' search knows what it should. -/
theorem st0_good (x : FVec Ideal S128x16384 .f32) (p : Fin 128) (hx : ∀ j, (0 : EReal) ≤ x (ix2 p j)) (n : ℕ) : GoodAt x p n (st0 (F := Ideal) x n) := by
  have hp : ∀ d, shapeCast S128x256 (shapeCast S1x128x256 (k0_pay1 (F := Ideal) (wk1 (F := Ideal) x d)) shapeCasts_S128x256_S1x128x256) shapeCasts_S1x128x256_S128x256 = k0_pay1 (F := Ideal) (wk1 (F := Ideal) x d) := fun d => cast_round _ _ _
  induction n with
  | zero =>
    refine Or.inr (Or.inr ⟨not_gt01 _, ∅, 0, ?_, Cert.Sel.Used.zero _ (by omega), fun h => h, fun d l => ?_, fun l h => h⟩)
    · exact zero.trans (by norm_cast)
    · refine Eq.trans ?_ (if_neg (Set.notMem_empty _)).symm
      fin_cases d
      · exact congrFun (hp 0) _
      · exact congrFun (hp 1) _
      · exact congrFun (hp 2) _
      · exact congrFun (hp 3) _
  | succ n ih =>
    refine goodAt_step x p hx _ _ _ _ (fun l => ?_) (fun l => ?_) (fun l => ?_) (fun l => ?_) n _ ih
    · exact (congrFun (plC0 x) _).trans (pay4_lvN x p hx 0 l)
    · exact (congrFun (plC1 x) _).trans (pay4_lvN x p hx 1 l)
    · exact (congrFun (plC2 x) _).trans (pay4_lvN x p hx 2 l)
    · exact (congrFun (plC3 x) _).trans (pay4_lvN x p hx 3 l)

end Cert.KernelIdeal.Val
-- ==== Proof.V.Brute.lean ====
/- The rounds on the whole row, and what both searches leave: each row's threshold, and how many of its ties are kept. -/
module

public import proofs.«01_k».proof.Proof.V.Search

@[expose] public section

set_option maxRecDepth 65536

noncomputable section

namespace Cert.KernelIdeal.Val

open Idealize.ShloMosaic Idealize.ShloMosaic.ValueIdx Idealize.ShloMosaic.Pipeline
open Cert.KernelIdeal Cert.KernelIdeal.Gen Cert.KernelIdeal.Reg Cert.Row
open Finset

theorem pay5_max (w : FVec Ideal S128x16384 .f32) (p : Fin 128) :
    (∀ j, (w (ix2 p j) : EReal) ≤ k0_pay5 (F := Ideal) w (ix2 p 0)) ∧ ∃ j, (w (ix2 p j) : EReal) = k0_pay5 (F := Ideal) w (ix2 p 0) := by
  have e : k0_pay5 (F := Ideal) w (ix2 p 0) = multiReduction .maximumf [1] S128 w 0xFF800000#32 reduces_S128x16384_S128 (.inl rfl) rfl (ix1 p) := by
    unfold k0_pay5; exact cast_col (A := 128) _ shapeCasts_S128_S128x1 p
  rw [e]
  exact rowMax (A := 128) (B := 16384) w reduces_S128x16384_S128 (.inl rfl) rfl (Nat.succ_pos _) p

theorem pay6_iff (w : FVec Ideal S128x16384 .f32) (p : Fin 128) (j : Fin 16384) :
    k0_pay6 (F := Ideal) w (ix2 p j) = 1#1 ↔ (w (ix2 p j) : EReal) = k0_pay5 (F := Ideal) w (ix2 p 0) := by
  refine (oeq _ _).trans (Iff.of_eq (congrArg (fun z : EReal => (w (ix2 p j) : EReal) = z) ?_))
  exact bcast_col (A := 128) (B := 16384) _ _ p j

/-- How many entries of row `p` hold its largest value. -/
abbrev topN (w : FVec Ideal S128x16384 .f32) (p : Fin 128) : ℕ := ((univ : Finset (Fin 16384)).filter fun j => (w (ix2 p j) : EReal) = k0_pay5 (F := Ideal) w (ix2 p 0)).card

theorem pay7_count (w : FVec Ideal S128x16384 .f32) (p : Fin 128) : k0_pay7 (F := Ideal) w (ix2 p 0) = ((topN w p : ℕ) : EReal) := by
  refine (cast_col (A := 128) _ _ p).trans ((rowSum (A := 128) (B := 16384) _ reduces_S128x16384_S128 (.inl rfl) rfl p).trans ?_)
  refine ind_sum _ _ _ (fun j hj => ?_) fun j hj => ?_
  · exact (ones_apply _ _).1 ((pay6_iff w p j).2 hj)
  · exact (ones_apply _ _).2 fun q => hj ((pay6_iff w p j).1 q)

theorem half_pos : (0 : EReal) < Ideal.ofBits .f32 0x3F000000#32 := by
  rw [half]; exact EReal.coe_pos.2 (by norm_num)
theorem half_lt_one : Ideal.ofBits .f32 0x3F000000#32 < (1 : EReal) := by
  rw [half]
  show ((1 / 2 : ℝ) : EReal) < ((1 : ℝ) : EReal)
  exact EReal.coe_lt_coe_iff.2 (by norm_num)

theorem pay8_bit (w : FVec Ideal S128x16384 .f32) (rc fd : FVec Ideal S128x1 .f32) (p : Fin 128) :
    (k0_pay8 (F := Ideal) w rc fd (ix2 p 0) = (1 : EReal) ∧ ((fd (ix2 p 0) : EReal) < Ideal.ofBits .f32 0x3F000000#32 ∧ ((20 : ℕ) : EReal) ≤ rc (ix2 p 0) + k0_pay7 (F := Ideal) w (ix2 p 0)))
      ∨ (k0_pay8 (F := Ideal) w rc fd (ix2 p 0) = (0 : EReal) ∧ ¬ ((fd (ix2 p 0) : EReal) < Ideal.ofBits .f32 0x3F000000#32 ∧ ((20 : ℕ) : EReal) ≤ rc (ix2 p 0) + k0_pay7 (F := Ideal) w (ix2 p 0))) := by
  have h : andi (cmpf .olt fd (broadcast S128x1 (Scalar.ofBits .f32 0x3F000000#32 : Ideal .f32))) (cmpf .oge (addf rc (k0_pay7 (F := Ideal) w)) (broadcast S128x1 (Scalar.ofBits .f32 0x41A00000#32 : Ideal .f32))) (ix2 p 0) = 1#1
      ↔ ((fd (ix2 p 0) : EReal) < Ideal.ofBits .f32 0x3F000000#32 ∧ ((20 : ℕ) : EReal) ≤ rc (ix2 p 0) + k0_pay7 (F := Ideal) w (ix2 p 0)) := by
    refine (bit_and _ _).trans (and_congr (olt _ _) ((oge _ _).trans ?_))
    rw [show (broadcast S128x1 (Scalar.ofBits .f32 0x41A00000#32 : Ideal .f32)) (ix2 p 0) = ((20 : ℕ) : EReal) from twenty]
    exact Iff.rfl
  by_cases q : ((fd (ix2 p 0) : EReal) < Ideal.ofBits .f32 0x3F000000#32 ∧ ((20 : ℕ) : EReal) ≤ rc (ix2 p 0) + k0_pay7 (F := Ideal) w (ix2 p 0))
  · exact Or.inl ⟨(ones_apply _ _).1 (h.2 q), q⟩
  · exact Or.inr ⟨(ones_apply _ _).2 fun g => q (h.1 g), q⟩

theorem pay9_iff (sus : IVec S128x1 1) (w : FVec Ideal S128x16384 .f32) (rc fd : FVec Ideal S128x1 .f32) (p : Fin 128) :
    k0_pay9 (F := Ideal) sus w rc fd (ix2 p 0) = 1#1 ↔ sus (ix2 p 0) = 1#1 ∧ k0_pay8 (F := Ideal) w rc fd (ix2 p 0) = (1 : EReal) := by
  refine (ogt _ _).trans ?_
  rw [show select sus (k0_pay8 (F := Ideal) w rc fd) (broadcast S128x1 (Scalar.ofBits .f32 0x00000000#32 : Ideal .f32)) (ix2 p 0)
      = if sus (ix2 p 0) = 1#1 then (k0_pay8 (F := Ideal) w rc fd (ix2 p 0) : EReal) else 0 from (sel _ _ _).trans (by
        rw [show (broadcast S128x1 (Scalar.ofBits .f32 0x00000000#32 : Ideal .f32)) (ix2 p 0) = (0 : EReal) from zero]),
    show (broadcast S128x1 (Scalar.ofBits .f32 0x3F000000#32 : Ideal .f32)) (ix2 p 0) = Ideal.ofBits .f32 0x3F000000#32 from rfl]
  by_cases hs : sus (ix2 p 0) = 1#1
  · rw [if_pos hs]
    rcases pay8_bit w rc fd p with ⟨q, _⟩ | ⟨q, _⟩
    · rw [q]; exact ⟨fun _ => ⟨hs, rfl⟩, fun _ => half_lt_one⟩
    · rw [q]; exact ⟨fun g => absurd g (not_lt.2 half_pos.le), fun g => absurd g.2 (by norm_num)⟩
  · rw [if_neg hs]
    exact ⟨fun g => absurd g (not_lt.2 half_pos.le), fun g => absurd g.1 hs⟩

/-- What the rounds on the whole row know after `n` of them. -/
def WholeAt (x : FVec Ideal S128x16384 .f32) (p : Fin 128) (n : ℕ) (s : T2 Ideal) : Prop :=
  ((s.fd (ix2 p 0) : EReal) = 0 ∨ (s.fd (ix2 p 0) : EReal) = 1) ∧
  Cert.Sel.Whole (fun j : Fin 16384 => (x (ix2 p j) : EReal)) mark 20 n (fun j => (s.w (ix2 p j) : EReal)) (s.thr (ix2 p 0) : EReal)
    (fun a => s.nk (ix2 p 0) = ((a : ℕ) : EReal)) ((s.fd (ix2 p 0) : EReal) = 1) (fun r => s.rc (ix2 p 0) = ((r : ℕ) : EReal))

theorem t2_thr (sus : IVec S128x1 1) (s : T2 Ideal) (p : Fin 128) :
    ((t2step (F := Ideal) sus s).thr (ix2 p 0) : EReal) = if k0_pay9 (F := Ideal) sus s.w s.rc s.fd (ix2 p 0) = 1#1 then (k0_pay5 (F := Ideal) s.w (ix2 p 0) : EReal) else s.thr (ix2 p 0) := by
  show k0_pay10 (F := Ideal) _ _ _ _ _ _ = _
  unfold k0_pay10
  rw [shapeCast_self]
  exact sel _ _ _

theorem t2_nk (sus : IVec S128x1 1) (s : T2 Ideal) (p : Fin 128) :
    ((t2step (F := Ideal) sus s).nk (ix2 p 0) : EReal) = if k0_pay9 (F := Ideal) sus s.w s.rc s.fd (ix2 p 0) = 1#1 then ((20 : ℕ) : EReal) - s.rc (ix2 p 0) else s.nk (ix2 p 0) := by
  show k0_pay363 (F := Ideal) (k0_pay11 (F := Ideal) sus s.w s.rc s.fd s.nk) (ix2 p 0) = _
  unfold k0_pay363 k0_pay11
  rw [shapeCast_self]
  refine (sel _ _ _).trans ?_
  have e : (subf (broadcast S128x1 (Scalar.ofBits .f32 0x41A00000#32 : Ideal .f32)) s.rc (ix2 p 0) : EReal) = ((20 : ℕ) : EReal) - s.rc (ix2 p 0) :=
    congrArg (fun a : EReal => a - s.rc (ix2 p 0)) twenty
  exact congrArg (fun z : EReal => if k0_pay9 (F := Ideal) sus s.w s.rc s.fd (ix2 p 0) = 1#1 then z else s.nk (ix2 p 0)) e

theorem t2_fd (sus : IVec S128x1 1) (s : T2 Ideal) (p : Fin 128) :
    ((t2step (F := Ideal) sus s).fd (ix2 p 0) : EReal) = max (s.fd (ix2 p 0) : EReal) (k0_pay8 (F := Ideal) s.w s.rc s.fd (ix2 p 0)) := by
  show k0_pay364 (F := Ideal) _ _ _ = _
  unfold k0_pay364
  rw [shapeCast_self]
  rfl

theorem t2_rc (sus : IVec S128x1 1) (s : T2 Ideal) (p : Fin 128) :
    ((t2step (F := Ideal) sus s).rc (ix2 p 0) : EReal) = s.rc (ix2 p 0) + ((topN s.w p : ℕ) : EReal) := by
  show k0_pay365 (F := Ideal) _ _ _ = _
  unfold k0_pay365
  rw [shapeCast_self]
  exact congrArg (fun a : EReal => s.rc (ix2 p 0) + a) (pay7_count s.w p)

theorem t2_w (sus : IVec S128x1 1) (s : T2 Ideal) (p : Fin 128) (j : Fin 16384) :
    ((t2step (F := Ideal) sus s).w (ix2 p j) : EReal) = if (s.w (ix2 p j) : EReal) = k0_pay5 (F := Ideal) s.w (ix2 p 0) then mark else s.w (ix2 p j) := by
  show k0_pay366 (F := Ideal) _ _ _ = _
  unfold k0_pay366
  rw [shapeCast_self, marked_apply]
  exact if_congr (pay6_iff s.w p j) rfl rfl

/-- A row that is not marked keeps its threshold and count. -/
theorem t2_keep (sus : IVec S128x1 1) (s : T2 Ideal) (p : Fin 128) (h : ¬ sus (ix2 p 0) = 1#1) (n : ℕ) :
    (t2 (F := Ideal) sus s n).thr (ix2 p 0) = s.thr (ix2 p 0) ∧ (t2 (F := Ideal) sus s n).nk (ix2 p 0) = s.nk (ix2 p 0) := by
  induction n with
  | zero => exact ⟨rfl, rfl⟩
  | succ n ih =>
    have g : ¬ k0_pay9 (F := Ideal) sus (t2 (F := Ideal) sus s n).w (t2 (F := Ideal) sus s n).rc (t2 (F := Ideal) sus s n).fd (ix2 p 0) = 1#1 := fun q => h ((pay9_iff _ _ _ _ p).1 q).1
    exact ⟨(t2_thr sus _ p).trans ((if_neg g).trans ih.1), (t2_nk sus _ p).trans ((if_neg g).trans ih.2)⟩

theorem wholeAt_step (x : FVec Ideal S128x16384 .f32) (p : Fin 128) (hx : ∀ j, (0 : EReal) ≤ x (ix2 p j)) (sus : IVec S128x1 1) (hs : sus (ix2 p 0) = 1#1)
    (n : ℕ) (s : T2 Ideal) (h : WholeAt x p n s) : WholeAt x p (n + 1) (t2step (F := Ideal) sus s) := by
  obtain ⟨hfd, h⟩ := h
  obtain ⟨hm, hm'⟩ := pay5_max s.w p
  have n01 : ¬ (0 : EReal) = 1 := by norm_num
  have key : (¬ (s.fd (ix2 p 0) : EReal) = 1) → ∀ r : ℕ, s.rc (ix2 p 0) = ((r : ℕ) : EReal) →
      (k0_pay8 (F := Ideal) s.w s.rc s.fd (ix2 p 0) = (1 : EReal) ∧ 20 ≤ r + topN s.w p) ∨ (k0_pay8 (F := Ideal) s.w s.rc s.fd (ix2 p 0) = (0 : EReal) ∧ r + topN s.w p < 20) := by
    intro q r hr
    have f0 : (s.fd (ix2 p 0) : EReal) = 0 := hfd.resolve_right q
    have e : (s.rc (ix2 p 0) : EReal) + k0_pay7 (F := Ideal) s.w (ix2 p 0) = ((r + topN s.w p : ℕ) : EReal) := by
      refine (congrArg₂ (fun a b : EReal => a + b) hr (pay7_count s.w p)).trans ?_
      push_cast; rfl
    rcases pay8_bit s.w s.rc s.fd p with ⟨a, _, b⟩ | ⟨a, b⟩
    · exact Or.inl ⟨a, by rwa [e, cast_le] at b⟩
    · refine Or.inr ⟨a, ?_⟩
      rw [e, cast_le, f0] at b
      by_contra g
      exact b ⟨half_pos, not_lt.1 g⟩
  constructor
  · rw [t2_fd]
    rcases hfd with f | f <;> rcases pay8_bit s.w s.rc s.fd p with ⟨a, _⟩ | ⟨a, _⟩ <;> rw [f, a] <;> simp
  refine Cert.Sel.Whole.step (fun j => mark_lt.trans_le (hx j)) (by simp) h hm hm' (fun j => ?_) ?_ ?_ ?_
  · exact t2_w sus s p j
  · intro q
    have g8 : k0_pay8 (F := Ideal) s.w s.rc s.fd (ix2 p 0) = (0 : EReal) := by
      rcases pay8_bit s.w s.rc s.fd p with ⟨_, b, _⟩ | ⟨a, _⟩
      · rw [q] at b; exact absurd b (not_lt.2 half_lt_one.le)
      · exact a
    have g9 : ¬ k0_pay9 (F := Ideal) sus s.w s.rc s.fd (ix2 p 0) = 1#1 := fun g => n01 (g8.symm.trans ((pay9_iff _ _ _ _ p).1 g).2)
    refine ⟨?_, (t2_thr sus s p).trans (if_neg g9), fun a ha => (t2_nk sus s p).trans ((if_neg g9).trans ha)⟩
    rw [t2_fd, q, g8]; exact max_eq_left zero_le_one
  · intro q r hr hlt hge
    rcases key q r hr with ⟨g8, _⟩ | ⟨_, b⟩
    · have g9 := (pay9_iff sus s.w s.rc s.fd p).2 ⟨hs, g8⟩
      refine ⟨?_, (t2_thr sus s p).trans (if_pos g9), (t2_nk sus s p).trans ((if_pos g9).trans ?_)⟩
      · rw [t2_fd, g8, hfd.resolve_right q]; exact max_eq_right zero_le_one
      · rw [← cast_sub 20 r hlt.le]
        exact congrArg (fun a : EReal => ((20 : ℕ) : EReal) - a) hr
    · exact absurd (hge.trans_lt (lt_of_eq_of_lt (by congr) b)) (lt_irrefl _)
  · intro q r hr hlt
    rcases key q r hr with ⟨_, b⟩ | ⟨g8, _⟩
    · exact absurd (lt_of_le_of_lt b (lt_of_eq_of_lt (by congr) hlt)) (lt_irrefl _)
    · refine ⟨?_, (t2_rc sus s p).trans ?_⟩
      · rw [t2_fd, g8, hfd.resolve_right q, max_self]; exact n01
      · refine (congrArg (fun a : EReal => a + ((topN s.w p : ℕ) : EReal)) hr).trans ?_
        push_cast; congr

theorem t2_whole (x : FVec Ideal S128x16384 .f32) (p : Fin 128) (hx : ∀ j, (0 : EReal) ≤ x (ix2 p j)) (sus : IVec S128x1 1) (hs : sus (ix2 p 0) = 1#1)
    (s : T2 Ideal) (h : WholeAt x p 0 s) (n : ℕ) : WholeAt x p n (t2 (F := Ideal) sus s n) := by
  induction n with
  | zero => exact h
  | succ n ih => exact wholeAt_step x p hx sus hs n _ ih

theorem ne_zero_bit (b : BitVec 1) : Scalar.cmpi .ne (Scalar.extui b : BitVec 32) 0#32 = 1#1 ↔ b = 1#1 := by revert b; decide

theorem ix2_col (i : S128x1.Idx) : ∃ p : Fin 128, i = ix2 p 0 := ⟨i 0, by
  funext a
  match a with
  | ⟨0, _⟩ => rfl
  | ⟨1, _⟩ => exact Fin.ext (by have : (i 1).val < 1 := (i 1).isLt; show (i 1).val = 0; omega)⟩

/-- The largest entry of a column bounds each. -/
theorem colMax (y : FVec Ideal S128x1 .f32) (h : S128x1.ShapeCasts S1x128x1) (p : Fin 128) :
    (y (ix2 p 0) : EReal) ≤ extractAt ![0, 0, 0] (shapeCast S1x1x1 (multiReduction .maximumf [1, 2] S1 (shapeCast S1x128x1 y h) 0xFF800000#32 reduces_S1x128x1_S1 (.inl rfl) rfl) shapeCasts_S1_S1x1x1) inpos_S1x1x1_p0_0_0 := by
  have e : (y (ix2 p 0) : EReal) = shapeCast S1x128x1 y h (ix3 0 p 0) := (shapeCast_ab_1ab_apply (a := 128) (b := 1) y h 0 p 0).symm
  rw [e]
  exact allMax (s := S1x128x1) (t := S1) (axes := [1, 2]) (shapeCast S1x128x1 y h) reduces_S1x128x1_S1 (fun b => by match b with | ⟨0, _⟩ => rfl) (.inl rfl) rfl _ (ix3 0 p 0)

/-- Unless some row is suspect, no row is. -/
theorem not_c0e (f : IVec S128x1 1) (s : IVec S128x1 1) (e : IVec S128x256 1) (h : IVec S128x1 1) (hc : ¬ c0e (F := Ideal) f s e h) (p : Fin 128) :
    ¬ k0_pay356 (F := Ideal) f s e h (ix2 p 0) = 1#1 := by
  intro q
  refine hc ((ne_zero_bit _).2 ((ogt _ _).2 ?_))
  have g := colMax (select (k0_pay356 (F := Ideal) f s e h) (broadcast S128x1 (Scalar.ofBits .f32 0x3F800000#32 : Ideal .f32)) (broadcast S128x1 (Scalar.ofBits .f32 0x00000000#32 : Ideal .f32))) shapeCasts_S128x1_S1x128x1 p
  rw [(ones_apply _ _).1 q] at g
  unfold k0_pay359
  exact ((le_of_eq zero).trans_lt zero_lt_one).trans_le g

/-- Unless some row has a tie to drop, no row has. -/
theorem not_c3t (nk : FVec Ideal S128x1 .f32) (hc : ¬ c3t (F := Ideal) nk) (p : Fin 128) : ¬ (0 : EReal) < nk (ix2 p 0) := by
  intro q
  refine hc ((ne_zero_bit _).2 ((ogt _ _).2 ?_))
  unfold k0_pay370
  exact ((le_of_eq zero).trans_lt q).trans_le (colMax nk shapeCasts_S128x1_S1x128x1 p)

theorem cut_of {x : Fin 16384 → EReal} {K n : ℕ} {t t' : EReal} (h : t = t') (q : Cert.Sel.IsCut x K t' n) : Cert.Sel.IsCut x K t n := h ▸ q

/-- Each row's threshold is that of its twenty largest entries, and the count is how many of its ties are among them. -/
theorem sel0_cut (x : FVec Ideal S128x16384 .f32) (p : Fin 128) (hx : ∀ j, (0 : EReal) ≤ x (ix2 p j)) :
    ∃ need : ℕ, (sel0 (F := Ideal) x).nk (ix2 p 0) = ((need : ℕ) : EReal)
      ∧ Cert.Sel.IsCut (fun j : Fin 16384 => (x (ix2 p j) : EReal)) 20 ((thr0 (F := Ideal) x) (ix2 p 0) : EReal) need := by
  have G := st0_good x p hx 20
  have hsu : sus0 (F := Ideal) x = (st0 (F := Ideal) x 20).su := rfl
  have e1 : k0_pay357 (F := Ideal) (st0 (F := Ideal) x 20).thr = (st0 (F := Ideal) x 20).thr := by
    unfold k0_pay357; exact shapeCast_self _ _
  have e2 : k0_pay358 (F := Ideal) (st0 (F := Ideal) x 19).nk (st0 (F := Ideal) x 19).rc (hit0 (F := Ideal) x) (Scalar.ofBits .f32 0x41A00000#32) = (st0 (F := Ideal) x 20).nk := by
    unfold k0_pay358; exact shapeCast_self _ _
  have base : ¬ (st0 (F := Ideal) x 20).su (ix2 p 0) = 1#1 → ∃ need : ℕ, (st0 (F := Ideal) x 20).nk (ix2 p 0) = ((need : ℕ) : EReal)
      ∧ Cert.Sel.IsCut (fun j : Fin 16384 => (x (ix2 p j) : EReal)) 20 ((st0 (F := Ideal) x 20).thr (ix2 p 0) : EReal) need := fun h => Cert.Sel.Good.done G h
  unfold thr0 sel0 fin2
  dsimp only
  split
  · by_cases hp : sus0 (F := Ideal) x (ix2 p 0) = 1#1
    · refine Cert.Sel.Whole.done (t2_whole x p hx (sus0 (F := Ideal) x) hp _ ?_ 20).2
      have z : k0_pay361 (F := Ideal) = broadcast S128x1 (Scalar.ofBits .f32 0x00000000#32) := by
        unfold k0_pay361; exact shapeCast_self _ _
      have z' : k0_pay362 (F := Ideal) = broadcast S128x1 (Scalar.ofBits .f32 0x00000000#32) := by
        unfold k0_pay362; exact shapeCast_self _ _
      have w : k0_pay360 (F := Ideal) x = x := by unfold k0_pay360; exact shapeCast_self _ _
      have z0 : (k0_pay361 (F := Ideal) (ix2 p 0) : EReal) = 0 := by rw [z]; exact zero
      have z1 : (k0_pay362 (F := Ideal) (ix2 p 0) : EReal) = 0 := by rw [z']; exact zero
      refine ⟨Or.inl z1, Or.inr ⟨fun q => ?_, ∅, 0, z0.trans (by norm_cast), Cert.Sel.Used.zero _ (by omega), fun j => ?_⟩⟩
      · have q : (k0_pay362 (F := Ideal) (ix2 p 0) : EReal) = 1 := q
        rw [z1] at q
        exact absurd q (by norm_num)
      · refine Eq.trans ?_ (if_neg (Set.notMem_empty _)).symm
        exact congrFun w _
    · obtain ⟨a, b⟩ := t2_keep (sus0 (F := Ideal) x) ⟨k0_pay360 (F := Ideal) x, k0_pay361, k0_pay362, k0_pay357 (st0 (F := Ideal) x 20).thr, k0_pay358 (st0 (F := Ideal) x 19).nk (st0 (F := Ideal) x 19).rc (hit0 (F := Ideal) x) (Scalar.ofBits .f32 0x41A00000#32)⟩ p hp 20
      obtain ⟨need, c, d⟩ := base (by rw [← hsu]; exact hp)
      refine ⟨need, b.trans ((congrFun e2 _).trans c), ?_⟩
      exact cut_of (a.trans (congrFun e1 _)) d
  · rename_i hc
    obtain ⟨need, c, d⟩ := base (by rw [← hsu]; exact not_c0e _ _ _ _ hc p)
    refine ⟨need, (congrFun e2 _).trans c, ?_⟩
    exact cut_of (congrFun e1 _) d

end Cert.KernelIdeal.Val
-- ==== Proof.V.Ties.lean ====
/- Dropping ties: the last index a row keeps among the entries equal to its threshold. -/
module

public import proofs.«01_k».proof.Proof.V.Brute

@[expose] public section

set_option maxRecDepth 65536

noncomputable section

namespace Cert.KernelIdeal.Val

open Idealize.ShloMosaic Idealize.ShloMosaic.ValueIdx Idealize.ShloMosaic.Pipeline
open Cert.KernelIdeal Cert.KernelIdeal.Gen Cert.KernelIdeal.Reg Cert.Row
open Finset Classical

/-- An index as a number. -/
abbrev pos (j : Fin 16384) : EReal := ((j.val : ℕ) : EReal)

theorem pos_lt (a b : Fin 16384) : a < b ↔ pos a < pos b := (cast_lt _ _).symm
theorem pos_top (a : Fin 16384) : pos a < ⊤ := by
  show (((a.val : ℕ)) : EReal) < ⊤
  rw [show ((a.val : ℕ) : EReal) = ((a.val : ℝ) : EReal) by norm_cast]
  exact EReal.coe_lt_top _

/-- The index row, as numbers. -/
theorem iota_pos (p : Fin 128) (j : Fin 16384) :
    sitofp (F := Ideal) .f32 (iota .tc S128x16384 32 [1] iota_S128x16384_d1_w32) (ix2 p j) = pos j := by
  have e : iota .tc S128x16384 32 [1] iota_S128x16384_d1_w32 (ix2 p j) = BitVec.ofNat 32 j.val := iota_single_apply _ _ _ _ _ _
  show (((iota .tc S128x16384 32 [1] iota_S128x16384_d1_w32 (ix2 p j)).toInt : ℝ) : EReal) = _
  have h := j.isLt
  have : (BitVec.ofNat 32 j.val).toInt = (j.val : ℤ) := by
    exact (BitVec.toInt_eq_toNat_of_lt (by rw [BitVec.toNat_ofNat]; omega)).trans (by rw [BitVec.toNat_ofNat]; omega)
  rw [e, this]
  show (((j.val : ℤ) : ℝ) : EReal) = ((j.val : ℕ) : EReal)
  norm_cast

/-- The least entry of a row. -/
abbrev low (w : FVec Ideal S128x16384 .f32) : FVec Ideal S128x1 .f32 :=
  shapeCast S128x1 (multiReduction .minimumf [1] S128 w 0x7F800000#32 reduces_S128x16384_S128 (.inl rfl) rfl) shapeCasts_S128_S128x1

theorem low_min (w : FVec Ideal S128x16384 .f32) (p : Fin 128) :
    (∀ j, (low w (ix2 p 0) : EReal) ≤ w (ix2 p j)) ∧ ∃ j, (w (ix2 p j) : EReal) = low w (ix2 p 0) := by
  have e : low w (ix2 p 0) = multiReduction .minimumf [1] S128 w 0x7F800000#32 reduces_S128x16384_S128 (.inl rfl) rfl (ix1 p) :=
    cast_col (A := 128) _ shapeCasts_S128_S128x1 p
  rw [e]
  exact rowMin (A := 128) (B := 16384) w reduces_S128x16384_S128 (.inl rfl) rfl (Nat.succ_pos _) p

theorem pay371_iff (nk : FVec Ideal S128x1 .f32) (p : Fin 128) : k0_pay371 (F := Ideal) nk (ix2 p 0) = 1#1 ↔ (0 : EReal) < nk (ix2 p 0) := by
  refine (ogt _ _).trans (Iff.of_eq (congrArg (fun z : EReal => z < nk (ix2 p 0)) ?_))
  exact zero

theorem pay372_apply (w : FVec Ideal S128x16384 .f32) (nk : FVec Ideal S128x1 .f32) (p : Fin 128) (j : Fin 16384) :
    (k0_pay372 (F := Ideal) w nk (ix2 p j) : EReal) = if (0 : EReal) < nk (ix2 p 0) ∧ (w (ix2 p j) : EReal) = low w (ix2 p 0) then ⊤ else w (ix2 p j) := by
  unfold k0_pay372
  rw [shapeCast_self]
  refine (sel _ _ _).trans ?_
  refine if_congr ((bit_and _ _).trans (and_congr ?_ ((oeq _ _).trans ?_))) posInf rfl
  · rw [show broadcastTo S128x16384 (k0_pay371 (F := Ideal) nk) broadcasts_S128x1_S128x16384 (ix2 p j) = k0_pay371 (F := Ideal) nk (ix2 p 0) from bcast_col (A := 128) (B := 16384) _ _ p j]
    exact pay371_iff nk p
  · exact Iff.of_eq (congrArg (fun z : EReal => (w (ix2 p j) : EReal) = z) (bcast_col (A := 128) (B := 16384) _ _ p j))

theorem pay373_apply (nk : FVec Ideal S128x1 .f32) (p : Fin 128) :
    (k0_pay373 (F := Ideal) nk nk nk (ix2 p 0) : EReal) = if (0 : EReal) < nk (ix2 p 0) then (nk (ix2 p 0) : EReal) - 1 else nk (ix2 p 0) := by
  unfold k0_pay373
  rw [shapeCast_self]
  refine (sel _ _ _).trans (if_congr (pay371_iff nk p) ?_ rfl)
  exact congrArg (fun z : EReal => (nk (ix2 p 0) : EReal) - z) one

theorem sub_one (a : ℕ) (h : 0 < a) : ((a : ℕ) : EReal) - 1 = ((a - 1 : ℕ) : EReal) := by
  rw [← cast_sub a 1 h]; norm_cast

/-- What the tie rounds know of row `p`: `T` its ties, `b` to drop. -/
def TiesAt (T : Finset (Fin 16384)) (p : Fin 128) (b n : ℕ) (s : FVec Ideal S128x16384 .f32 × FVec Ideal S128x1 .f32) : Prop :=
  Cert.Sel.Ties T pos ⊤ b n (fun j => (s.1 (ix2 p j) : EReal)) (fun a => s.2 (ix2 p 0) = ((a : ℕ) : EReal))

theorem tiesAt_step {T : Finset (Fin 16384)} {p : Fin 128} {b : ℕ} (hb : b < T.card) (s : FVec Ideal S128x16384 .f32 × FVec Ideal S128x1 .f32) (n : ℕ)
    (h : TiesAt T p b n (t3 (F := Ideal) s n)) : TiesAt T p b (n + 1) (t3 (F := Ideal) s (n + 1)) := by
  obtain ⟨hm, hm'⟩ := low_min (t3 (F := Ideal) s n).1 p
  have pp : ∀ a : ℕ, 0 < a → (0 : EReal) < ((a : ℕ) : EReal) := fun a ha => by
    have := (cast_lt 0 a).2 ha
    rwa [Nat.cast_zero] at this
  refine Cert.Sel.Ties.step pos_lt pos_top hb h hm hm' (fun a ha hk => ?_) fun hk => ?_
  · have hk : ((t3 (F := Ideal) s n).2 (ix2 p 0) : EReal) = ((a : ℕ) : EReal) := hk
    have g : (0 : EReal) < (t3 (F := Ideal) s n).2 (ix2 p 0) := by rw [hk]; exact pp a ha
    have hc : c3t (F := Ideal) (t3 (F := Ideal) s n).2 := by
      by_contra q
      exact not_c3t _ q p g
    rw [show t3 (F := Ideal) s (n + 1) = (k0_pay372 (t3 s n).1 (t3 s n).2, k0_pay373 (t3 s n).2 (t3 s n).2 (t3 s n).2) from if_pos hc]
    refine ⟨(pay373_apply _ p).trans ((if_pos g).trans ?_), fun j => (pay372_apply _ _ p j).trans (if_congr (and_iff_right g) rfl rfl)⟩
    rw [hk]; exact sub_one a ha
  · have hk : ((t3 (F := Ideal) s n).2 (ix2 p 0) : EReal) = ((0 : ℕ) : EReal) := hk
    have g : ¬ (0 : EReal) < (t3 (F := Ideal) s n).2 (ix2 p 0) := by rw [hk, Nat.cast_zero]; exact lt_irrefl _
    by_cases hc : c3t (F := Ideal) (t3 (F := Ideal) s n).2
    · rw [show t3 (F := Ideal) s (n + 1) = (k0_pay372 (t3 s n).1 (t3 s n).2, k0_pay373 (t3 s n).2 (t3 s n).2 (t3 s n).2) from if_pos hc]
      exact ⟨(pay373_apply _ p).trans ((if_neg g).trans hk), fun j => (pay372_apply _ _ p j).trans (if_neg fun q => g q.1)⟩
    · rw [show t3 (F := Ideal) s (n + 1) = t3 (F := Ideal) s n from if_neg hc]
      exact ⟨hk, fun j => rfl⟩

/-- A small number converted to a word is that word. -/
theorem word_of_pos (j : Fin 16384) : Ideal.fptosi 32 (pos j) = BitVec.ofNat 32 j.val := by
  have h := j.isLt
  rw [show pos j = (((j.val : ℕ) : ℝ) : EReal) by show ((j.val : ℕ) : EReal) = _; norm_cast]
  show BitVec.ofInt 32 (max (-(2 ^ (32 - 1) : Nat)) (min ((2 ^ (32 - 1) : Nat) - 1) (if (0 : ℝ) ≤ ((j.val : ℕ) : ℝ) then ⌊((j.val : ℕ) : ℝ)⌋ else ⌈((j.val : ℕ) : ℝ)⌉))) = _
  rw [if_pos (Nat.cast_nonneg _), Int.floor_natCast]
  have : max (-((2 ^ (32 - 1) : Nat) : ℤ)) (min (((2 ^ (32 - 1) : Nat) : ℤ) - 1) (j.val : ℤ)) = (j.val : ℤ) := by
    have e : ((2 ^ (32 - 1) : Nat) : ℤ) = 2147483648 := by norm_num
    rw [e]; omega
  rw [this]
  exact BitVec.ofInt_natCast _ _

/-- Row `p` of `x`: its threshold `thr0`, and `idx0`, the last index kept among its ties, keep exactly the twenty that come first. -/
theorem idx0_cut (x : FVec Ideal S128x16384 .f32) (p : Fin 128) (hx : ∀ j, (0 : EReal) ≤ x (ix2 p j)) :
    ∃ (need : ℕ) (j0 : Fin 16384), Cert.Sel.IsCut (fun j : Fin 16384 => (x (ix2 p j) : EReal)) 20 ((thr0 (F := Ideal) x) (ix2 p 0) : EReal) need
      ∧ ((univ.filter fun j : Fin 16384 => (x (ix2 p j) : EReal) = thr0 (F := Ideal) x (ix2 p 0)).filter fun i => i ≤ j0).card = need
      ∧ idx0 (F := Ideal) x (ix2 p 0) = BitVec.ofNat 32 j0.val := by
  obtain ⟨need, hn, hc⟩ := sel0_cut x p hx
  set T := univ.filter fun j : Fin 16384 => (x (ix2 p j) : EReal) = thr0 (F := Ideal) x (ix2 p 0) with hT
  have hcard : need ≤ T.card := hc.le
  have hpos := hc.pos
  have h20 : need ≤ 20 := by have := hc.above; omega
  have hb : need - 1 < T.card := by omega
  have w0 : ∀ j, (k0_pay368 (F := Ideal) (k0_pay367 (F := Ideal) (thr0 (F := Ideal) x) x) (ix2 p j) : EReal) = if j ∈ T then pos j else ⊤ := by
    intro j
    unfold k0_pay368
    rw [shapeCast_self]
    unfold k0_pay367
    refine (sel _ _ _).trans (if_congr ((oeq _ _).trans ?_) (iota_pos p j) posInf)
    rw [hT, mem_filter]
    rw [show broadcastTo S128x16384 (thr0 (F := Ideal) x) broadcasts_S128x1_S128x16384 (ix2 p j) = thr0 (F := Ideal) x (ix2 p 0) from bcast_col (A := 128) (B := 16384) _ _ p j]
    exact ⟨fun h => ⟨mem_univ _, h⟩, fun h => h.2⟩
  have n0 : (k0_pay369 (F := Ideal) (sel0 (F := Ideal) x).nk (ix2 p 0) : EReal) = ((need - 1 : ℕ) : EReal) := by
    unfold k0_pay369
    rw [shapeCast_self]
    refine (congrArg₂ (fun a b : EReal => a - b) hn one).trans (sub_one need hpos)
  have h0 : TiesAt T p (need - 1) 0 (k0_pay368 (F := Ideal) (k0_pay367 (F := Ideal) (thr0 (F := Ideal) x) x), k0_pay369 (F := Ideal) (sel0 (F := Ideal) x).nk) := by
    refine ⟨∅, empty_subset _, fun a ha => absurd ha (notMem_empty _), by simp, n0, fun j => (w0 j).trans ?_⟩
    refine if_congr ⟨fun h => ⟨h, notMem_empty _⟩, fun h => h.1⟩ rfl rfl
  have hall : ∀ n, TiesAt T p (need - 1) n (t3 (F := Ideal) (k0_pay368 (F := Ideal) (k0_pay367 (F := Ideal) (thr0 (F := Ideal) x) x), k0_pay369 (F := Ideal) (sel0 (F := Ideal) x).nk) n) := by
    intro n
    induction n with
    | zero => exact h0
    | succ n ih => exact tiesAt_step hb _ n ih
  obtain ⟨hm, hm'⟩ := low_min (t3 (F := Ideal) (k0_pay368 (F := Ideal) (k0_pay367 (F := Ideal) (thr0 (F := Ideal) x) x), k0_pay369 (F := Ideal) (sel0 (F := Ideal) x).nk) 19).1 p
  obtain ⟨j0, _, e, c⟩ := Cert.Sel.Ties.done pos_lt pos_top hb (by omega) (hall 19) hm hm'
  refine ⟨need, j0, hc, c.trans (by omega), ?_⟩
  unfold idx0 k0_pay374
  refine Eq.trans ?_ (word_of_pos j0)
  rw [← e]
  rfl

end Cert.KernelIdeal.Val
-- ==== Proof.V.Thr.lean ====
/- What the first kernel leaves of each row: the threshold and the index of the last tie kept. -/
module

public import proofs.«01_k».proof.Proof.V.Copy
public import proofs.«01_k».proof.Proof.V.Ties

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg

variable (V : Dev nD → Valuation τ sig (Elt Ideal))

theorem ix0_1w : ∀ t : Fin cfg0.N, win0_1.index t (0 : Fin 2) = t.val ∧ win0_1.index t (1 : Fin 2) = 0 :=
  (by decide +kernel : ∀ t : Fin grid0.N, _)
theorem ix0_2w : ∀ t : Fin cfg0.N, win0_2.index t (0 : Fin 2) = t.val ∧ win0_2.index t (1 : Fin 2) = 0 :=
  (by decide +kernel : ∀ t : Fin grid0.N, _)
theorem flush0_1i : ∀ t : Fin cfg0.N, (cfg0.win 1).flush t = true :=
  (by decide +kernel : ∀ t : Fin grid0.N, _)
theorem flush0_2i : ∀ t : Fin cfg0.N, (cfg0.win 2).flush t = true :=
  (by decide +kernel : ∀ t : Fin grid0.N, _)

/-- The first kernel's point that holds row `r`. -/
def ptRow (r : ℕ) : Fin cfg0.N := ⟨r / 128 % 16, lt_of_lt_of_eq (Nat.mod_lt _ (by norm_num)) N_0.symm⟩

/-- The thresholds of all rows. -/
def thrG (c : Dev nD) : FVec Ideal ⟨2, ![2048, 1]⟩ .f32 := fun i =>
  thr0 (F := Ideal) (iblk0 V c 0 (ptRow (i 0).val)) (ix2 (⟨(i 0).val % 128, Nat.mod_lt _ (by norm_num)⟩ : Fin 128) (0 : Fin 1))
/-- The last ties' indices of all rows. -/
def idxG (c : Dev nD) : IVec ⟨2, ![2048, 1]⟩ 32 := fun i =>
  idx0 (F := Ideal) (iblk0 V c 0 (ptRow (i 0).val)) (ix2 (⟨(i 0).val % 128, Nat.mod_lt _ (by norm_num)⟩ : Fin 128) (0 : Fin 1))

theorem ptRow_eq (t : Fin cfg0.N) (p : Fin 128) (r : ℕ) (h : r = t.val * 128 + p.val) :
    ptRow r = t ∧ (⟨r % 128, Nat.mod_lt _ (by norm_num)⟩ : Fin 128) = p := by
  have := lt16 t
  have := p.isLt
  subst h
  constructor
  · apply Fin.ext
    show (t.val * 128 + p.val) / 128 % 16 = t.val
    omega
  · apply Fin.ext
    show (t.val * 128 + p.val) % 128 = p.val
    omega

theorem flushed0_1 (c : Dev nD) (t : Fin cfg0.N) (hf : (cfg0.win 1).flush t = true) :
    (dat0 V c).flushed 1 t = ((cfg0.win 1).blk t).view.read (Elt Ideal) (thrG V c) := by
  obtain ⟨e0, e1⟩ := ix0_1w t
  funext j
  obtain ⟨p, q, rfl⟩ : ∃ (p : Fin 128) (q : Fin 1), j = ix2 p q := ⟨j 0, j 1, by funext a; match a with | ⟨0, _⟩ => rfl | ⟨1, _⟩ => rfl⟩
  obtain rfl : q = 0 := Subsingleton.elim _ _
  show thr0 (F := Ideal) (iblk0 V c 0 t) (ix2 p (0 : Fin 1)) = thrG V c (((cfg0.win 1).blk t).view.emb (ix2 p (0 : Fin 1)))
  have h0 : (((cfg0.win 1).blk t).view.emb (ix2 p (0 : Fin 1)) (0 : Fin 2)).val = t.val * 128 + p.val := by
    show win0_1.index t (0 : Fin 2) * 128 + 1 * p.val = _
    omega
  obtain ⟨a, b⟩ := ptRow_eq t p _ h0
  unfold thrG
  rw [a, b]

theorem flushed0_2 (c : Dev nD) (t : Fin cfg0.N) (hf : (cfg0.win 2).flush t = true) :
    (dat0 V c).flushed 2 t = ((cfg0.win 2).blk t).view.read (Elt Ideal) (idxG V c) := by
  obtain ⟨e0, e1⟩ := ix0_2w t
  funext j
  obtain ⟨p, q, rfl⟩ : ∃ (p : Fin 128) (q : Fin 1), j = ix2 p q := ⟨j 0, j 1, by funext a; match a with | ⟨0, _⟩ => rfl | ⟨1, _⟩ => rfl⟩
  obtain rfl : q = 0 := Subsingleton.elim _ _
  show idx0 (F := Ideal) (iblk0 V c 0 t) (ix2 p (0 : Fin 1)) = idxG V c (((cfg0.win 2).blk t).view.emb (ix2 p (0 : Fin 1)))
  have h0 : (((cfg0.win 2).blk t).view.emb (ix2 p (0 : Fin 1)) (0 : Fin 2)).val = t.val * 128 + p.val := by
    show win0_2.index t (0 : Fin 2) * 128 + 1 * p.val = _
    omega
  obtain ⟨a, b⟩ := ptRow_eq t p _ h0
  unfold idxG
  rw [a, b]

theorem cover0_1 (i : S2048x1.Idx) : ∃ t : Fin cfg0.N, (cfg0.win 1).flush t = true ∧ i ∈ ((cfg0.win 1).blk t).view.set := by
  have hi0 : (i 0).val < 2048 := (i 0).isLt
  have hi1 : (i 1).val < 1 := (i 1).isLt
  let t : Fin cfg0.N := ⟨(i 0).val / 128, lt_of_lt_of_eq (show (i 0).val / 128 < 16 by omega) N_0.symm⟩
  have htv : t.val = (i 0).val / 128 := rfl
  obtain ⟨e0, e1⟩ := ix0_1w t
  refine ⟨t, flush0_1i t, ?_⟩
  have h := ((cfg0.win 1).blk t).view.emb_mem_set (ix2 (⟨(i 0).val % 128, by omega⟩ : Fin 128) (0 : Fin 1))
  have he : ((cfg0.win 1).blk t).view.emb (ix2 (⟨(i 0).val % 128, by omega⟩ : Fin 128) (0 : Fin 1)) = i := by
    funext a; apply Fin.ext
    match a with
    | ⟨0, _⟩ =>
      show win0_1.index t (0 : Fin 2) * 128 + 1 * ((i 0).val % 128) = (i 0).val
      omega
    | ⟨1, _⟩ =>
      show win0_1.index t (1 : Fin 2) * 1 + 1 * 0 = (i 1).val
      omega
  rwa [he] at h

theorem cover0_2 (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  let t : Fin cfg0.N := ⟨(i 0).val / 128, lt_of_lt_of_eq (show (i 0).val / 128 < 16 by omega) N_0.symm⟩
  have htv : t.val = (i 0).val / 128 := rfl
  obtain ⟨e0, e1⟩ := ix0_2w t
  refine ⟨t, flush0_2i t, ?_⟩
  have h := ((cfg0.win 2).blk t).view.emb_mem_set (ix2 (⟨(i 0).val % 128, by omega⟩ : Fin 128) (0 : Fin 1))
  have he : ((cfg0.win 2).blk t).view.emb (ix2 (⟨(i 0).val % 128, by omega⟩ : Fin 128) (0 : Fin 1)) = i := by
    funext a; apply Fin.ext
    match a with
    | ⟨0, _⟩ =>
      show win0_2.index t (0 : Fin 2) * 128 + 1 * ((i 0).val % 128) = (i 0).val
      omega
    | ⟨1, _⟩ =>
      show win0_2.index t (1 : Fin 2) * 1 + 1 * 0 = (i 1).val
      omega
  rwa [he] at h

/-- The thresholds' array after the first kernel. -/
theorem arr0_1 (c : Dev nD) : (dat0 V c).arrAt 1 cfg0.N = thrG V c :=
  (dat0 V c).arrAt_eq_of_cover 1 _ (flushed0_1 V c) cover0_1
/-- The last ties' array after the first kernel. -/
theorem arr0_2 (c : Dev nD) : (dat0 V c).arrAt 2 cfg0.N = idxG V c :=
  (dat0 V c).arrAt_eq_of_cover 2 _ (flushed0_2 V c) cover0_2

/-- The features' block at a point of the first kernel. -/
theorem blk0_0 (c : Dev nD) (r : Fin 2048) (j : Fin 16384) :
    iblk0 V c 0 (ptRow r.val) (ix2 (⟨r.val % 128, Nat.mod_lt _ (by norm_num)⟩ : Fin 128) j) = V c main_arg0 (ix2 r j) := by
  obtain ⟨e0, e1⟩ := ix0_0w (ptRow r.val)
  have hr := r.isLt
  have hp : (ptRow r.val).val = r.val / 128 % 16 := rfl
  refine congrArg (V c main_arg0) ?_
  funext a; apply Fin.ext
  match a with
  | ⟨0, _⟩ =>
    show win0_0.index (ptRow r.val) (0 : Fin 2) * 128 + 1 * (r.val % 128) = r.val
    omega
  | ⟨1, _⟩ =>
    show win0_0.index (ptRow r.val) (1 : Fin 2) * 16384 + 1 * j.val = j.val
    omega

/-- `S` holds, for each row, its twenty largest entries, the earliest of equals first. -/
def Top (X : FVec Ideal ⟨2, ![2048, 16384]⟩ .f32) (S : Fin 2048 → Finset (Fin 16384)) : Prop :=
  ∀ r, (∀ a b, Cert.Sel.Before (fun j => (X (ix2 r j) : EReal)) a b → b ∈ S r → a ∈ S r) ∧ (S r).card = 20

/-- There is only one such choice. -/
theorem Top.unique {X : FVec Ideal ⟨2, ![2048, 16384]⟩ .f32} {S T : Fin 2048 → Finset (Fin 16384)} (hS : Top X S) (hT : Top X T) : S = T := by
  funext r
  exact Cert.Sel.first_unique (hS r).1 (hT r).1 ((hS r).2.trans (hT r).2.symm)

open Classical in
/-- What the second kernel keeps of a row, by the first kernel's two arrays: the entries above the threshold and those equal to it up to the last tie. -/
def keptG (X : FVec Ideal ⟨2, ![2048, 16384]⟩ .f32) (th : FVec Ideal ⟨2, ![2048, 1]⟩ .f32) (ix : IVec ⟨2, ![2048, 1]⟩ 32) (r : Fin 2048) (k : Fin 16384) : Prop :=
  (th (ix2 r (0 : Fin 1)) : EReal) < X (ix2 r k)
    ∨ ((X (ix2 r k) : EReal) = th (ix2 r (0 : Fin 1)) ∧ (BitVec.ofNat 32 k.val).sle (ix (ix2 r (0 : Fin 1))) = true)

/-- Words below half the range compare as numbers. -/
theorem sle_ofNat (a b : ℕ) (ha : a < 16384) (hb : b < 16384) : (BitVec.ofNat 32 a).sle (BitVec.ofNat 32 b) = true ↔ a ≤ b := by
  rw [BitVec.sle_iff_toInt_le, BitVec.toInt_eq_toNat_of_lt, BitVec.toInt_eq_toNat_of_lt]
  · simp only [BitVec.toNat_ofNat]
    rw [Nat.mod_eq_of_lt (by omega), Nat.mod_eq_of_lt (by omega)]
    omega
  · simp only [BitVec.toNat_ofNat]; omega
  · simp only [BitVec.toNat_ofNat]; omega

open Classical in
/-- Over features none of which is negative, the kept entries are each row's twenty largest. -/
theorem kept_top (c : Dev nD) (hx : ∀ r j, (0 : EReal) ≤ (V c main_arg0 : FVec Ideal ⟨2, ![2048, 16384]⟩ .f32) (ix2 r j)) :
    Top (V c main_arg0) (fun r => Finset.univ.filter fun k => keptG (V c main_arg0) (thrG V c) (idxG V c) r k) := by
  intro r
  have hrow : ∀ j, (iblk0 V c 0 (ptRow r.val) : FVec Ideal S128x16384 .f32) (ix2 (⟨r.val % 128, Nat.mod_lt _ (by norm_num)⟩ : Fin 128) j)
      = (V c main_arg0 : FVec Ideal ⟨2, ![2048, 16384]⟩ .f32) (ix2 r j) := fun j => blk0_0 V c r j
  obtain ⟨need, j0, hcut, hcnt, hidx⟩ := idx0_cut (iblk0 V c 0 (ptRow r.val)) (⟨r.val % 128, Nat.mod_lt _ (by norm_num)⟩ : Fin 128)
    (fun j => by rw [hrow]; exact hx r j)
  simp only [hrow] at hcut hcnt
  have key := Cert.Sel.kept_first hcut (j0 := j0) (by convert hcnt)
  have hS : (Finset.univ.filter fun k => keptG (V c main_arg0) (thrG V c) (idxG V c) r k)
      = Finset.univ.filter fun j => thr0 (F := Ideal) (iblk0 V c 0 (ptRow r.val)) (ix2 (⟨r.val % 128, Nat.mod_lt _ (by norm_num)⟩ : Fin 128) (0 : Fin 1))
          < (V c main_arg0 : FVec Ideal ⟨2, ![2048, 16384]⟩ .f32) (ix2 r j)
        ∨ ((V c main_arg0 : FVec Ideal ⟨2, ![2048, 16384]⟩ .f32) (ix2 r j)
          = thr0 (F := Ideal) (iblk0 V c 0 (ptRow r.val)) (ix2 (⟨r.val % 128, Nat.mod_lt _ (by norm_num)⟩ : Fin 128) (0 : Fin 1)) ∧ j ≤ j0) := by
    refine Finset.filter_congr fun j _ => ?_
    unfold keptG
    refine or_congr Iff.rfl (and_congr Iff.rfl ?_)
    rw [show idxG V c (ix2 r (0 : Fin 1)) = BitVec.ofNat 32 j0.val from hidx, sle_ofNat _ _ j.isLt j0.isLt]
    exact Iff.rfl
  beta_reduce
  rw [hS]
  convert key

end Cert.KernelIdeal.Val

end
-- ==== Proof.V.Cols.lean ====
/- Column sums of a block, the normalisation's scale and shift, and the layout casts between a row and a vector. -/
module

public import proofs.«01_k».proof.Proof.V.RowOps
public import Idealize.ShloMosaic.Lib.Pipeline.Value
public import Idealize.ShloMosaic.Lib.ValueLayout

@[expose] public section

noncomputable section

namespace Cert.Row

open Idealize.ShloMosaic Idealize.ShloMosaic.ValueIdx

variable {A B : ℕ}

/-- The entry `(p, k)` under a reduction of the first axis. -/
theorem lift_col (h : (M A B).Reduces [0] (V1 B)) (k : Fin B) (p : Fin A) : h.lift (ix1 k) p = ix2 p k := by
  funext a
  apply Fin.ext
  match a with
  | ⟨0, _⟩ => rfl
  | ⟨1, _⟩ => rfl

/-- A column's sum. -/
theorem colSum (x : FVec Ideal (M A B) .f32) (h : (M A B).Reduces [0] (V1 B)) (hφ : FKind.Formats .f32)
    (hacc : (0x00000000#32 : BitVec 32) = FKind.add.neutral .f32 hφ) (k : Fin B) :
    multiReduction .add [0] (V1 B) x 0x00000000#32 h hφ hacc (ix1 k) = ∑ p : Fin A, x (ix2 p k) := by
  rw [Ideal.multiReduction_add_single]
  exact Finset.sum_congr rfl fun p _ => congrArg x (lift_col h k p)

/-- The sum of a stack of rows, over the stack. -/
theorem stackSum (x : FVec Ideal ⟨3, ![A, 1, B]⟩ .f32) (h : (⟨3, ![A, 1, B]⟩ : Shape).Reduces [0, 1] (V1 B)) (hφ : FKind.Formats .f32)
    (hacc : (0x00000000#32 : BitVec 32) = FKind.add.neutral .f32 hφ) (k : Fin B) :
    multiReduction .add [0, 1] (V1 B) x 0x00000000#32 h hφ hacc (ix1 k) = ∑ p : Fin A, x (ix3 p (0 : Fin 1) k) := by
  show Ideal.reduceAdd h x (ix1 k) = _
  unfold Ideal.reduceAdd
  have hd : ∀ i, ((h.drop i (0 : Fin 1)) : ℕ) = i (2 : Fin 3) := fun i => rfl
  refine Eq.symm (Finset.sum_bij (fun p _ => ix3 p (0 : Fin 1) k) ?_ ?_ ?_ ?_)
  · intro p _
    refine Finset.mem_filter.2 ⟨Finset.mem_univ _, ?_⟩
    funext b
    apply Fin.ext
    obtain rfl : b = (0 : Fin 1) := Subsingleton.elim _ _
    exact hd _
  · intro p _ q _ e
    exact congrFun e (0 : Fin 3)
  · intro i hi
    have e := (Finset.mem_filter.1 hi).2
    refine ⟨i 0, Finset.mem_univ _, ?_⟩
    funext a
    apply Fin.ext
    match a with
    | ⟨0, _⟩ => rfl
    | ⟨1, _⟩ => exact (Nat.lt_one_iff.1 (i (1 : Fin 3)).isLt).symm
    | ⟨2, _⟩ =>
      have := congrArg Fin.val (congrFun e (0 : Fin 1))
      exact this.symm.trans (hd i)
  · intro p _
    rfl

/-- A vector laid out as a stack of one row, read. -/
theorem cast_stack (v : FVec Ideal (V1 B) .f32) (h1 : (V1 B).ShapeCasts (M 1 B)) (h2 : (M 1 B).ShapeCasts ⟨3, ![1, 1, B]⟩) (k : Fin B) :
    shapeCast ⟨3, ![1, 1, B]⟩ (shapeCast (M 1 B) v h1) h2 (ix3 (0 : Fin 1) (0 : Fin 1) k) = v (ix1 k) :=
  (shapeCast_ab_1ab_apply _ h2 0 0 k).trans (shapeCast_a_1a_apply v h1 0 k)

/-- A vector laid out as one row and repeated over the rows, read. -/
theorem bcast_row (v : FVec Ideal (V1 B) .f32) (h1 : (V1 B).ShapeCasts (M 1 B)) (h2 : (M 1 B).Broadcasts (M A B)) (p : Fin A) (k : Fin B) :
    broadcastTo (M A B) (shapeCast (M 1 B) v h1) h2 (ix2 p k) = v (ix1 k) :=
  (broadcastTo_1b_ab_apply _ h2 p k).trans (shapeCast_a_1a_apply v h1 0 k)

/-- The count of rows, as the normalisations print it. -/
def cnt : EReal := Ideal.ofBits .f32 0x45000000#32
/-- The small number added to a variance. -/
def eps : EReal := Ideal.ofBits .f32 0x3727C5AC#32

/-- A normalisation's factor from a column's sum, its sum of squares and the gain. -/
def bnScale (S Q g : EReal) : EReal := g * Ideal.rsqrt (Ideal.div Q cnt - Ideal.div S cnt * Ideal.div S cnt + eps)
/-- A normalisation's summand likewise, from the offset as well. -/
def bnShift (S Q g b : EReal) : EReal := b - Ideal.div S cnt * bnScale S Q g

/-- The vector of factors, read at a column. -/
theorem vScale (s q : FVec Ideal (V1 B) .f32) (γ : FVec Ideal (M 1 B) .f32) (h : (M 1 B).ShapeCasts (V1 B)) (k : Fin B) :
    mulf (shapeCast (V1 B) γ h) (rsqrt (addf (subf (divf q (broadcast (V1 B) (Scalar.ofBits (F := Ideal) .f32 0x45000000#32)))
        (mulf (divf s (broadcast (V1 B) (Scalar.ofBits (F := Ideal) .f32 0x45000000#32))) (divf s (broadcast (V1 B) (Scalar.ofBits (F := Ideal) .f32 0x45000000#32)))))
      (broadcast (V1 B) (Scalar.ofBits (F := Ideal) .f32 0x3727C5AC#32)))) (ix1 k)
      = bnScale (s (ix1 k)) (q (ix1 k)) (γ (ix2 (0 : Fin 1) k)) :=
  congrArg (fun g : EReal => bnScale (s (ix1 k)) (q (ix1 k)) g) (shapeCast_1a_a_apply γ h k)

end Cert.Row

end
-- ==== Proof.V.R1.lean ====
/- The second kernel's three arrays: the pooled features and, per half of the rows, their column sums and sums of squares. -/
module

public import proofs.«01_k».proof.Proof.V.Thr
public import proofs.«01_k».proof.Proof.V.Cols

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg Cert.Row

open Classical in
/-- The features, those not kept replaced by zero. -/
def mkG (X : FVec Ideal ⟨2, ![2048, 16384]⟩ .f32) (th : FVec Ideal ⟨2, ![2048, 1]⟩ .f32) (ix : IVec ⟨2, ![2048, 1]⟩ 32) :
    FVec Ideal ⟨2, ![2048, 16384]⟩ .f32 := fun i =>
  if keptG X th ix (i 0) (i 1) then X (ix2 (i 0) (i 1)) else (0 : EReal)

/-- The pooled features: half of the square of the sum less the sum of the squares. -/
def poolG (Y : FVec Ideal ⟨2, ![2048, 16384]⟩ .f32) (E : FVec Ideal ⟨2, ![16384, 512]⟩ .f32) : FVec Ideal ⟨2, ![2048, 512]⟩ .f32 := fun i =>
  (Ideal.ofBits .f32 0x3F000000#32 : EReal) *
    ((∑ k ∈ Finset.range 16384, rd Y (i 0).val k * rd E k (i 1).val) * (∑ k ∈ Finset.range 16384, rd Y (i 0).val k * rd E k (i 1).val)
      - ∑ k ∈ Finset.range 16384, (rd Y (i 0).val k * rd Y (i 0).val k) * (rd E k (i 1).val * rd E k (i 1).val))

/-- Column sums of `H` over each of `A` blocks of `B` rows. -/
def sumG {R N : ℕ} (A B : ℕ) (H : FVec Ideal ⟨2, ![R, N]⟩ .f32) : FVec Ideal ⟨3, ![A, 1, N]⟩ .f32 := fun i =>
  ∑ p : Fin B, rd H ((i 0).val * B + p.val) (i 2).val
/-- Column sums of squares likewise. -/
def sqG {R N : ℕ} (A B : ℕ) (H : FVec Ideal ⟨2, ![R, N]⟩ .f32) : FVec Ideal ⟨3, ![A, 1, N]⟩ .f32 := fun i =>
  ∑ p : Fin B, rd H ((i 0).val * B + p.val) (i 2).val * rd H ((i 0).val * B + p.val) (i 2).val

variable (V : Dev nD → Valuation τ sig (Elt Ideal))

theorem ix1_0w : ∀ t : Fin cfg1.N, win1_0.index t (0 : Fin 2) = t.val / 8 ∧ win1_0.index t (1 : Fin 2) = t.val % 8 :=
  (by decide +kernel : ∀ t : Fin grid1.N, _)
theorem ix1_1w : ∀ t : Fin cfg1.N, win1_1.index t (0 : Fin 2) = t.val / 8 ∧ win1_1.index t (1 : Fin 2) = 0 :=
  (by decide +kernel : ∀ t : Fin grid1.N, _)
theorem ix1_2w : ∀ t : Fin cfg1.N, win1_2.index t (0 : Fin 2) = t.val / 8 ∧ win1_2.index t (1 : Fin 2) = 0 :=
  (by decide +kernel : ∀ t : Fin grid1.N, _)
theorem ix1_3w : ∀ t : Fin cfg1.N, win1_3.index t (0 : Fin 2) = t.val % 8 ∧ win1_3.index t (1 : Fin 2) = 0 :=
  (by decide +kernel : ∀ t : Fin grid1.N, _)
theorem ix1_4w : ∀ t : Fin cfg1.N, win1_4.index t (0 : Fin 2) = t.val / 8 ∧ win1_4.index t (1 : Fin 2) = 0 :=
  (by decide +kernel : ∀ t : Fin grid1.N, _)
theorem ix1_5w : ∀ t : Fin cfg1.N, win1_5.index t (0 : Fin 3) = t.val / 8 ∧ win1_5.index t (1 : Fin 3) = 0 ∧ win1_5.index t (2 : Fin 3) = 0 :=
  (by decide +kernel : ∀ t : Fin grid1.N, _)
theorem ix1_6w : ∀ t : Fin cfg1.N, win1_6.index t (0 : Fin 3) = t.val / 8 ∧ win1_6.index t (1 : Fin 3) = 0 ∧ win1_6.index t (2 : Fin 3) = 0 :=
  (by decide +kernel : ∀ t : Fin grid1.N, _)
theorem fl1 : ∀ t : Fin cfg1.N, ((cfg1.win 4).flush t = true ↔ t.val % 8 = 7) ∧ ((cfg1.win 5).flush t = true ↔ t.val % 8 = 7) ∧ ((cfg1.win 6).flush t = true ↔ t.val % 8 = 7) :=
  (by decide +kernel : ∀ t : Fin grid1.N, _)
theorem co1 : ∀ t : Fin cfg1.N, (grid1.coords t 1).val = t.val % 8 :=
  (by decide +kernel : ∀ t : Fin grid1.N, _)

theorem lt16' (t : Fin cfg1.N) : t.val < 16 := lt_of_lt_of_eq t.isLt N_1

open Classical in
/-- One block's masked features. -/
theorem pay7_apply' (i : grid1.Coords) (x : Vec Ideal S1024x2048 .f32) (th : Vec Ideal S1024x1 .f32) (ix : Vec Ideal S1024x1 .i32) (p : Fin 1024) (k : Fin 2048) :
    k1_pay7 (F := Ideal) i x th ix (ix2 p k)
      = if ((th (ix2 p (0 : Fin 1)) : EReal) < x (ix2 p k)
          ∨ ((x (ix2 p k) : EReal) = th (ix2 p (0 : Fin 1)) ∧ (BitVec.ofNat 32 k.val + BitVec.ofNat 32 (i 1).val * 2048#32).sle (ix (ix2 p (0 : Fin 1))) = true))
        then (x (ix2 p k) : EReal) else 0 := by
  unfold k1_pay7
  simp only [shapeCast_self]
  refine (sel _ _ _).trans ?_
  refine if_congr ?_ rfl Cert.Row.zero
  refine (bit_or _ _).trans (or_congr ((ogt _ _).trans ?_) ((bit_and _ _).trans (and_congr ((oeq _ _).trans ?_) ((ofBool_iff _).trans ?_))))
  · rw [bcast_col]
  · rw [bcast_col]
  · have h1 : broadcastTo S1024x2048 ix broadcasts_S1024x1_S1024x2048 (ix2 p k) = ix (ix2 p (0 : Fin 1)) := bcast_col ix _ p k
    have h2 : iota .tc S1024x2048 32 [1] iota_S1024x2048_d1_w32 (ix2 p k) = BitVec.ofNat 32 k.val := iota_single_apply _ _ _ _ _ _
    show BitVec.sle (IntOp.addi (iota .tc S1024x2048 32 [1] iota_S1024x2048_d1_w32 (ix2 p k)) _) (broadcastTo S1024x2048 ix broadcasts_S1024x1_S1024x2048 (ix2 p k)) = true ↔ _
    rw [h1, h2]
    exact Iff.rfl

/-- A choice by equivalent conditions, whatever decides them. -/
theorem ite_any {α : Type} {P Q : Prop} (iP : Decidable P) (iQ : Decidable Q) (h : P ↔ Q) {a b c : α} (hab : a = b) :
    @ite α P iP a c = @ite α Q iQ b c := by
  subst hab
  by_cases hp : P
  · rw [if_pos hp, if_pos (h.1 hp)]
  · rw [if_neg hp, if_neg (fun hq => hp (h.2 hq))]

/-- The masked features' block at a point, read off the whole. -/
theorem blk1_mk (c : Dev nD) (t : Fin cfg1.N) (p : Fin 1024) (k : Fin 2048) :
    k1_pay7 (F := Ideal) (grid1.coords t) (iblk1 V c 0 t) (iblk1 V c 1 t) (iblk1 V c 2 t) (ix2 p k)
      = rd (mkG (V c main_arg0) (V c main_v0_0) (V c main_v0_1)) (t.val / 8 * 1024 + p.val) (t.val % 8 * 2048 + k.val) := by
  classical
  have ht := lt16' t
  obtain ⟨a0, a1⟩ := ix1_0w t
  obtain ⟨b0, b1⟩ := ix1_1w t
  obtain ⟨c0, c1⟩ := ix1_2w t
  have hr : t.val / 8 * 1024 + p.val < 2048 := by have := p.isLt; omega
  have hk : t.val % 8 * 2048 + k.val < 16384 := by have := k.isLt; omega
  have hx : iblk1 V c 0 t (ix2 p k) = (V c main_arg0 : FVec Ideal ⟨2, ![2048, 16384]⟩ .f32) (ix2 (⟨_, hr⟩ : Fin 2048) (⟨_, hk⟩ : Fin 16384)) := by
    refine congrArg (V c main_arg0) ?_
    funext a; apply Fin.ext
    match a with
    | ⟨0, _⟩ => show win1_0.index t (0 : Fin 2) * 1024 + 1 * p.val = t.val / 8 * 1024 + p.val; omega
    | ⟨1, _⟩ => show win1_0.index t (1 : Fin 2) * 2048 + 1 * k.val = t.val % 8 * 2048 + k.val; omega
  have hth : iblk1 V c 1 t (ix2 p (0 : Fin 1)) = (V c main_v0_0 : FVec Ideal ⟨2, ![2048, 1]⟩ .f32) (ix2 (⟨_, hr⟩ : Fin 2048) (0 : Fin 1)) := by
    refine congrArg (V c main_v0_0) ?_
    funext a; apply Fin.ext
    match a with
    | ⟨0, _⟩ => show win1_1.index t (0 : Fin 2) * 1024 + 1 * p.val = t.val / 8 * 1024 + p.val; omega
    | ⟨1, _⟩ => show win1_1.index t (1 : Fin 2) * 1 + 1 * 0 = 0; omega
  have hix : iblk1 V c 2 t (ix2 p (0 : Fin 1)) = (V c main_v0_1 : IVec ⟨2, ![2048, 1]⟩ 32) (ix2 (⟨_, hr⟩ : Fin 2048) (0 : Fin 1)) := by
    refine congrArg (V c main_v0_1) ?_
    funext a; apply Fin.ext
    match a with
    | ⟨0, _⟩ => show win1_2.index t (0 : Fin 2) * 1024 + 1 * p.val = t.val / 8 * 1024 + p.val; omega
    | ⟨1, _⟩ => show win1_2.index t (1 : Fin 2) * 1 + 1 * 0 = 0; omega
  refine (pay7_apply' _ _ _ _ p k).trans ?_
  have hw : BitVec.ofNat 32 k.val + BitVec.ofNat 32 (grid1.coords t 1).val * 2048#32 = BitVec.ofNat 32 (t.val % 8 * 2048 + k.val) := by
    rw [co1 t]
    apply BitVec.eq_of_toNat_eq
    have := k.isLt
    simp only [BitVec.toNat_add, BitVec.toNat_mul, BitVec.toNat_ofNat]
    omega
  rw [hw]
  refine Eq.trans ?_ (rd_ix2 (mkG (V c main_arg0) (V c main_v0_0) (V c main_v0_1)) (⟨_, hr⟩ : Fin 2048) (⟨_, hk⟩ : Fin 16384)).symm
  unfold mkG keptG
  refine ite_any _ _ (or_congr ?_ (and_congr ?_ ?_)) hx
  · rw [hx, hth]
  · rw [hx, hth]
  · rw [hix]

/-- The embedding's block at a point. -/
theorem blk1_3 (c : Dev nD) (t : Fin cfg1.N) (k : Fin 2048) (q : Fin 512) :
    iblk1 V c 3 t (ix2 k q) = rd (A := 16384) (B := 512) (φ := .f32) (V c main_arg1) (t.val % 8 * 2048 + k.val) q.val := by
  obtain ⟨e0, e1⟩ := ix1_3w t
  refine rd_eq (A := 16384) (B := 512) (φ := .f32) (V c main_arg1) (((cfg1.win 3).blk t).view.emb (ix2 k q)) _ _ ?_ ?_
  · show win1_3.index t (0 : Fin 2) * 2048 + 1 * k.val = _
    omega
  · show win1_3.index t (1 : Fin 2) * 512 + 1 * q.val = _
    omega

theorem p5_apply (p : Fin 1024) (q : Fin 512) : (k1_pay5 (F := Ideal)) (ix2 p q) = (0 : EReal) := by
  unfold k1_pay5
  simp only [shapeCast_self]
  exact Cert.Row.zero
theorem p6_apply (p : Fin 1024) (q : Fin 512) : (k1_pay6 (F := Ideal)) (ix2 p q) = (0 : EReal) := by
  unfold k1_pay6
  simp only [shapeCast_self]
  exact Cert.Row.zero

/-- One accumulation adds a block product. -/
theorem p1_apply (a : Vec Ideal S1024x512 .f32) (x : FVec Ideal S1024x2048 .bf16) (w : FVec Ideal S2048x512 .bf16) (p : Fin 1024) (q : Fin 512) :
    k1_pay1 a x w (constant S1024x512 .f32 0x00000000#32) (ix2 p q) = (a (ix2 p q) : EReal) + ∑ k : Fin 2048, (x (ix2 p k) : EReal) * w (ix2 k q) := by
  unfold k1_pay1
  simp only [shapeCast_self]
  show (a (ix2 p q) : EReal) + FloatOps.matmul (F := Ideal) (DotDims.plain 1024 2048 512) none x w (constant S1024x512 .f32 0x00000000#32) (ix2 p q) = _
  rw [Ideal.matmul_plain_apply]
  refine congrArg ((a (ix2 p q) : EReal) + ·) ?_
  rw [show (constant (F := Ideal) S1024x512 .f32 0x00000000#32) (ix2 p q) = 0 from Cert.Row.zero, zero_add]

/-- The first accumulator's step. -/
theorem acc1a_apply (i : grid1.Coords) (x : Vec Ideal S1024x2048 .f32) (th : Vec Ideal S1024x1 .f32) (ix : Vec Ideal S1024x1 .i32) (e : Vec Ideal S2048x512 .f32)
    (a : Vec Ideal S1024x512 .f32) (p : Fin 1024) (q : Fin 512) :
    acc1a i x th ix e a (ix2 p q) = (a (ix2 p q) : EReal) + ∑ k : Fin 2048, (k1_pay7 i x th ix (ix2 p k) : EReal) * e (ix2 k q) := by
  unfold acc1a
  exact p1_apply a (truncf .bf16 (k1_pay7 i x th ix) bitsLt_bf16_f32) (truncf .bf16 e bitsLt_bf16_f32) p q

/-- The second accumulator's step. -/
theorem acc1b_apply (i : grid1.Coords) (x : Vec Ideal S1024x2048 .f32) (th : Vec Ideal S1024x1 .f32) (ix : Vec Ideal S1024x1 .i32) (e : Vec Ideal S2048x512 .f32)
    (a : Vec Ideal S1024x512 .f32) (p : Fin 1024) (q : Fin 512) :
    acc1b i x th ix e a (ix2 p q) = (a (ix2 p q) : EReal)
      + ∑ k : Fin 2048, ((k1_pay7 i x th ix (ix2 p k) : EReal) * k1_pay7 i x th ix (ix2 p k)) * ((e (ix2 k q) : EReal) * e (ix2 k q)) := by
  unfold acc1b
  exact p1_apply a (k1_pay9 i x th ix) (k1_pay10 e) p q

theorem accs1_nat (c : Dev nD) (n : ℕ) : accs1 V c (n + 1) =
    (acc1a (grid1.coords (pt1 n)) (iblk1 V c 0 (pt1 n)) (iblk1 V c 1 (pt1 n)) (iblk1 V c 2 (pt1 n)) (iblk1 V c 3 (pt1 n)) (if n % 8 = 0 then (k1_pay5 (F := Ideal) : Vec Ideal S1024x512 .f32) else (accs1 V c n).1),
      acc1b (grid1.coords (pt1 n)) (iblk1 V c 0 (pt1 n)) (iblk1 V c 1 (pt1 n)) (iblk1 V c 2 (pt1 n)) (iblk1 V c 3 (pt1 n)) (if n % 8 = 0 then (k1_pay6 (F := Ideal) : Vec Ideal S1024x512 .f32) else (accs1 V c n).2)) := rfl

/-- What both accumulators hold after a point: the partial sums of the points of its rows so far. -/
theorem accs1_apply (c : Dev nD) (p : Fin 1024) (q : Fin 512) : ∀ n : ℕ, n < 16 →
    ((accs1 V c (n + 1)).1 (ix2 p q) = ∑ k ∈ Finset.range (n % 8 + 1), ∑ l ∈ Finset.range 2048,
      rd (mkG (V c main_arg0) (V c main_v0_0) (V c main_v0_1)) (n / 8 * 1024 + p.val) (k * 2048 + l)
      * rd (A := 16384) (B := 512) (φ := .f32) (V c main_arg1) (k * 2048 + l) q.val)
    ∧ ((accs1 V c (n + 1)).2 (ix2 p q) = ∑ k ∈ Finset.range (n % 8 + 1), ∑ l ∈ Finset.range 2048,
      (rd (mkG (V c main_arg0) (V c main_v0_0) (V c main_v0_1)) (n / 8 * 1024 + p.val) (k * 2048 + l)
        * rd (mkG (V c main_arg0) (V c main_v0_0) (V c main_v0_1)) (n / 8 * 1024 + p.val) (k * 2048 + l))
      * (rd (A := 16384) (B := 512) (φ := .f32) (V c main_arg1) (k * 2048 + l) q.val
        * rd (A := 16384) (B := 512) (φ := .f32) (V c main_arg1) (k * 2048 + l) q.val)) := by
  intro n
  induction n with
  | zero =>
    intro hn
    rw [accs1_nat, if_pos (Nat.zero_mod 8), if_pos (Nat.zero_mod 8)]
    constructor
    · refine (acc1a_apply _ _ _ _ _ _ p q).trans ?_
      rw [p5_apply, zero_add, Finset.sum_range_one, ← sum_fin_range]
      refine Finset.sum_congr rfl fun k _ => congrArg₂ (fun a b : EReal => a * b) ?_ ?_
      · exact blk1_mk V c (pt1 0) p k
      · exact blk1_3 V c (pt1 0) k q
    · refine (acc1b_apply _ _ _ _ _ _ p q).trans ?_
      rw [p6_apply, zero_add, Finset.sum_range_one, ← sum_fin_range]
      refine Finset.sum_congr rfl fun k _ => congrArg₂ (fun a b : EReal => a * a * (b * b)) ?_ ?_
      · exact blk1_mk V c (pt1 0) p k
      · exact blk1_3 V c (pt1 0) k q
  | succ n ih =>
    intro hn
    have hpt : (pt1 (n + 1)).val = n + 1 := Nat.mod_eq_of_lt hn
    have hm : ∀ k : Fin 2048, k1_pay7 (F := Ideal) (grid1.coords (pt1 (n + 1))) (iblk1 V c 0 (pt1 (n + 1))) (iblk1 V c 1 (pt1 (n + 1))) (iblk1 V c 2 (pt1 (n + 1))) (ix2 p k)
        = rd (mkG (V c main_arg0) (V c main_v0_0) (V c main_v0_1)) ((n + 1) / 8 * 1024 + p.val) ((n + 1) % 8 * 2048 + k.val) := by
      intro k; rw [blk1_mk, hpt]
    have he : ∀ k : Fin 2048, iblk1 V c 3 (pt1 (n + 1)) (ix2 k q) = rd (A := 16384) (B := 512) (φ := .f32) (V c main_arg1) ((n + 1) % 8 * 2048 + k.val) q.val := by
      intro k; rw [blk1_3, hpt]
    rw [accs1_nat]
    constructor
    · refine (acc1a_apply _ _ _ _ _ _ p q).trans ?_
      rw [Finset.sum_congr rfl fun k _ => congrArg₂ (fun a b : EReal => a * b) (hm k) (he k)]
      rw [sum_fin_range (fun l => rd (mkG (V c main_arg0) (V c main_v0_0) (V c main_v0_1)) ((n + 1) / 8 * 1024 + p.val) ((n + 1) % 8 * 2048 + l)
        * rd (A := 16384) (B := 512) (φ := .f32) (V c main_arg1) ((n + 1) % 8 * 2048 + l) q.val)]
      by_cases h : (n + 1) % 8 = 0
      · rw [if_pos h, p5_apply, zero_add, h, Finset.sum_range_one]
      · rw [if_neg h, (ih (by omega)).1, Finset.sum_range_succ (n := (n + 1) % 8)]
        rw [show n % 8 + 1 = (n + 1) % 8 from by omega, show (n + 1) / 8 = n / 8 from by omega]
    · refine (acc1b_apply _ _ _ _ _ _ p q).trans ?_
      rw [Finset.sum_congr rfl fun k _ => congrArg₂ (fun a b : EReal => a * a * (b * b)) (hm k) (he k)]
      rw [sum_fin_range (fun l => (rd (mkG (V c main_arg0) (V c main_v0_0) (V c main_v0_1)) ((n + 1) / 8 * 1024 + p.val) ((n + 1) % 8 * 2048 + l)
        * rd (mkG (V c main_arg0) (V c main_v0_0) (V c main_v0_1)) ((n + 1) / 8 * 1024 + p.val) ((n + 1) % 8 * 2048 + l))
        * (rd (A := 16384) (B := 512) (φ := .f32) (V c main_arg1) ((n + 1) % 8 * 2048 + l) q.val
        * rd (A := 16384) (B := 512) (φ := .f32) (V c main_arg1) ((n + 1) % 8 * 2048 + l) q.val))]
      by_cases h : (n + 1) % 8 = 0
      · rw [if_pos h, p6_apply, zero_add, h, Finset.sum_range_one]
      · rw [if_neg h, (ih (by omega)).2, Finset.sum_range_succ (n := (n + 1) % 8)]
        rw [show n % 8 + 1 = (n + 1) % 8 from by omega, show (n + 1) / 8 = n / 8 from by omega]

/-- The pooled features over what the second kernel finds. -/
abbrev biV (c : Dev nD) : FVec Ideal ⟨2, ![2048, 512]⟩ .f32 :=
  poolG (mkG (V c main_arg0) (V c main_v0_0) (V c main_v0_1)) (V c main_arg1)

/-- The last point of each half leaves the half's pooled features. -/
theorem pool_apply (c : Dev nD) (t : Fin cfg1.N) (h7 : t.val % 8 = 7) (p : Fin 1024) (q : Fin 512) :
    k1_pay2 (F := Ideal) (accs1 V c (t.val + 1)).1 (accs1 V c (t.val + 1)).2 (ix2 p q) = rd (biV V c) (t.val / 8 * 1024 + p.val) q.val := by
  have ht := lt16' t
  have hr : t.val / 8 * 1024 + p.val < 2048 := by have := p.isLt; omega
  obtain ⟨ha, hb⟩ := accs1_apply V c p q t.val ht
  rw [h7] at ha hb
  rw [sum_blocks (fun k => rd (mkG (V c main_arg0) (V c main_v0_0) (V c main_v0_1)) (t.val / 8 * 1024 + p.val) k
      * rd (A := 16384) (B := 512) (φ := .f32) (V c main_arg1) k q.val) 2048 8] at ha
  rw [sum_blocks (fun k => (rd (mkG (V c main_arg0) (V c main_v0_0) (V c main_v0_1)) (t.val / 8 * 1024 + p.val) k
        * rd (mkG (V c main_arg0) (V c main_v0_0) (V c main_v0_1)) (t.val / 8 * 1024 + p.val) k)
      * (rd (A := 16384) (B := 512) (φ := .f32) (V c main_arg1) k q.val * rd (A := 16384) (B := 512) (φ := .f32) (V c main_arg1) k q.val)) 2048 8] at hb
  refine Eq.trans ?_ (rd_ix2 (biV V c) (⟨_, hr⟩ : Fin 2048) q).symm
  unfold biV poolG k1_pay2
  exact congrArg₂ (fun a b : EReal => (Ideal.ofBits .f32 0x3F000000#32 : EReal) * (a * a - b)) ha hb

theorem flushed1_4 (c : Dev nD) (t : Fin cfg1.N) (hf : (cfg1.win 4).flush t = true) :
    (dat1 V c).flushed 4 t = ((cfg1.win 4).blk t).view.read (Elt Ideal) (biV V c) := by
  obtain ⟨e0, e1⟩ := ix1_4w t
  funext j
  obtain ⟨p, q, rfl⟩ : ∃ (p : Fin 1024) (q : Fin 512), j = ix2 p q := ⟨j 0, j 1, by funext a; match a with | ⟨0, _⟩ => rfl | ⟨1, _⟩ => rfl⟩
  show k1_pay2 (F := Ideal) (accs1 V c (t.val + 1)).1 (accs1 V c (t.val + 1)).2 (ix2 p q) = biV V c (((cfg1.win 4).blk t).view.emb (ix2 p q))
  refine (pool_apply V c t ((fl1 t).1.1 hf) p q).trans (rd_eq _ _ _ _ ?_ ?_).symm
  · show win1_4.index t (0 : Fin 2) * 1024 + 1 * p.val = _
    omega
  · show win1_4.index t (1 : Fin 2) * 512 + 1 * q.val = _
    omega

theorem ix3_surj {b : ℕ} (j : (⟨3, ![1, 1, b]⟩ : Shape).Idx) : ∃ q : Fin b, j = ix3 (0 : Fin 1) (0 : Fin 1) q :=
  ⟨j 2, by
    funext a; apply Fin.ext
    match a with
    | ⟨0, _⟩ => exact Nat.lt_one_iff.1 (j (0 : Fin 3)).isLt
    | ⟨1, _⟩ => exact Nat.lt_one_iff.1 (j (1 : Fin 3)).isLt
    | ⟨2, _⟩ => rfl⟩

theorem flushed1_5 (c : Dev nD) (t : Fin cfg1.N) (hf : (cfg1.win 5).flush t = true) :
    (dat1 V c).flushed 5 t = ((cfg1.win 5).blk t).view.read (Elt Ideal) (sumG 2 1024 (biV V c)) := by
  obtain ⟨e0, e1, e2⟩ := ix1_5w t
  have h7 := (fl1 t).2.1.1 hf
  funext j
  obtain ⟨q, rfl⟩ := ix3_surj (b := 512) j
  show k1_pay3 (F := Ideal) (accs1 V c (t.val + 1)).1 (accs1 V c (t.val + 1)).2 (ix3 (0 : Fin 1) (0 : Fin 1) q)
    = sumG 2 1024 (biV V c) (((cfg1.win 5).blk t).view.emb (ix3 (0 : Fin 1) (0 : Fin 1) q))
  have h0 : (((cfg1.win 5).blk t).view.emb (ix3 (0 : Fin 1) (0 : Fin 1) q) (0 : Fin 3)).val = t.val / 8 := by
    show win1_5.index t (0 : Fin 3) * 1 + 1 * 0 = _
    omega
  have h2 : (((cfg1.win 5).blk t).view.emb (ix3 (0 : Fin 1) (0 : Fin 1) q) (2 : Fin 3)).val = q.val := by
    show win1_5.index t (2 : Fin 3) * 512 + 1 * q.val = _
    omega
  unfold k1_pay3 sumG
  rw [h0, h2]
  refine (cast_stack _ _ _ q).trans ((colSum _ _ _ _ q).trans ?_)
  exact Finset.sum_congr rfl fun p _ => pool_apply V c t h7 p q

theorem flushed1_6 (c : Dev nD) (t : Fin cfg1.N) (hf : (cfg1.win 6).flush t = true) :
    (dat1 V c).flushed 6 t = ((cfg1.win 6).blk t).view.read (Elt Ideal) (sqG 2 1024 (biV V c)) := by
  obtain ⟨e0, e1, e2⟩ := ix1_6w t
  have h7 := (fl1 t).2.2.1 hf
  funext j
  obtain ⟨q, rfl⟩ := ix3_surj (b := 512) j
  show k1_pay4 (F := Ideal) (accs1 V c (t.val + 1)).1 (accs1 V c (t.val + 1)).2 (ix3 (0 : Fin 1) (0 : Fin 1) q)
    = sqG 2 1024 (biV V c) (((cfg1.win 6).blk t).view.emb (ix3 (0 : Fin 1) (0 : Fin 1) q))
  have h0 : (((cfg1.win 6).blk t).view.emb (ix3 (0 : Fin 1) (0 : Fin 1) q) (0 : Fin 3)).val = t.val / 8 := by
    show win1_6.index t (0 : Fin 3) * 1 + 1 * 0 = _
    omega
  have h2 : (((cfg1.win 6).blk t).view.emb (ix3 (0 : Fin 1) (0 : Fin 1) q) (2 : Fin 3)).val = q.val := by
    show win1_6.index t (2 : Fin 3) * 512 + 1 * q.val = _
    omega
  unfold k1_pay4 sqG
  rw [h0, h2]
  refine (cast_stack _ _ _ q).trans ((colSum _ _ _ _ q).trans ?_)
  exact Finset.sum_congr rfl fun p _ => congrArg₂ (fun a b : EReal => a * b) (pool_apply V c t h7 p q) (pool_apply V c t h7 p q)

theorem cover1_4 (i : S2048x512.Idx) : ∃ t : Fin cfg1.N, (cfg1.win 4).flush t = true ∧ i ∈ ((cfg1.win 4).blk t).view.set := by
  have hi0 : (i 0).val < 2048 := (i 0).isLt
  have hi1 : (i 1).val < 512 := (i 1).isLt
  let t : Fin cfg1.N := pt1 ((i 0).val / 1024 * 8 + 7)
  have htv : t.val = (i 0).val / 1024 * 8 + 7 := Nat.mod_eq_of_lt (by omega)
  obtain ⟨e0, e1⟩ := ix1_4w t
  refine ⟨t, (fl1 t).1.2 (by omega), ?_⟩
  have h := ((cfg1.win 4).blk t).view.emb_mem_set (ix2 (⟨(i 0).val % 1024, by omega⟩ : Fin 1024) (⟨(i 1).val, hi1⟩ : Fin 512))
  have he : ((cfg1.win 4).blk t).view.emb (ix2 (⟨(i 0).val % 1024, by omega⟩ : Fin 1024) (⟨(i 1).val, hi1⟩ : Fin 512)) = i := by
    funext a; apply Fin.ext
    match a with
    | ⟨0, _⟩ =>
      show win1_4.index t (0 : Fin 2) * 1024 + 1 * ((i 0).val % 1024) = (i 0).val
      omega
    | ⟨1, _⟩ =>
      show win1_4.index t (1 : Fin 2) * 512 + 1 * (i 1).val = (i 1).val
      omega
  rwa [he] at h

theorem cover1_5 (i : S2x1x512.Idx) : ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 512 := (i 2).isLt
  let t : Fin cfg1.N := pt1 ((i 0).val * 8 + 7)
  have htv : t.val = (i 0).val * 8 + 7 := Nat.mod_eq_of_lt (by omega)
  obtain ⟨e0, e1, e2⟩ := ix1_5w t
  refine ⟨t, (fl1 t).2.1.2 (by omega), ?_⟩
  have h := ((cfg1.win 5).blk t).view.emb_mem_set (ix3 (0 : Fin 1) (0 : Fin 1) (⟨(i 2).val, hi2⟩ : Fin 512))
  have he : ((cfg1.win 5).blk t).view.emb (ix3 (0 : Fin 1) (0 : Fin 1) (⟨(i 2).val, hi2⟩ : Fin 512)) = i := by
    funext a; apply Fin.ext
    match a with
    | ⟨0, _⟩ =>
      show win1_5.index t (0 : Fin 3) * 1 + 1 * 0 = (i 0).val
      omega
    | ⟨1, _⟩ =>
      show win1_5.index t (1 : Fin 3) * 1 + 1 * 0 = (i 1).val
      omega
    | ⟨2, _⟩ =>
      show win1_5.index t (2 : Fin 3) * 512 + 1 * (i 2).val = (i 2).val
      omega
  rwa [he] at h

theorem cover1_6 (i : S2x1x512.Idx) : ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 512 := (i 2).isLt
  let t : Fin cfg1.N := pt1 ((i 0).val * 8 + 7)
  have htv : t.val = (i 0).val * 8 + 7 := Nat.mod_eq_of_lt (by omega)
  obtain ⟨e0, e1, e2⟩ := ix1_6w t
  refine ⟨t, (fl1 t).2.2.2 (by omega), ?_⟩
  have h := ((cfg1.win 6).blk t).view.emb_mem_set (ix3 (0 : Fin 1) (0 : Fin 1) (⟨(i 2).val, hi2⟩ : Fin 512))
  have he : ((cfg1.win 6).blk t).view.emb (ix3 (0 : Fin 1) (0 : Fin 1) (⟨(i 2).val, hi2⟩ : Fin 512)) = i := by
    funext a; apply Fin.ext
    match a with
    | ⟨0, _⟩ =>
      show win1_6.index t (0 : Fin 3) * 1 + 1 * 0 = (i 0).val
      omega
    | ⟨1, _⟩ =>
      show win1_6.index t (1 : Fin 3) * 1 + 1 * 0 = (i 1).val
      omega
    | ⟨2, _⟩ =>
      show win1_6.index t (2 : Fin 3) * 512 + 1 * (i 2).val = (i 2).val
      omega
  rwa [he] at h

/-- The pooled features' array after the second kernel. -/
theorem arr1_4 (c : Dev nD) : (dat1 V c).arrAt 4 cfg1.N = biV V c :=
  (dat1 V c).arrAt_eq_of_cover 4 _ (flushed1_4 V c) cover1_4
/-- Their column sums over each half of the rows. -/
theorem arr1_5 (c : Dev nD) : (dat1 V c).arrAt 5 cfg1.N = sumG 2 1024 (biV V c) :=
  (dat1 V c).arrAt_eq_of_cover 5 _ (flushed1_5 V c) cover1_5
/-- Their column sums of squares over each half of the rows. -/
theorem arr1_6 (c : Dev nD) : (dat1 V c).arrAt 6 cfg1.N = sqG 2 1024 (biV V c) :=
  (dat1 V c).arrAt_eq_of_cover 6 _ (flushed1_6 V c) cover1_6

end Cert.KernelIdeal.Val

end
-- ==== Proof.V.R2.lean ====
/- The third kernel's three arrays: the first layer's outputs and, per block of rows, their column sums and sums of squares. -/
module

public import proofs.«01_k».proof.Proof.V.R1

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg Cert.Row

/-- A normalised entry: the entry times its column's factor plus its column's summand, the column's sum and sum of squares taken over `A` partial ones. -/
def bnE {A : ℕ} (x : EReal) (s q : FVec Ideal ⟨3, ![A, 1, 512]⟩ .f32) (γ β : FVec Ideal ⟨2, ![1, 512]⟩ .f32) (k : Fin 512) : EReal :=
  x * bnScale (∑ a : Fin A, s (ix3 a (0 : Fin 1) k)) (∑ a : Fin A, q (ix3 a (0 : Fin 1) k)) (γ (ix2 (0 : Fin 1) k))
    + bnShift (∑ a : Fin A, s (ix3 a (0 : Fin 1) k)) (∑ a : Fin A, q (ix3 a (0 : Fin 1) k)) (γ (ix2 (0 : Fin 1) k)) (β (ix2 (0 : Fin 1) k))

/-- The first layer of the normalised pooled features. -/
def hG (bi : FVec Ideal ⟨2, ![2048, 512]⟩ .f32) (s q : FVec Ideal ⟨3, ![2, 1, 512]⟩ .f32) (w : FVec Ideal ⟨2, ![512, 512]⟩ .f32)
    (b γ β : FVec Ideal ⟨2, ![1, 512]⟩ .f32) : FVec Ideal ⟨2, ![2048, 512]⟩ .f32 := fun i =>
  (∑ k : Fin 512, bnE (bi (ix2 (i 0) k)) s q γ β k * w (ix2 k (i 1))) + (b (ix2 (0 : Fin 1) (i 1)) : EReal)

/-- One block's product of the normalised features with the transposed weights. -/
theorem k2_pay4_apply (s q : Vec Ideal S2x1x512 .f32) (γ β : Vec Ideal S1x512 .f32) (x : Vec Ideal S256x512 .f32) (w : Vec Ideal S512x512 .f32) (p : Fin 256) (j : Fin 512) :
    k2_pay4 s q γ β x w (ix2 p j) = ∑ k : Fin 512, bnE (A := 2) (x (ix2 p k)) s q γ β k * (w (ix2 k j) : EReal) := by
  unfold k2_pay4
  simp only [shapeCast_self]
  refine (Ideal.matmul_plain_apply (M := 256) (K := 512) (N := 512) none _ _ _ p j).trans ?_
  rw [show (constant (F := Ideal) S256x512 .f32 0x00000000#32) (ix2 p j) = 0 from Cert.Row.zero, zero_add]
  refine Finset.sum_congr rfl fun k _ => congrArg₂ (fun a b : EReal => a * b) ?_ rfl
  have hs : ∀ z : FVec Ideal S2x1x512 .f32, (multiReduction (F := Ideal) (φ := .f32) .add [0, 1] S512 z 0x00000000#32 reduces_S2x1x512_S512 (.inl rfl) rfl (ix1 k) : EReal) = ∑ a : Fin 2, z (ix3 a (0 : Fin 1) k) :=
    fun z => stackSum (A := 2) (B := 512) z _ _ _ k
  have hsc := vScale (B := 512) (multiReduction .add [0, 1] S512 s 0x00000000#32 reduces_S2x1x512_S512 (.inl rfl) rfl)
    (multiReduction .add [0, 1] S512 q 0x00000000#32 reduces_S2x1x512_S512 (.inl rfl) rfl) γ shapeCasts_S1x512_S512 k
  rw [hs, hs] at hsc
  refine (congrArg₂ (fun a b : EReal => (x (ix2 p k) : EReal) * a + b) (bcast_row (A := 256) (B := 512) _ _ _ p k) (bcast_row (A := 256) (B := 512) _ _ _ p k)).trans ?_
  unfold bnE bnShift
  refine congrArg₂ (fun a b : EReal => (x (ix2 p k) : EReal) * a + b) hsc ?_
  refine congrArg₂ (fun a b : EReal => a - b) (shapeCast_1a_a_apply β shapeCasts_S1x512_S512 k) ?_
  exact congrArg₂ (fun a b : EReal => Ideal.div a cnt * b) (hs s) hsc

/-- One block of the layer. -/
theorem k2_pay1_apply (v : FVec Ideal S256x512 .f32) (b : Vec Ideal S1x512 .f32) (p : Fin 256) (j : Fin 512) :
    k2_pay1 v (k2_pay5 b) (ix2 p j) = (v (ix2 p j) : EReal) + b (ix2 (0 : Fin 1) j) := by
  unfold k2_pay1 k2_pay5
  simp only [shapeCast_self]
  exact congrArg (fun a : EReal => (v (ix2 p j) : EReal) + a) (broadcastTo_1b_ab_apply b broadcasts_S1x512_S256x512 p j)

variable (V : Dev nD → Valuation τ sig (Elt Ideal))

theorem ix2_0w : ∀ t : Fin cfg2.N, win2_0.index t (0 : Fin 2) = t.val ∧ win2_0.index t (1 : Fin 2) = 0 :=
  (by decide +kernel : ∀ t : Fin grid2.N, _)
theorem ix2_7w : ∀ t : Fin cfg2.N, win2_7.index t (0 : Fin 2) = t.val ∧ win2_7.index t (1 : Fin 2) = 0 :=
  (by decide +kernel : ∀ t : Fin grid2.N, _)
theorem ix2_8w : ∀ t : Fin cfg2.N, win2_8.index t (0 : Fin 3) = t.val ∧ win2_8.index t (1 : Fin 3) = 0 ∧ win2_8.index t (2 : Fin 3) = 0 :=
  (by decide +kernel : ∀ t : Fin grid2.N, _)
theorem ix2_9w : ∀ t : Fin cfg2.N, win2_9.index t (0 : Fin 3) = t.val ∧ win2_9.index t (1 : Fin 3) = 0 ∧ win2_9.index t (2 : Fin 3) = 0 :=
  (by decide +kernel : ∀ t : Fin grid2.N, _)
theorem ix2_3s : ∀ t : Fin cfg2.N, (∀ a : Fin 3, win2_1.index t a = 0) ∧ (∀ a : Fin 3, win2_2.index t a = 0) :=
  (by decide +kernel : ∀ t : Fin grid2.N, _)
theorem ix2_2s : ∀ t : Fin cfg2.N, (∀ a : Fin 2, win2_3.index t a = 0) ∧ (∀ a : Fin 2, win2_4.index t a = 0) ∧ (∀ a : Fin 2, win2_5.index t a = 0) ∧ (∀ a : Fin 2, win2_6.index t a = 0) :=
  (by decide +kernel : ∀ t : Fin grid2.N, _)
theorem fl2 : ∀ t : Fin cfg2.N, (cfg2.win 7).flush t = true ∧ (cfg2.win 8).flush t = true ∧ (cfg2.win 9).flush t = true :=
  (by decide +kernel : ∀ t : Fin grid2.N, _)

theorem lt8 (t : Fin cfg2.N) : t.val < 8 := lt_of_lt_of_eq t.isLt N_2

theorem blk2_0 (c : Dev nD) (t : Fin cfg2.N) (p : Fin 256) (k : Fin 512) (hr : t.val * 256 + p.val < 2048) :
    iblk2 V c 0 t (ix2 p k) = (V c main_v1_0 : FVec Ideal ⟨2, ![2048, 512]⟩ .f32) (ix2 (⟨t.val * 256 + p.val, hr⟩ : Fin 2048) k) := by
  obtain ⟨e0, e1⟩ := ix2_0w t
  refine congrArg (V c main_v1_0) ?_
  funext a; apply Fin.ext
  match a with
  | ⟨0, _⟩ => show win2_0.index t (0 : Fin 2) * 256 + 1 * p.val = t.val * 256 + p.val; omega
  | ⟨1, _⟩ => show win2_0.index t (1 : Fin 2) * 512 + 1 * k.val = k.val; omega

theorem blk2_1 (c : Dev nD) (t : Fin cfg2.N) : iblk2 V c 1 t = V c main_v1_1 := by
  funext j
  refine congrArg (V c main_v1_1) ?_
  funext a; apply Fin.ext
  show win2_1.index t a * _ + 1 * (j a).val = (j a).val
  rw [(ix2_3s t).1 a]; omega
theorem blk2_2 (c : Dev nD) (t : Fin cfg2.N) : iblk2 V c 2 t = V c main_v1_2 := by
  funext j
  refine congrArg (V c main_v1_2) ?_
  funext a; apply Fin.ext
  show win2_2.index t a * _ + 1 * (j a).val = (j a).val
  rw [(ix2_3s t).2 a]; omega
theorem blk2_3 (c : Dev nD) (t : Fin cfg2.N) : iblk2 V c 3 t = V c main_v2 := by
  funext j
  refine congrArg (V c main_v2) ?_
  funext a; apply Fin.ext
  show win2_3.index t a * _ + 1 * (j a).val = (j a).val
  rw [(ix2_2s t).1 a]; omega
theorem blk2_4 (c : Dev nD) (t : Fin cfg2.N) : iblk2 V c 4 t = V c main_v3 := by
  funext j
  refine congrArg (V c main_v3) ?_
  funext a; apply Fin.ext
  show win2_4.index t a * _ + 1 * (j a).val = (j a).val
  rw [(ix2_2s t).2.1 a]; omega
theorem blk2_5 (c : Dev nD) (t : Fin cfg2.N) : iblk2 V c 5 t = V c main_v4 := by
  funext j
  refine congrArg (V c main_v4) ?_
  funext a; apply Fin.ext
  show win2_5.index t a * _ + 1 * (j a).val = (j a).val
  rw [(ix2_2s t).2.2.1 a]; omega
theorem blk2_6 (c : Dev nD) (t : Fin cfg2.N) : iblk2 V c 6 t = V c main_v5 := by
  funext j
  refine congrArg (V c main_v5) ?_
  funext a; apply Fin.ext
  show win2_6.index t a * _ + 1 * (j a).val = (j a).val
  rw [(ix2_2s t).2.2.2 a]; omega

/-- The first layer over what the third kernel finds. -/
abbrev hV (c : Dev nD) : FVec Ideal ⟨2, ![2048, 512]⟩ .f32 :=
  hG (V c main_v1_0) (V c main_v1_1) (V c main_v1_2) (V c main_v2) (V c main_v3) (V c main_v4) (V c main_v5)

/-- What a point leaves of the layer is its rows. -/
theorem layer_apply (c : Dev nD) (t : Fin cfg2.N) (p : Fin 256) (q : Fin 512) :
    k2_pay1 (k2_pay4 (iblk2 V c 1 t) (iblk2 V c 2 t) (iblk2 V c 5 t) (iblk2 V c 6 t) (iblk2 V c 0 t) (iblk2 V c 3 t)) (k2_pay5 (iblk2 V c 4 t)) (ix2 p q)
      = rd (hV V c) (t.val * 256 + p.val) q.val := by
  have ht := lt8 t
  have hr : t.val * 256 + p.val < 2048 := by have := p.isLt; omega
  refine (k2_pay1_apply _ _ p q).trans ?_
  refine Eq.trans ?_ (rd_ix2 (hV V c) (⟨_, hr⟩ : Fin 2048) q).symm
  unfold hV hG
  refine congrArg₂ (fun a b : EReal => a + b) ((k2_pay4_apply _ _ _ _ _ _ p q).trans ?_) (congrFun (blk2_4 V c t) _)
  rw [blk2_1, blk2_2, blk2_3, blk2_5, blk2_6]
  exact Finset.sum_congr rfl fun k _ => congrArg (fun a : EReal => bnE (A := 2) a (V c main_v1_1) (V c main_v1_2) (V c main_v4) (V c main_v5) k
    * (V c main_v2 : FVec Ideal ⟨2, ![512, 512]⟩ .f32) (ix2 k q)) (blk2_0 V c t p k hr)

theorem flushed2_7 (c : Dev nD) (t : Fin cfg2.N) (hf : (cfg2.win 7).flush t = true) :
    (dat2 V c).flushed 7 t = ((cfg2.win 7).blk t).view.read (Elt Ideal) (hV V c) := by
  obtain ⟨e0, e1⟩ := ix2_7w t
  funext j
  obtain ⟨p, q, rfl⟩ : ∃ (p : Fin 256) (q : Fin 512), j = ix2 p q := ⟨j 0, j 1, by funext a; match a with | ⟨0, _⟩ => rfl | ⟨1, _⟩ => rfl⟩
  show k2_pay1 (k2_pay4 (iblk2 V c 1 t) (iblk2 V c 2 t) (iblk2 V c 5 t) (iblk2 V c 6 t) (iblk2 V c 0 t) (iblk2 V c 3 t)) (k2_pay5 (iblk2 V c 4 t)) (ix2 p q)
    = hV V c (((cfg2.win 7).blk t).view.emb (ix2 p q))
  refine (layer_apply V c t p q).trans (rd_eq _ _ _ _ ?_ ?_).symm
  · show win2_7.index t (0 : Fin 2) * 256 + 1 * p.val = _
    omega
  · show win2_7.index t (1 : Fin 2) * 512 + 1 * q.val = _
    omega

theorem flushed2_8 (c : Dev nD) (t : Fin cfg2.N) (hf : (cfg2.win 8).flush t = true) :
    (dat2 V c).flushed 8 t = ((cfg2.win 8).blk t).view.read (Elt Ideal) (sumG 8 256 (hV V c)) := by
  obtain ⟨e0, e1, e2⟩ := ix2_8w t
  funext j
  obtain ⟨q, rfl⟩ := ix3_surj (b := 512) j
  show k2_pay2 (k2_pay4 (iblk2 V c 1 t) (iblk2 V c 2 t) (iblk2 V c 5 t) (iblk2 V c 6 t) (iblk2 V c 0 t) (iblk2 V c 3 t)) (k2_pay5 (iblk2 V c 4 t)) (ix3 (0 : Fin 1) (0 : Fin 1) q)
    = sumG 8 256 (hV V c) (((cfg2.win 8).blk t).view.emb (ix3 (0 : Fin 1) (0 : Fin 1) q))
  have h0 : (((cfg2.win 8).blk t).view.emb (ix3 (0 : Fin 1) (0 : Fin 1) q) (0 : Fin 3)).val = t.val := by
    show win2_8.index t (0 : Fin 3) * 1 + 1 * 0 = _
    omega
  have h2 : (((cfg2.win 8).blk t).view.emb (ix3 (0 : Fin 1) (0 : Fin 1) q) (2 : Fin 3)).val = q.val := by
    show win2_8.index t (2 : Fin 3) * 512 + 1 * q.val = _
    omega
  unfold k2_pay2 sumG
  rw [h0, h2]
  refine (cast_stack _ _ _ q).trans ((colSum _ _ _ _ q).trans ?_)
  exact Finset.sum_congr rfl fun p _ => layer_apply V c t p q

theorem flushed2_9 (c : Dev nD) (t : Fin cfg2.N) (hf : (cfg2.win 9).flush t = true) :
    (dat2 V c).flushed 9 t = ((cfg2.win 9).blk t).view.read (Elt Ideal) (sqG 8 256 (hV V c)) := by
  obtain ⟨e0, e1, e2⟩ := ix2_9w t
  funext j
  obtain ⟨q, rfl⟩ := ix3_surj (b := 512) j
  show k2_pay3 (k2_pay4 (iblk2 V c 1 t) (iblk2 V c 2 t) (iblk2 V c 5 t) (iblk2 V c 6 t) (iblk2 V c 0 t) (iblk2 V c 3 t)) (k2_pay5 (iblk2 V c 4 t)) (ix3 (0 : Fin 1) (0 : Fin 1) q)
    = sqG 8 256 (hV V c) (((cfg2.win 9).blk t).view.emb (ix3 (0 : Fin 1) (0 : Fin 1) q))
  have h0 : (((cfg2.win 9).blk t).view.emb (ix3 (0 : Fin 1) (0 : Fin 1) q) (0 : Fin 3)).val = t.val := by
    show win2_9.index t (0 : Fin 3) * 1 + 1 * 0 = _
    omega
  have h2 : (((cfg2.win 9).blk t).view.emb (ix3 (0 : Fin 1) (0 : Fin 1) q) (2 : Fin 3)).val = q.val := by
    show win2_9.index t (2 : Fin 3) * 512 + 1 * q.val = _
    omega
  unfold k2_pay3 sqG
  rw [h0, h2]
  refine (cast_stack _ _ _ q).trans ((colSum _ _ _ _ q).trans ?_)
  exact Finset.sum_congr rfl fun p _ => congrArg₂ (fun a b : EReal => a * b) (layer_apply V c t p q) (layer_apply V c t p q)

theorem cover2_7 (i : S2048x512.Idx) : ∃ t : Fin cfg2.N, (cfg2.win 7).flush t = true ∧ i ∈ ((cfg2.win 7).blk t).view.set := by
  have hi0 : (i 0).val < 2048 := (i 0).isLt
  have hi1 : (i 1).val < 512 := (i 1).isLt
  let t : Fin cfg2.N := pt2 ((i 0).val / 256)
  have htv : t.val = (i 0).val / 256 := Nat.mod_eq_of_lt (by omega)
  obtain ⟨e0, e1⟩ := ix2_7w t
  refine ⟨t, (fl2 t).1, ?_⟩
  have h := ((cfg2.win 7).blk t).view.emb_mem_set (ix2 (⟨(i 0).val % 256, by omega⟩ : Fin 256) (⟨(i 1).val, hi1⟩ : Fin 512))
  have he : ((cfg2.win 7).blk t).view.emb (ix2 (⟨(i 0).val % 256, by omega⟩ : Fin 256) (⟨(i 1).val, hi1⟩ : Fin 512)) = i := by
    funext a; apply Fin.ext
    match a with
    | ⟨0, _⟩ =>
      show win2_7.index t (0 : Fin 2) * 256 + 1 * ((i 0).val % 256) = (i 0).val
      omega
    | ⟨1, _⟩ =>
      show win2_7.index t (1 : Fin 2) * 512 + 1 * (i 1).val = (i 1).val
      omega
  rwa [he] at h

theorem cover2_8 (i : S8x1x512.Idx) : ∃ t : Fin cfg2.N, (cfg2.win 8).flush t = true ∧ i ∈ ((cfg2.win 8).blk t).view.set := by
  have hi0 : (i 0).val < 8 := (i 0).isLt
  have hi1 : (i 1).val < 1 := (i 1).isLt
  have hi2 : (i 2).val < 512 := (i 2).isLt
  let t : Fin cfg2.N := pt2 (i 0).val
  have htv : t.val = (i 0).val := Nat.mod_eq_of_lt (by omega)
  obtain ⟨e0, e1, e2⟩ := ix2_8w t
  refine ⟨t, (fl2 t).2.1, ?_⟩
  have h := ((cfg2.win 8).blk t).view.emb_mem_set (ix3 (0 : Fin 1) (0 : Fin 1) (⟨(i 2).val, hi2⟩ : Fin 512))
  have he : ((cfg2.win 8).blk t).view.emb (ix3 (0 : Fin 1) (0 : Fin 1) (⟨(i 2).val, hi2⟩ : Fin 512)) = i := by
    funext a; apply Fin.ext
    match a with
    | ⟨0, _⟩ =>
      show win2_8.index t (0 : Fin 3) * 1 + 1 * 0 = (i 0).val
      omega
    | ⟨1, _⟩ =>
      show win2_8.index t (1 : Fin 3) * 1 + 1 * 0 = (i 1).val
      omega
    | ⟨2, _⟩ =>
      show win2_8.index t (2 : Fin 3) * 512 + 1 * (i 2).val = (i 2).val
      omega
  rwa [he] at h

theorem cover2_9 (i : S8x1x512.Idx) : ∃ t : Fin cfg2.N, (cfg2.win 9).flush t = true ∧ i ∈ ((cfg2.win 9).blk t).view.set := by
  have hi0 : (i 0).val < 8 := (i 0).isLt
  have hi1 : (i 1).val < 1 := (i 1).isLt
  have hi2 : (i 2).val < 512 := (i 2).isLt
  let t : Fin cfg2.N := pt2 (i 0).val
  have htv : t.val = (i 0).val := Nat.mod_eq_of_lt (by omega)
  obtain ⟨e0, e1, e2⟩ := ix2_9w t
  refine ⟨t, (fl2 t).2.2, ?_⟩
  have h := ((cfg2.win 9).blk t).view.emb_mem_set (ix3 (0 : Fin 1) (0 : Fin 1) (⟨(i 2).val, hi2⟩ : Fin 512))
  have he : ((cfg2.win 9).blk t).view.emb (ix3 (0 : Fin 1) (0 : Fin 1) (⟨(i 2).val, hi2⟩ : Fin 512)) = i := by
    funext a; apply Fin.ext
    match a with
    | ⟨0, _⟩ =>
      show win2_9.index t (0 : Fin 3) * 1 + 1 * 0 = (i 0).val
      omega
    | ⟨1, _⟩ =>
      show win2_9.index t (1 : Fin 3) * 1 + 1 * 0 = (i 1).val
      omega
    | ⟨2, _⟩ =>
      show win2_9.index t (2 : Fin 3) * 512 + 1 * (i 2).val = (i 2).val
      omega
  rwa [he] at h

/-- The first layer's array after the third kernel. -/
theorem arr2_7 (c : Dev nD) : (dat2 V c).arrAt 7 cfg2.N = hV V c :=
  (dat2 V c).arrAt_eq_of_cover 7 _ (flushed2_7 V c) cover2_7
/-- Its column sums over each block of rows. -/
theorem arr2_8 (c : Dev nD) : (dat2 V c).arrAt 8 cfg2.N = sumG 8 256 (hV V c) :=
  (dat2 V c).arrAt_eq_of_cover 8 _ (flushed2_8 V c) cover2_8
/-- Its column sums of squares over each block of rows. -/
theorem arr2_9 (c : Dev nD) : (dat2 V c).arrAt 9 cfg2.N = sqG 8 256 (hV V c) :=
  (dat2 V c).arrAt_eq_of_cover 9 _ (flushed2_9 V c) cover2_9

end Cert.KernelIdeal.Val

end
-- ==== Proof.V.R3.lean ====
/- The last kernel's first and third results: the second layer's product, and the sum of everything. -/
module

public import proofs.«01_k».proof.Proof.V.R2

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg Cert.Row

/-- The first layer normalised and cut off below zero. -/
def reluG (h : FVec Ideal ⟨2, ![2048, 512]⟩ .f32) (s q : FVec Ideal ⟨3, ![8, 1, 512]⟩ .f32) (γ β : FVec Ideal ⟨2, ![1, 512]⟩ .f32) :
    FVec Ideal ⟨2, ![2048, 512]⟩ .f32 := fun i => max (bnE (h (ix2 (i 0) (i 1))) s q γ β (i 1)) (0 : EReal)

/-- The second layer. -/
def interG (g : FVec Ideal ⟨2, ![2048, 512]⟩ .f32) (w : FVec Ideal ⟨2, ![4096, 512]⟩ .f32) (b : FVec Ideal ⟨2, ![1, 4096]⟩ .f32) :
    FVec Ideal ⟨2, ![2048, 4096]⟩ .f32 := fun i => (∑ k : Fin 512, rd g (i 0).val k.val * rd w (i 1).val k.val) + rd b 0 (i 1).val

/-- One block of the first layer normalised and cut off. -/
theorem k3_pay2_apply (s q : Vec Ideal S8x1x512 .f32) (γ β : Vec Ideal S1x512 .f32) (x : Vec Ideal S1024x512 .f32) (p : Fin 1024) (k : Fin 512) :
    k3_pay2 s q γ β x (ix2 p k) = max (bnE (A := 8) (x (ix2 p k)) s q γ β k) (0 : EReal) := by
  unfold k3_pay2
  simp only [shapeCast_self]
  have hs : ∀ z : FVec Ideal S8x1x512 .f32, (multiReduction (F := Ideal) (φ := .f32) .add [0, 1] S512 z 0x00000000#32 reduces_S8x1x512_S512 (.inl rfl) rfl (ix1 k) : EReal) = ∑ a : Fin 8, z (ix3 a (0 : Fin 1) k) :=
    fun z => stackSum (A := 8) (B := 512) z _ _ _ k
  have hsc := vScale (B := 512) (multiReduction .add [0, 1] S512 s 0x00000000#32 reduces_S8x1x512_S512 (.inl rfl) rfl)
    (multiReduction .add [0, 1] S512 q 0x00000000#32 reduces_S8x1x512_S512 (.inl rfl) rfl) γ shapeCasts_S1x512_S512 k
  rw [hs, hs] at hsc
  refine congrArg₂ (fun a b : EReal => max a b) ?_ Cert.Row.zero
  refine (congrArg₂ (fun a b : EReal => (x (ix2 p k) : EReal) * a + b) (bcast_row (A := 1024) (B := 512) _ _ _ p k) (bcast_row (A := 1024) (B := 512) _ _ _ p k)).trans ?_
  unfold bnE bnShift
  refine congrArg₂ (fun a b : EReal => (x (ix2 p k) : EReal) * a + b) hsc ?_
  refine congrArg₂ (fun a b : EReal => a - b) (shapeCast_1a_a_apply β shapeCasts_S1x512_S512 k) ?_
  exact congrArg₂ (fun a b : EReal => Ideal.div a cnt * b) (hs s) hsc

/-- One block of the second layer. -/
theorem k3_pay4_apply (g : Vec Ideal S1024x512 .bf16) (w : Vec Ideal S1024x512 .f32) (b : Vec Ideal S1x1024 .f32) (p q : Fin 1024) :
    k3_pay4 g w b (ix2 p q) = (∑ k : Fin 512, (g (ix2 p k) : EReal) * w (ix2 q k)) + b (ix2 (0 : Fin 1) q) := by
  unfold k3_pay4
  simp only [shapeCast_self]
  refine congrArg₂ (fun a b : EReal => a + b) ?_ (broadcastTo_1b_ab_apply b broadcasts_S1x1024_S1024x1024 p q)
  refine (Ideal.matmul_transposedRhs_apply (M := 1024) (K := 512) (N := 1024) none _ _ _ p q).trans ?_
  rw [show (constant (F := Ideal) S1024x1024 .f32 0x00000000#32) (ix2 p q) = 0 from Cert.Row.zero, zero_add]
  rfl

/-- One block of the sum. -/
theorem k3_pay6_apply (g : Vec Ideal S1024x512 .bf16) (w : Vec Ideal S1024x512 .f32) (b : Vec Ideal S1x1024 .f32) (a : Vec Ideal S1024x1024 .f32)
    (lb gb : Vec Ideal S1x1024 .f32) (p q : Fin 1024) :
    k3_pay6 g w b a lb gb (ix2 p q) = ((gb (ix2 (0 : Fin 1) q) : EReal) + k3_pay5 a lb (ix2 p q)) + k3_pay4 g w b (ix2 p q) := by
  unfold k3_pay6
  simp only [shapeCast_self]
  exact congrArg (fun z : EReal => (z + k3_pay5 a lb (ix2 p q)) + k3_pay4 g w b (ix2 p q)) (broadcastTo_1b_ab_apply gb broadcasts_S1x1024_S1024x1024 p q)

variable (V : Dev nD → Valuation τ sig (Elt Ideal))

theorem ix3_2w : ∀ t : Fin cfg3.N, win3_2.index t (0 : Fin 2) = t.val / 64 ∧ win3_2.index t (1 : Fin 2) = 0 :=
  (by decide +kernel : ∀ t : Fin grid3.N, _)
theorem ix3_5w : ∀ t : Fin cfg3.N, win3_5.index t (0 : Fin 2) = t.val / 16 % 4 ∧ win3_5.index t (1 : Fin 2) = 0 :=
  (by decide +kernel : ∀ t : Fin grid3.N, _)
theorem ix3_8w : ∀ t : Fin cfg3.N, win3_8.index t (0 : Fin 2) = 0 ∧ win3_8.index t (1 : Fin 2) = t.val / 16 % 4 :=
  (by decide +kernel : ∀ t : Fin grid3.N, _)
theorem ix3_10w : ∀ t : Fin cfg3.N, win3_10.index t (0 : Fin 2) = 0 ∧ win3_10.index t (1 : Fin 2) = t.val / 16 % 4 :=
  (by decide +kernel : ∀ t : Fin grid3.N, _)
theorem ix3_11w : ∀ t : Fin cfg3.N, win3_11.index t (0 : Fin 2) = t.val / 64 ∧ win3_11.index t (1 : Fin 2) = t.val / 16 % 4 :=
  (by decide +kernel : ∀ t : Fin grid3.N, _)
theorem ix3_13w : ∀ t : Fin cfg3.N, win3_13.index t (0 : Fin 2) = t.val / 64 ∧ win3_13.index t (1 : Fin 2) = t.val / 16 % 4 :=
  (by decide +kernel : ∀ t : Fin grid3.N, _)
theorem ix3_s : ∀ t : Fin cfg3.N, (∀ a : Fin 3, win3_3.index t a = 0) ∧ (∀ a : Fin 3, win3_4.index t a = 0) ∧ (∀ a : Fin 2, win3_6.index t a = 0) ∧ (∀ a : Fin 2, win3_7.index t a = 0) :=
  (by decide +kernel : ∀ t : Fin grid3.N, _)
theorem fl3 : ∀ t : Fin cfg3.N, ((cfg3.win 11).flush t = true ↔ t.val % 16 = 15) ∧ ((cfg3.win 13).flush t = true ↔ t.val % 16 = 15) :=
  (by decide +kernel : ∀ t : Fin grid3.N, _)

theorem blk3_2 (c : Dev nD) (t : Fin cfg3.N) (p : Fin 1024) (k : Fin 512) (hr : t.val / 64 * 1024 + p.val < 2048) :
    iblk3 V c 2 t (ix2 p k) = (V c main_v6_0 : FVec Ideal ⟨2, ![2048, 512]⟩ .f32) (ix2 (⟨t.val / 64 * 1024 + p.val, hr⟩ : Fin 2048) k) := by
  obtain ⟨e0, e1⟩ := ix3_2w t
  refine congrArg (V c main_v6_0) ?_
  funext a; apply Fin.ext
  match a with
  | ⟨0, _⟩ => show win3_2.index t (0 : Fin 2) * 1024 + 1 * p.val = t.val / 64 * 1024 + p.val; omega
  | ⟨1, _⟩ => show win3_2.index t (1 : Fin 2) * 512 + 1 * k.val = k.val; omega
theorem blk3_3 (c : Dev nD) (t : Fin cfg3.N) : iblk3 V c 3 t = V c main_v6_1 := by
  funext j
  refine congrArg (V c main_v6_1) ?_
  funext a; apply Fin.ext
  show win3_3.index t a * _ + 1 * (j a).val = (j a).val
  rw [(ix3_s t).1 a]; omega
theorem blk3_4 (c : Dev nD) (t : Fin cfg3.N) : iblk3 V c 4 t = V c main_v6_2 := by
  funext j
  refine congrArg (V c main_v6_2) ?_
  funext a; apply Fin.ext
  show win3_4.index t a * _ + 1 * (j a).val = (j a).val
  rw [(ix3_s t).2.1 a]; omega
theorem blk3_6 (c : Dev nD) (t : Fin cfg3.N) : iblk3 V c 6 t = V c main_v7 := by
  funext j
  refine congrArg (V c main_v7) ?_
  funext a; apply Fin.ext
  show win3_6.index t a * _ + 1 * (j a).val = (j a).val
  rw [(ix3_s t).2.2.1 a]; omega
theorem blk3_7 (c : Dev nD) (t : Fin cfg3.N) : iblk3 V c 7 t = V c main_v8 := by
  funext j
  refine congrArg (V c main_v8) ?_
  funext a; apply Fin.ext
  show win3_7.index t a * _ + 1 * (j a).val = (j a).val
  rw [(ix3_s t).2.2.2 a]; omega
theorem blk3_5 (c : Dev nD) (t : Fin cfg3.N) (q : Fin 1024) (k : Fin 512) :
    iblk3 V c 5 t (ix2 q k) = rd (A := 4096) (B := 512) (φ := .f32) (V c main_arg11) (t.val / 16 % 4 * 1024 + q.val) k.val := by
  obtain ⟨e0, e1⟩ := ix3_5w t
  refine rd_eq (A := 4096) (B := 512) (φ := .f32) (V c main_arg11) (((cfg3.win 5).blk t).view.emb (ix2 q k)) _ _ ?_ ?_
  · show win3_5.index t (0 : Fin 2) * 1024 + 1 * q.val = _
    omega
  · show win3_5.index t (1 : Fin 2) * 512 + 1 * k.val = _
    omega
theorem blk3_8 (c : Dev nD) (t : Fin cfg3.N) (q : Fin 1024) :
    iblk3 V c 8 t (ix2 (0 : Fin 1) q) = rd (A := 1) (B := 4096) (φ := .f32) (V c main_v9) 0 (t.val / 16 % 4 * 1024 + q.val) := by
  obtain ⟨e0, e1⟩ := ix3_8w t
  refine rd_eq (A := 1) (B := 4096) (φ := .f32) (V c main_v9) (((cfg3.win 8).blk t).view.emb (ix2 (0 : Fin 1) q)) _ _ ?_ ?_
  · show win3_8.index t (0 : Fin 2) * 1 + 1 * 0 = _
    omega
  · show win3_8.index t (1 : Fin 2) * 1024 + 1 * q.val = _
    omega
theorem blk3_10 (c : Dev nD) (t : Fin cfg3.N) (q : Fin 1024) :
    iblk3 V c 10 t (ix2 (0 : Fin 1) q) = rd (A := 1) (B := 4096) (φ := .f32) (V c main_v11) 0 (t.val / 16 % 4 * 1024 + q.val) := by
  obtain ⟨e0, e1⟩ := ix3_10w t
  refine rd_eq (A := 1) (B := 4096) (φ := .f32) (V c main_v11) (((cfg3.win 10).blk t).view.emb (ix2 (0 : Fin 1) q)) _ _ ?_ ?_
  · show win3_10.index t (0 : Fin 2) * 1 + 1 * 0 = _
    omega
  · show win3_10.index t (1 : Fin 2) * 1024 + 1 * q.val = _
    omega

/-- The cut-off layer over what the last kernel finds. -/
abbrev gV (c : Dev nD) : FVec Ideal ⟨2, ![2048, 512]⟩ .f32 :=
  reluG (V c main_v6_0) (V c main_v6_1) (V c main_v6_2) (V c main_v7) (V c main_v8)

theorem gb3_nat (c : Dev nD) (n : ℕ) : gb3 V c (n + 1) =
    if n % 64 = 0 then k3_pay2 (iblk3 V c 3 (pt3 n)) (iblk3 V c 4 (pt3 n)) (iblk3 V c 6 (pt3 n)) (iblk3 V c 7 (pt3 n)) (iblk3 V c 2 (pt3 n)) else gb3 V c n := rfl

/-- What the kept block of the cut-off layer holds after a point: its rows. -/
theorem gb3_apply (c : Dev nD) (p : Fin 1024) (k : Fin 512) : ∀ n : ℕ, n < 128 →
    gb3 V c (n + 1) (ix2 p k) = rd (gV V c) (n / 64 * 1024 + p.val) k.val := by
  have hstart : ∀ n : ℕ, n < 128 → n % 64 = 0 →
      k3_pay2 (iblk3 V c 3 (pt3 n)) (iblk3 V c 4 (pt3 n)) (iblk3 V c 6 (pt3 n)) (iblk3 V c 7 (pt3 n)) (iblk3 V c 2 (pt3 n)) (ix2 p k)
        = rd (gV V c) (n / 64 * 1024 + p.val) k.val := by
    intro n hn h0
    have hpt : (pt3 n).val = n := Nat.mod_eq_of_lt hn
    have hr : (pt3 n).val / 64 * 1024 + p.val < 2048 := by have := p.isLt; omega
    have hr' : n / 64 * 1024 + p.val < 2048 := by have := p.isLt; omega
    refine (k3_pay2_apply _ _ _ _ _ p k).trans ?_
    refine Eq.trans ?_ (rd_ix2 (gV V c) (⟨_, hr'⟩ : Fin 2048) k).symm
    unfold gV reluG
    rw [blk3_3, blk3_4, blk3_6, blk3_7, blk3_2 V c (pt3 n) p k hr]
    have : (⟨(pt3 n).val / 64 * 1024 + p.val, hr⟩ : Fin 2048) = ⟨n / 64 * 1024 + p.val, hr'⟩ := Fin.ext (congrArg (fun z => z / 64 * 1024 + p.val) hpt)
    rw [this]
  intro n
  induction n with
  | zero => intro hn; rw [gb3_nat, if_pos (Nat.zero_mod 64)]; exact hstart 0 hn rfl
  | succ n ih =>
    intro hn
    rw [gb3_nat]
    by_cases h : (n + 1) % 64 = 0
    · rw [if_pos h]; exact hstart (n + 1) hn h
    · rw [if_neg h, ih (by omega), show (n + 1) / 64 = n / 64 from by omega]

/-- The second layer over what the last kernel finds. -/
abbrev interV (c : Dev nD) : FVec Ideal ⟨2, ![2048, 4096]⟩ .f32 := interG (gV V c) (V c main_arg11) (V c main_v9)

/-- One block of the second layer, off the whole. -/
theorem inter_apply (c : Dev nD) (t : Fin cfg3.N) (p q : Fin 1024) (i : S2048x4096.Idx)
    (h0 : (i 0).val = t.val / 64 * 1024 + p.val) (h1 : (i 1).val = t.val / 16 % 4 * 1024 + q.val) :
    k3_pay4 (gb3 V c (t.val + 1)) (iblk3 V c 5 t) (iblk3 V c 8 t) (ix2 p q) = interV V c i := by
  have ht := lt128 t
  refine (k3_pay4_apply _ _ _ p q).trans ?_
  unfold interV interG
  rw [h0, h1]
  refine congrArg₂ (fun a b : EReal => a + b) (Finset.sum_congr rfl fun k _ => ?_) (blk3_8 V c t q)
  exact congrArg₂ (fun a b : EReal => a * b) (gb3_apply V c p k t.val ht) (blk3_5 V c t q k)

/-- The linear layer's block, off the whole. -/
theorem lin_apply (c : Dev nD) (t : Fin cfg3.N) (h15 : t.val % 16 = 15) (p q : Fin 1024) (i : S2048x4096.Idx)
    (h0 : (i 0).val = t.val / 64 * 1024 + p.val) (h1 : (i 1).val = t.val / 16 % 4 * 1024 + q.val) :
    k3_pay5 (acc3 V c (t.val + 1)) (iblk3 V c 9 t) (ix2 p q) = linG (V c main_v0_2) (V c main_arg2) (V c main_v10) i := by
  have ht := lt128 t
  rw [pay5_apply, acc3_apply V c p q t.val ht, h15, blk3_9]
  unfold linG
  rw [h0, h1]
  rw [sum_blocks (fun k => rd (A := 2048) (B := 16384) (φ := .bf16) (V c main_v0_2) (t.val / 64 * 1024 + p.val) k
      * rd (A := 4096) (B := 16384) (φ := .f32) (V c main_arg2) (t.val / 16 % 4 * 1024 + q.val) k) 1024 16]

theorem flushed3_13 (c : Dev nD) (t : Fin cfg3.N) (hf : (cfg3.win 13).flush t = true) :
    (dat3 V c).flushed 13 t = ((cfg3.win 13).blk t).view.read (Elt Ideal) (interV V c) := by
  obtain ⟨e0, e1⟩ := ix3_13w t
  funext j
  obtain ⟨p, q, rfl⟩ : ∃ p q : Fin 1024, j = ix2 p q := ⟨j 0, j 1, by funext a; match a with | ⟨0, _⟩ => rfl | ⟨1, _⟩ => rfl⟩
  show k3_pay4 (gb3 V c (t.val + 1)) (iblk3 V c 5 t) (iblk3 V c 8 t) (ix2 p q) = interV V c (((cfg3.win 13).blk t).view.emb (ix2 p q))
  refine inter_apply V c t p q _ ?_ ?_
  · show win3_13.index t (0 : Fin 2) * 1024 + 1 * p.val = _
    omega
  · show win3_13.index t (1 : Fin 2) * 1024 + 1 * q.val = _
    omega

/-- The sum of the three over what the last kernel finds. -/
abbrev outV (c : Dev nD) : FVec Ideal ⟨2, ![2048, 4096]⟩ .f32 := fun i =>
  (rd (A := 1) (B := 4096) (φ := .f32) (V c main_v11) 0 (i 1).val + (linG (V c main_v0_2) (V c main_arg2) (V c main_v10) i : EReal)) + interV V c i

theorem flushed3_11 (c : Dev nD) (t : Fin cfg3.N) (hf : (cfg3.win 11).flush t = true) :
    (dat3 V c).flushed 11 t = ((cfg3.win 11).blk t).view.read (Elt Ideal) (outV V c) := by
  obtain ⟨e0, e1⟩ := ix3_11w t
  have h15 := (fl3 t).1.1 hf
  funext j
  obtain ⟨p, q, rfl⟩ : ∃ p q : Fin 1024, j = ix2 p q := ⟨j 0, j 1, by funext a; match a with | ⟨0, _⟩ => rfl | ⟨1, _⟩ => rfl⟩
  show k3_pay6 (gb3 V c (t.val + 1)) (iblk3 V c 5 t) (iblk3 V c 8 t) (acc3 V c (t.val + 1)) (iblk3 V c 9 t) (iblk3 V c 10 t) (ix2 p q)
    = outV V c (((cfg3.win 11).blk t).view.emb (ix2 p q))
  have h0 : (((cfg3.win 11).blk t).view.emb (ix2 p q) (0 : Fin 2)).val = t.val / 64 * 1024 + p.val := by
    show win3_11.index t (0 : Fin 2) * 1024 + 1 * p.val = _
    omega
  have h1 : (((cfg3.win 11).blk t).view.emb (ix2 p q) (1 : Fin 2)).val = t.val / 16 % 4 * 1024 + q.val := by
    show win3_11.index t (1 : Fin 2) * 1024 + 1 * q.val = _
    omega
  refine (k3_pay6_apply _ _ _ _ _ _ p q).trans ?_
  unfold outV
  rw [inter_apply V c t p q _ h0 h1, lin_apply V c t h15 p q _ h0 h1, h1]
  exact congrArg (fun z : EReal => (z + linG (V c main_v0_2) (V c main_arg2) (V c main_v10) _) + interV V c _) (blk3_10 V c t q)

theorem cover3_13 (i : S2048x4096.Idx) : ∃ t : Fin cfg3.N, (cfg3.win 13).flush t = true ∧ i ∈ ((cfg3.win 13).blk t).view.set := by
  have hi0 : (i 0).val < 2048 := (i 0).isLt
  have hi1 : (i 1).val < 4096 := (i 1).isLt
  let t : Fin cfg3.N := pt3 ((i 0).val / 1024 * 64 + (i 1).val / 1024 * 16 + 15)
  have htv : t.val = (i 0).val / 1024 * 64 + (i 1).val / 1024 * 16 + 15 := Nat.mod_eq_of_lt (by omega)
  obtain ⟨e0, e1⟩ := ix3_13w t
  refine ⟨t, (fl3 t).2.2 (by omega), ?_⟩
  have h := ((cfg3.win 13).blk t).view.emb_mem_set (ix2 (⟨(i 0).val % 1024, by omega⟩ : Fin 1024) (⟨(i 1).val % 1024, by omega⟩ : Fin 1024))
  have he : ((cfg3.win 13).blk t).view.emb (ix2 (⟨(i 0).val % 1024, by omega⟩ : Fin 1024) (⟨(i 1).val % 1024, by omega⟩ : Fin 1024)) = i := by
    funext a; apply Fin.ext
    match a with
    | ⟨0, _⟩ =>
      show win3_13.index t (0 : Fin 2) * 1024 + 1 * ((i 0).val % 1024) = (i 0).val
      omega
    | ⟨1, _⟩ =>
      show win3_13.index t (1 : Fin 2) * 1024 + 1 * ((i 1).val % 1024) = (i 1).val
      omega
  rwa [he] at h

theorem cover3_11 (i : S2048x4096.Idx) : ∃ t : Fin cfg3.N, (cfg3.win 11).flush t = true ∧ i ∈ ((cfg3.win 11).blk t).view.set := by
  have hi0 : (i 0).val < 2048 := (i 0).isLt
  have hi1 : (i 1).val < 4096 := (i 1).isLt
  let t : Fin cfg3.N := pt3 ((i 0).val / 1024 * 64 + (i 1).val / 1024 * 16 + 15)
  have htv : t.val = (i 0).val / 1024 * 64 + (i 1).val / 1024 * 16 + 15 := Nat.mod_eq_of_lt (by omega)
  obtain ⟨e0, e1⟩ := ix3_11w t
  refine ⟨t, (fl3 t).1.2 (by omega), ?_⟩
  have h := ((cfg3.win 11).blk t).view.emb_mem_set (ix2 (⟨(i 0).val % 1024, by omega⟩ : Fin 1024) (⟨(i 1).val % 1024, by omega⟩ : Fin 1024))
  have he : ((cfg3.win 11).blk t).view.emb (ix2 (⟨(i 0).val % 1024, by omega⟩ : Fin 1024) (⟨(i 1).val % 1024, by omega⟩ : Fin 1024)) = i := by
    funext a; apply Fin.ext
    match a with
    | ⟨0, _⟩ =>
      show win3_11.index t (0 : Fin 2) * 1024 + 1 * ((i 0).val % 1024) = (i 0).val
      omega
    | ⟨1, _⟩ =>
      show win3_11.index t (1 : Fin 2) * 1024 + 1 * ((i 1).val % 1024) = (i 1).val
      omega
  rwa [he] at h

/-- The first result's array after the last kernel. -/
theorem arr3_11 (c : Dev nD) : (dat3 V c).arrAt 11 cfg3.N = outV V c :=
  (dat3 V c).arrAt_eq_of_cover 11 _ (flushed3_11 V c) cover3_11
/-- The third result's array after the last kernel. -/
theorem arr3_13 (c : Dev nD) : (dat3 V c).arrAt 13 cfg3.N = interV V c :=
  (dat3 V c).arrAt_eq_of_cover 13 _ (flushed3_13 V c) cover3_13

end Cert.KernelIdeal.Val

end
-- ==== Proof.V.Bn.lean ====
/- A batch normalisation over finite columns: the fused factor and summand give the textbook formula. -/
module

public import proofs.«01_k».proof.Proof.V.Cols

@[expose] public section

noncomputable section

namespace Cert.Row

open Idealize.ShloMosaic

/-- A column's mean. -/
def mu (f : Fin 2048 → EReal) : EReal := Ideal.div (∑ r, f r) cnt
/-- A column's variance: the mean of the squared distances from the mean. -/
def var (f : Fin 2048 → EReal) : EReal := Ideal.div (∑ r, (f r - mu f) * (f r - mu f)) cnt
/-- The batch normalisation of a column at a row, as the textbook writes it. -/
def bnRef (f : Fin 2048 → EReal) (g b : EReal) (r : Fin 2048) : EReal := (f r - mu f) * Ideal.rsqrt (var f + eps) * g + b

/-- A finite sum of reals, taken among the extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real divided by the count of rows. -/
theorem div_cnt (x : ℝ) : Ideal.div (x : EReal) cnt = ((x / 2048 : ℝ) : EReal) := by
  have h : cnt = ((2048 : ℝ) : EReal) := rows2048
  rw [h, Ideal.div_coe (by norm_num), ← EReal.coe_mul]
  congr 1
  ring

/-- The variance of real numbers is the mean of the squares less the square of the mean. -/
theorem var_alg (f : Fin 2048 → ℝ) :
    (∑ r, (f r - (∑ s, f s) / 2048) * (f r - (∑ s, f s) / 2048)) / 2048 = (∑ r, f r * f r) / 2048 - (∑ s, f s) / 2048 * ((∑ s, f s) / 2048) := by
  generalize hm : (∑ s, f s) / 2048 = m
  have hs : ∑ s, f s = 2048 * m := by rw [← hm]; ring
  have h : ∀ r, (f r - m) * (f r - m) = f r * f r - 2 * m * f r + m * m := fun r => by ring
  simp only [h]
  rw [Finset.sum_add_distrib, Finset.sum_sub_distrib, ← Finset.mul_sum, hs, Finset.sum_const, Finset.card_univ, Fintype.card_fin, nsmul_eq_mul]
  push_cast
  ring

/-- The mean of a real column. -/
theorem mu_coe (f : Fin 2048 → ℝ) : mu (fun r => (f r : EReal)) = (((∑ s, f s) / 2048 : ℝ) : EReal) := by
  unfold mu
  rw [sum_coe, div_cnt]

/-- The variance of a real column. -/
theorem var_coe (f : Fin 2048 → ℝ) :
    var (fun r => (f r : EReal)) = (((∑ r, (f r - (∑ s, f s) / 2048) * (f r - (∑ s, f s) / 2048)) / 2048 : ℝ) : EReal) := by
  unfold var
  rw [mu_coe]
  simp only [← EReal.coe_sub, ← EReal.coe_mul]
  rw [sum_coe, div_cnt]

/-- The reciprocal square root in a normalisation of a real column is a real number. -/
theorem rs_coe (f : Fin 2048 → ℝ) : ∃ ρ : ℝ, Ideal.rsqrt (var (fun r => (f r : EReal)) + eps) = (ρ : EReal) := by
  obtain ⟨e, he, hE⟩ := eps_pos
  have hE' : eps = (e : EReal) := hE
  rw [var_coe, hE', ← EReal.coe_add]
  generalize hv : (∑ r, (f r - (∑ s, f s) / 2048) * (f r - (∑ s, f s) / 2048)) / 2048 = v
  have h0 : 0 ≤ v := by
    rw [← hv]
    exact div_nonneg (Finset.sum_nonneg fun r _ => mul_self_nonneg _) (by norm_num)
  have hp : 0 < v + e := by linarith
  exact ⟨_, by rw [Ideal.rsqrt_coe, if_neg (not_lt.2 hp.le), if_neg hp.ne']⟩

/-- The factor of a real column with a real gain. -/
theorem bnScale_coe (f : Fin 2048 → ℝ) (g ρ : ℝ) (h : Ideal.rsqrt (var (fun r => (f r : EReal)) + eps) = (ρ : EReal)) :
    bnScale (∑ r, (f r : EReal)) (∑ r, (f r : EReal) * (f r : EReal)) (g : EReal) = ((g * ρ : ℝ) : EReal) := by
  unfold bnScale
  simp only [← EReal.coe_mul]
  rw [sum_coe, sum_coe, div_cnt, div_cnt, ← EReal.coe_mul, ← EReal.coe_sub, ← var_alg, ← var_coe, h, ← EReal.coe_mul]

/-- Over a finite column with a finite gain the fused factor and summand give the textbook formula. -/
theorem bn_coe (f : Fin 2048 → ℝ) (g : ℝ) (b : EReal) (r : Fin 2048) :
    (f r : EReal) * bnScale (∑ r, (f r : EReal)) (∑ r, (f r : EReal) * (f r : EReal)) (g : EReal)
      + bnShift (∑ r, (f r : EReal)) (∑ r, (f r : EReal) * (f r : EReal)) (g : EReal) b
      = bnRef (fun r => (f r : EReal)) (g : EReal) b r := by
  obtain ⟨ρ, h⟩ := rs_coe f
  unfold bnShift bnRef
  rw [bnScale_coe f g ρ h, h, mu_coe, sum_coe, div_cnt, sub_eq_add_neg, ← EReal.coe_mul, ← EReal.coe_mul, ← EReal.coe_neg, ← EReal.coe_sub, ← EReal.coe_mul,
    ← EReal.coe_mul, add_left_comm, ← EReal.coe_add, add_comm b]
  congr 2
  ring

/-- The same of a column whose entries are known to be real. -/
theorem bn_fin (F : Fin 2048 → EReal) (hF : ∀ r, ∃ z : ℝ, F r = (z : EReal)) (G : EReal) (hG : ∃ z : ℝ, G = (z : EReal)) (b : EReal) (r : Fin 2048) :
    F r * bnScale (∑ r, F r) (∑ r, F r * F r) G + bnShift (∑ r, F r) (∑ r, F r * F r) G b = bnRef F G b r := by
  choose f hf using hF
  obtain rfl : F = fun r => (f r : EReal) := funext hf
  obtain ⟨g, rfl⟩ := hG
  exact bn_coe f g b r

/-- A normalised entry of finite things is a real number. -/
theorem bnRef_fin (F : Fin 2048 → EReal) (hF : ∀ r, ∃ z : ℝ, F r = (z : EReal)) (G : EReal) (hG : ∃ z : ℝ, G = (z : EReal)) (b : EReal)
    (hb : ∃ z : ℝ, b = (z : EReal)) (r : Fin 2048) : ∃ z : ℝ, bnRef F G b r = (z : EReal) := by
  choose f hf using hF
  obtain rfl : F = fun r => (f r : EReal) := funext hf
  obtain ⟨g, rfl⟩ := hG
  obtain ⟨b, rfl⟩ := hb
  obtain ⟨ρ, h⟩ := rs_coe f
  unfold bnRef
  rw [h, mu_coe]
  exact ⟨_, by rw [← EReal.coe_sub, ← EReal.coe_mul, ← EReal.coe_mul, ← EReal.coe_add]⟩

/-- Sums of products of real numbers are real. -/
theorem sum_fin {ι : Type*} (s : Finset ι) (F : ι → EReal) (hF : ∀ i ∈ s, ∃ z : ℝ, F i = (z : EReal)) : ∃ z : ℝ, (∑ i ∈ s, F i) = (z : EReal) := by
  classical
  induction s using Finset.induction_on with
  | empty => exact ⟨0, by simp⟩
  | insert a s ha ih =>
    obtain ⟨z, hz⟩ := ih fun i hi => hF i (Finset.mem_insert_of_mem hi)
    obtain ⟨y, hy⟩ := hF a (Finset.mem_insert_self a s)
    exact ⟨y + z, by rw [Finset.sum_insert ha, hz, hy, EReal.coe_add]⟩

theorem mul_fin {x y : EReal} (hx : ∃ z : ℝ, x = (z : EReal)) (hy : ∃ z : ℝ, y = (z : EReal)) : ∃ z : ℝ, x * y = (z : EReal) := by
  obtain ⟨a, rfl⟩ := hx
  obtain ⟨b, rfl⟩ := hy
  exact ⟨a * b, (EReal.coe_mul a b).symm⟩
theorem add_fin {x y : EReal} (hx : ∃ z : ℝ, x = (z : EReal)) (hy : ∃ z : ℝ, y = (z : EReal)) : ∃ z : ℝ, x + y = (z : EReal) := by
  obtain ⟨a, rfl⟩ := hx
  obtain ⟨b, rfl⟩ := hy
  exact ⟨a + b, (EReal.coe_add a b).symm⟩
theorem sub_fin {x y : EReal} (hx : ∃ z : ℝ, x = (z : EReal)) (hy : ∃ z : ℝ, y = (z : EReal)) : ∃ z : ℝ, x - y = (z : EReal) := by
  obtain ⟨a, rfl⟩ := hx
  obtain ⟨b, rfl⟩ := hy
  exact ⟨a - b, (EReal.coe_sub a b).symm⟩

end Cert.Row

end
-- ==== Proof.V.Spec.lean ====
/- The two layers behind the pooled features, as both programs compute them once the normalisations are the textbook's. -/
module

public import proofs.«01_k».proof.Proof.V.Bn
public import Idealize.ShloMosaic.Lib.ValueIdx

@[expose] public section

noncomputable section

namespace Cert.Val

open Idealize.ShloMosaic Idealize.ShloMosaic.ValueIdx Cert.Row

/-- The first layer: the normalised features against the weights' rows, plus the bias. -/
def layer1 (P : Fin 2048 → Fin 512 → EReal) (γ β : FVec Ideal ⟨1, ![512]⟩ .f32) (w : FVec Ideal ⟨2, ![512, 512]⟩ .f32) (b : FVec Ideal ⟨1, ![512]⟩ .f32)
    (r : Fin 2048) (j : Fin 512) : EReal :=
  (∑ k : Fin 512, bnRef (fun s => P s k) (γ (ix1 k)) (β (ix1 k)) r * w (ix2 j k)) + b (ix1 j)

/-- The second layer: the first one's outputs normalised and cut off below at zero, against the weights' rows, plus the bias. -/
def layer2 (H : Fin 2048 → Fin 512 → EReal) (γ β : FVec Ideal ⟨1, ![512]⟩ .f32) (w : FVec Ideal ⟨2, ![4096, 512]⟩ .f32) (b : FVec Ideal ⟨1, ![4096]⟩ .f32)
    (r : Fin 2048) (o : Fin 4096) : EReal :=
  (∑ k : Fin 512, max (bnRef (fun s => H s k) (γ (ix1 k)) (β (ix1 k)) r) 0 * w (ix2 o k)) + b (ix1 o)

/-- The first layer of finite things is finite. -/
theorem layer1_fin (P : Fin 2048 → Fin 512 → EReal) (γ β : FVec Ideal ⟨1, ![512]⟩ .f32) (w : FVec Ideal ⟨2, ![512, 512]⟩ .f32) (b : FVec Ideal ⟨1, ![512]⟩ .f32)
    (hP : ∀ r k, ∃ z : ℝ, P r k = (z : EReal)) (hγ : ∀ i, ∃ z : ℝ, γ i = (z : EReal)) (hβ : ∀ i, ∃ z : ℝ, β i = (z : EReal))
    (hw : ∀ i, ∃ z : ℝ, w i = (z : EReal)) (hb : ∀ i, ∃ z : ℝ, b i = (z : EReal)) (r : Fin 2048) (j : Fin 512) : ∃ z : ℝ, layer1 P γ β w b r j = (z : EReal) :=
  add_fin (sum_fin _ _ fun k _ => mul_fin (bnRef_fin _ (fun s => hP s k) _ (hγ _) _ (hβ _) r) (hw _)) (hb _)

end Cert.Val

end
-- ==== Proof.V.Chain.lean ====
/- The kernels one after another: what each finds of those before it, down to the launched arrays. -/
module

public import proofs.«01_k».proof.Proof.V.R3
public import proofs.«01_k».proof.Proof.V.Spec

@[expose] public section

set_option maxRecDepth 16384

noncomputable section

namespace Cert.KernelIdeal.Val

open Idealize.ShloMosaic Idealize.ShloMosaic.TcCoe Idealize.ShloMosaic.ValueIdx
open Idealize.SL
open Idealize.ShloMosaic.Pipeline
open Cert.KernelIdeal Cert.KernelIdeal.Gen Cert.KernelIdeal.Reg Cert.Row Cert.Val

/-- The partial column sums add up to the column's sum. -/
theorem sumG_total {R N : ℕ} (A B : ℕ) (h : A * B = R) (H : FVec Ideal ⟨2, ![R, N]⟩ .f32) (k : Fin N) :
    (∑ a : Fin A, sumG A B H (ix3 a (0 : Fin 1) k)) = ∑ r : Fin R, (H (ix2 r k) : EReal) := by
  show (∑ a : Fin A, ∑ p : Fin B, rd H (a.val * B + p.val) k.val) = _
  rw [Finset.sum_congr rfl fun (a : Fin A) _ => sum_fin_range (fun p => rd H (a.val * B + p) k.val) B,
    sum_fin_range (fun a => ∑ p ∈ Finset.range B, rd H (a * B + p) k.val) A, sum_blocks (fun r => rd H r k.val), h, Finset.sum_range]
  exact Finset.sum_congr rfl fun r _ => rd_ix2 H r k

/-- The partial column sums of squares add up to the column's. -/
theorem sqG_total {R N : ℕ} (A B : ℕ) (h : A * B = R) (H : FVec Ideal ⟨2, ![R, N]⟩ .f32) (k : Fin N) :
    (∑ a : Fin A, sqG A B H (ix3 a (0 : Fin 1) k)) = ∑ r : Fin R, (H (ix2 r k) : EReal) * H (ix2 r k) := by
  show (∑ a : Fin A, ∑ p : Fin B, rd H (a.val * B + p.val) k.val * rd H (a.val * B + p.val) k.val) = _
  rw [Finset.sum_congr rfl fun (a : Fin A) _ => sum_fin_range (fun p => rd H (a.val * B + p) k.val * rd H (a.val * B + p) k.val) B,
    sum_fin_range (fun a => ∑ p ∈ Finset.range B, rd H (a * B + p) k.val * rd H (a * B + p) k.val) A,
    sum_blocks (fun r => rd H r k.val * rd H r k.val), h, Finset.sum_range]
  exact Finset.sum_congr rfl fun r _ => by rw [rd_ix2 H r k]

/-- A normalised entry of a finite column is the textbook's. -/
theorem bnE_eq (A B : ℕ) (h : A * B = 2048) (H : FVec Ideal ⟨2, ![2048, 512]⟩ .f32) (γ β : FVec Ideal ⟨2, ![1, 512]⟩ .f32)
    (hH : ∀ r k, ∃ z : ℝ, H (ix2 r k) = (z : EReal)) (k : Fin 512) (hg : ∃ z : ℝ, γ (ix2 (0 : Fin 1) k) = (z : EReal)) (r : Fin 2048) :
    bnE (A := A) (H (ix2 r k)) (sumG A B H) (sqG A B H) γ β k = bnRef (fun s => H (ix2 s k)) (γ (ix2 (0 : Fin 1) k)) (β (ix2 (0 : Fin 1) k)) r := by
  unfold bnE
  rw [sumG_total A B h, sqG_total A B h]
  exact bn_fin (fun s => H (ix2 s k)) (fun s => hH s k) _ hg _ r

variable (m : (ℓ : Loc nD τ sig) → Buf (Elt Ideal) ℓ)

/-- The features, as launched. -/
abbrev aX (c : Dev nD) : FVec Ideal ⟨2, ![2048, 16384]⟩ .f32 := m ((c : Thread nD τ).loc main_arg0)
abbrev aE (c : Dev nD) : FVec Ideal ⟨2, ![16384, 512]⟩ .f32 := m ((c : Thread nD τ).loc main_arg1)
abbrev aG (c : Dev nD) : FVec Ideal ⟨1, ![4096]⟩ .f32 := m ((c : Thread nD τ).loc main_arg4)
abbrev aγ1 (c : Dev nD) : FVec Ideal ⟨1, ![512]⟩ .f32 := m ((c : Thread nD τ).loc main_arg5)
abbrev aβ1 (c : Dev nD) : FVec Ideal ⟨1, ![512]⟩ .f32 := m ((c : Thread nD τ).loc main_arg6)
abbrev aW1 (c : Dev nD) : FVec Ideal ⟨2, ![512, 512]⟩ .f32 := m ((c : Thread nD τ).loc main_arg7)
abbrev aB1 (c : Dev nD) : FVec Ideal ⟨1, ![512]⟩ .f32 := m ((c : Thread nD τ).loc main_arg8)
abbrev aγ2 (c : Dev nD) : FVec Ideal ⟨1, ![512]⟩ .f32 := m ((c : Thread nD τ).loc main_arg9)
abbrev aβ2 (c : Dev nD) : FVec Ideal ⟨1, ![512]⟩ .f32 := m ((c : Thread nD τ).loc main_arg10)
abbrev aW2 (c : Dev nD) : FVec Ideal ⟨2, ![4096, 512]⟩ .f32 := m ((c : Thread nD τ).loc main_arg11)
abbrev aB2 (c : Dev nD) : FVec Ideal ⟨1, ![4096]⟩ .f32 := m ((c : Thread nD τ).loc main_arg12)

/-- The features the second kernel keeps, the others zero. -/
def keptX (c : Dev nD) : FVec Ideal ⟨2, ![2048, 16384]⟩ .f32 := mkG (aX m c) (thrG (W0 m) c) (idxG (W0 m) c)

theorem W1_thr (c : Dev nD) : W1 m c main_v0_0 = thrG (W0 m) c :=
  (afterRegion_arr (dat0 (W0 m) c) (W0 m c) launch0.win.arr_inj 1).trans (arr0_1 (W0 m) c)
theorem W1_idx (c : Dev nD) : W1 m c main_v0_1 = idxG (W0 m) c :=
  (afterRegion_arr (dat0 (W0 m) c) (W0 m c) launch0.win.arr_inj 2).trans (arr0_2 (W0 m) c)

/-- The pooled features the second kernel computes. -/
theorem biV_eq (c : Dev nD) : biV (W1 m) c = poolG (keptX m c) (aE m c) := by
  have h0 : W1 m c main_arg0 = aX m c := W1_keep m c main_arg0 (by decide)
  have h1 : W1 m c main_arg1 = aE m c := W1_keep m c main_arg1 (by decide)
  unfold biV keptX
  rw [W1_thr, W1_idx, h0, h1]

/-- The pooled features. -/
abbrev bi (c : Dev nD) : FVec Ideal ⟨2, ![2048, 512]⟩ .f32 := poolG (keptX m c) (aE m c)

theorem W2_bi (c : Dev nD) : W2 m c main_v1_0 = bi m c :=
  (afterRegion_arr (dat1 (W1 m) c) (W1 m c) launch1.win.arr_inj 4).trans ((arr1_4 (W1 m) c).trans (biV_eq m c))
theorem W2_sum (c : Dev nD) : W2 m c main_v1_1 = sumG 2 1024 (bi m c) :=
  (afterRegion_arr (dat1 (W1 m) c) (W1 m c) launch1.win.arr_inj 5).trans ((arr1_5 (W1 m) c).trans (congrArg (sumG 2 1024) (biV_eq m c)))
theorem W2_sq (c : Dev nD) : W2 m c main_v1_2 = sqG 2 1024 (bi m c) :=
  (afterRegion_arr (dat1 (W1 m) c) (W1 m c) launch1.win.arr_inj 6).trans ((arr1_6 (W1 m) c).trans (congrArg (sqG 2 1024) (biV_eq m c)))

/-- Before the first reshapes an argument is as launched. -/
theorem W2_launch (c : Dev nD) (r : Ref sig .tc) (h0 : ∀ w, arrRef spec0 w = r → (cfg0.win w).isOut = false) (h1 : ∀ w, arrRef spec1 w = r → (cfg1.win w).isOut = false) :
    W2 m c r = W0 m c r := (W2_keep m c r h1).trans (W1_keep m c r h0)
/-- Before the second reshapes likewise. -/
theorem W4_launch (c : Dev nD) (r : Ref sig .tc) (h0 : ∀ w, arrRef spec0 w = r → (cfg0.win w).isOut = false) (h1 : ∀ w, arrRef spec1 w = r → (cfg1.win w).isOut = false)
    (h2 : r ∉ hostOps2_W) (h3 : ∀ w, arrRef spec2 w = r → (cfg2.win w).isOut = false) :
    W4 m c r = W0 m c r := (W4_keep m c r h3).trans ((W3_keep m c r h2).trans (W2_launch m c r h0 h1))

/-- The first layer's weights are found transposed. -/
theorem W3_w (c : Dev nD) (k j : Fin 512) : (W3 m c main_v2 : FVec Ideal ⟨2, ![512, 512]⟩ .f32) (ix2 k j) = aW1 m c (ix2 j k) := by
  have h : W3 m c main_v2 = transpose S512x512 [1, 0] (W2 m c main_arg7) transposes_S512x512_S512x512_1_0 := by
    unfold W3
    after_results
  rw [h, W2_launch m c main_arg7 (by decide) (by decide)]
  refine transpose_apply [1, 0] _ _ (ix2 k j) (ix2 j k) fun b => ?_
  match b with
  | ⟨0, _⟩ => rfl
  | ⟨1, _⟩ => rfl
theorem W3_b (c : Dev nD) (j : Fin 512) : (W3 m c main_v3 : FVec Ideal ⟨2, ![1, 512]⟩ .f32) (ix2 (0 : Fin 1) j) = aB1 m c (ix1 j) := by
  have h : W3 m c main_v3 = shapeCast S1x512 (W2 m c main_arg8) shapeCasts_S512_S1x512 := by
    unfold W3
    after_results
    rfl
  rw [h, W2_launch m c main_arg8 (by decide) (by decide)]
  exact row_apply _ _ j
theorem W3_γ (c : Dev nD) (j : Fin 512) : (W3 m c main_v4 : FVec Ideal ⟨2, ![1, 512]⟩ .f32) (ix2 (0 : Fin 1) j) = aγ1 m c (ix1 j) := by
  have h : W3 m c main_v4 = shapeCast S1x512 (W2 m c main_arg5) shapeCasts_S512_S1x512 := by
    unfold W3
    after_results
    rfl
  rw [h, W2_launch m c main_arg5 (by decide) (by decide)]
  exact row_apply _ _ j
theorem W3_β (c : Dev nD) (j : Fin 512) : (W3 m c main_v5 : FVec Ideal ⟨2, ![1, 512]⟩ .f32) (ix2 (0 : Fin 1) j) = aβ1 m c (ix1 j) := by
  have h : W3 m c main_v5 = shapeCast S1x512 (W2 m c main_arg6) shapeCasts_S512_S1x512 := by
    unfold W3
    after_results
    rfl
  rw [h, W2_launch m c main_arg6 (by decide) (by decide)]
  exact row_apply _ _ j

theorem W5_γ (c : Dev nD) (j : Fin 512) : (W5 m c main_v7 : FVec Ideal ⟨2, ![1, 512]⟩ .f32) (ix2 (0 : Fin 1) j) = aγ2 m c (ix1 j) := by
  have h : W5 m c main_v7 = shapeCast S1x512 (W4 m c main_arg9) shapeCasts_S512_S1x512 := by
    unfold W5
    after_results
    rfl
  rw [h, W4_launch m c main_arg9 (by decide) (by decide) (by decide) (by decide)]
  exact row_apply _ _ j
theorem W5_β (c : Dev nD) (j : Fin 512) : (W5 m c main_v8 : FVec Ideal ⟨2, ![1, 512]⟩ .f32) (ix2 (0 : Fin 1) j) = aβ2 m c (ix1 j) := by
  have h : W5 m c main_v8 = shapeCast S1x512 (W4 m c main_arg10) shapeCasts_S512_S1x512 := by
    unfold W5
    after_results
    rfl
  rw [h, W4_launch m c main_arg10 (by decide) (by decide) (by decide) (by decide)]
  exact row_apply _ _ j
theorem W5_b (c : Dev nD) (j : Fin 4096) : (W5 m c main_v9 : FVec Ideal ⟨2, ![1, 4096]⟩ .f32) (ix2 (0 : Fin 1) j) = aB2 m c (ix1 j) := by
  have h : W5 m c main_v9 = shapeCast S1x4096 (W4 m c main_arg12) shapeCasts_S4096_S1x4096 := by
    unfold W5
    after_results
    rfl
  rw [h, W4_launch m c main_arg12 (by decide) (by decide) (by decide) (by decide)]
  exact row_apply _ _ j
theorem W5_g (c : Dev nD) (j : Fin 4096) : (W5 m c main_v11 : FVec Ideal ⟨2, ![1, 4096]⟩ .f32) (ix2 (0 : Fin 1) j) = aG m c (ix1 j) := by
  have h : W5 m c main_v11 = shapeCast S1x4096 (W4 m c main_arg4) shapeCasts_S4096_S1x4096 := by
    unfold W5
    after_results
    rfl
  rw [h, W4_launch m c main_arg4 (by decide) (by decide) (by decide) (by decide)]
  exact row_apply _ _ j

/-- What must be finite: the pooled features, the gains, the first layer's offsets, weights and bias. -/
structure Fin1 (c : Dev nD) : Prop where
  bi : ∀ r k, ∃ z : ℝ, bi m c (ix2 r k) = (z : EReal)
  γ1 : ∀ i, ∃ z : ℝ, aγ1 m c i = (z : EReal)
  β1 : ∀ i, ∃ z : ℝ, aβ1 m c i = (z : EReal)
  w1 : ∀ i, ∃ z : ℝ, aW1 m c i = (z : EReal)
  b1 : ∀ i, ∃ z : ℝ, aB1 m c i = (z : EReal)
  γ2 : ∀ i, ∃ z : ℝ, aγ2 m c i = (z : EReal)

/-- The first layer's outputs, as the third kernel leaves them. -/
theorem hV_eq (c : Dev nD) (hf : Fin1 m c) (r : Fin 2048) (j : Fin 512) :
    (hV (W3 m) c : FVec Ideal ⟨2, ![2048, 512]⟩ .f32) (ix2 r j)
      = layer1 (fun s k => bi m c (ix2 s k)) (aγ1 m c) (aβ1 m c) (aW1 m c) (aB1 m c) r j := by
  have e0 : W3 m c main_v1_0 = bi m c := (W3_keep m c main_v1_0 (by decide)).trans (W2_bi m c)
  have e1 : W3 m c main_v1_1 = sumG 2 1024 (bi m c) := (W3_keep m c main_v1_1 (by decide)).trans (W2_sum m c)
  have e2 : W3 m c main_v1_2 = sqG 2 1024 (bi m c) := (W3_keep m c main_v1_2 (by decide)).trans (W2_sq m c)
  unfold hV
  rw [e0, e1, e2]
  unfold hG layer1
  refine congrArg₂ (fun a b : EReal => a + b) (Finset.sum_congr rfl fun k _ => congrArg₂ (fun a b : EReal => a * b) ?_ (W3_w m c k j)) (W3_b m c j)
  rw [← W3_γ, ← W3_β]
  refine bnE_eq 2 1024 rfl (bi m c) (W3 m c main_v4) (W3 m c main_v5) hf.bi k ?_ r
  exact (W3_γ m c k).symm ▸ hf.γ1 _

/-- The first layer's outputs. -/
abbrev hL (c : Dev nD) : FVec Ideal ⟨2, ![2048, 512]⟩ .f32 := hV (W3 m) c

theorem W5_h (c : Dev nD) : W5 m c main_v6_0 = hL m c :=
  (W5_keep m c main_v6_0 (by decide)).trans ((afterRegion_arr (dat2 (W3 m) c) (W3 m c) launch2.win.arr_inj 7).trans (arr2_7 (W3 m) c))
theorem W5_hs (c : Dev nD) : W5 m c main_v6_1 = sumG 8 256 (hL m c) :=
  (W5_keep m c main_v6_1 (by decide)).trans ((afterRegion_arr (dat2 (W3 m) c) (W3 m c) launch2.win.arr_inj 8).trans (arr2_8 (W3 m) c))
theorem W5_hq (c : Dev nD) : W5 m c main_v6_2 = sqG 8 256 (hL m c) :=
  (W5_keep m c main_v6_2 (by decide)).trans ((afterRegion_arr (dat2 (W3 m) c) (W3 m c) launch2.win.arr_inj 9).trans (arr2_9 (W3 m) c))

/-- The second layer's outputs, as the last kernel leaves them. -/
theorem interV_eq (c : Dev nD) (hf : Fin1 m c) (r : Fin 2048) (o : Fin 4096) :
    (interV (W5 m) c : FVec Ideal ⟨2, ![2048, 4096]⟩ .f32) (ix2 r o)
      = layer2 (layer1 (fun s k => bi m c (ix2 s k)) (aγ1 m c) (aβ1 m c) (aW1 m c) (aB1 m c)) (aγ2 m c) (aβ2 m c) (aW2 m c) (aB2 m c) r o := by
  have hh : (fun s k => hL m c (ix2 s k)) = layer1 (fun s k => bi m c (ix2 s k)) (aγ1 m c) (aβ1 m c) (aW1 m c) (aB1 m c) :=
    funext fun s => funext fun k => hV_eq m c hf s k
  have hw : W5 m c main_arg11 = aW2 m c := W5_arg11 m c
  rw [← hh]
  unfold interV gV
  rw [W5_h, W5_hs, W5_hq, hw]
  unfold interG layer2
  refine congrArg₂ (fun a b : EReal => a + b) (Finset.sum_congr rfl fun k _ => congrArg₂ (fun a b : EReal => a * b) ?_ (rd_ix2 _ o k))
    ((rd_ix2 _ (0 : Fin 1) o).trans (W5_b m c o))
  refine (rd_ix2 _ r k).trans ?_
  show max (bnE (hL m c (ix2 r k)) (sumG 8 256 (hL m c)) (sqG 8 256 (hL m c)) (W5 m c main_v7) (W5 m c main_v8) k) (0 : EReal) = _
  rw [← W5_γ, ← W5_β]
  refine congrArg (fun z : EReal => max z 0) (bnE_eq 8 256 rfl (hL m c) (W5 m c main_v7) (W5 m c main_v8) (fun s k => ?_) k ?_ r)
  · rw [congrFun (congrFun hh s) k]
    exact layer1_fin _ _ _ _ _ hf.bi hf.γ1 hf.β1 hf.w1 hf.b1 s k
  · exact (W5_γ m c k).symm ▸ hf.γ2 _

/-- The third result after the run. -/
theorem W6_inter (c : Dev nD) (hf : Fin1 m c) (r : Fin 2048) (o : Fin 4096) :
    (W6 m c main_v12_2 : FVec Ideal ⟨2, ![2048, 4096]⟩ .f32) (ix2 r o)
      = layer2 (layer1 (fun s k => bi m c (ix2 s k)) (aγ1 m c) (aβ1 m c) (aW1 m c) (aB1 m c)) (aγ2 m c) (aβ2 m c) (aW2 m c) (aB2 m c) r o := by
  have h : W6 m c main_v12_2 = interV (W5 m) c := (afterRegion_arr (dat3 (W5 m) c) (W5 m c) launch3.win.arr_inj 13).trans (arr3_13 (W5 m) c)
  rw [h]
  exact interV_eq m c hf r o

/-- The first result after the run: the global bias, the second result and the third, added in this order. -/
theorem W6_out (c : Dev nD) (r : Fin 2048) (o : Fin 4096) :
    (W6 m c main_v12_0 : FVec Ideal ⟨2, ![2048, 4096]⟩ .f32) (ix2 r o)
      = (aG m c (ix1 o) + (W6 m c main_v12_1 : FVec Ideal ⟨2, ![2048, 4096]⟩ .f32) (ix2 r o)) + (W6 m c main_v12_2 : FVec Ideal ⟨2, ![2048, 4096]⟩ .f32) (ix2 r o) := by
  have h0 : W6 m c main_v12_0 = outV (W5 m) c := (afterRegion_arr (dat3 (W5 m) c) (W5 m c) launch3.win.arr_inj 11).trans (arr3_11 (W5 m) c)
  have h1 : W6 m c main_v12_1 = linG (W5 m c main_v0_2) (W5 m c main_arg2) (W5 m c main_v10) := (afterRegion_arr (dat3 (W5 m) c) (W5 m c) launch3.win.arr_inj 12).trans (arr3_12 (W5 m) c)
  have h2 : W6 m c main_v12_2 = interV (W5 m) c := (afterRegion_arr (dat3 (W5 m) c) (W5 m c) launch3.win.arr_inj 13).trans (arr3_13 (W5 m) c)
  rw [h0, h1, h2, ← W5_g]
  unfold outV
  rw [← rd_ix2 (W5 m c main_v11) (0 : Fin 1) o]
  rfl

end Cert.KernelIdeal.Val

end
-- ==== Proof.V.Pre.lean ====
/- The precondition read entry by entry, and what of the kernel's chain it makes finite. -/
module

public import proofs.«01_k».proof.Pre_tame
public import proofs.«01_k».proof.Proof.V.Chain
public import Idealize.ShloMosaic.Lib.ReduceAll

@[expose] public section

set_option maxRecDepth 16384

noncomputable section

namespace Cert.Pre_tame

open Idealize.ShloMosaic Idealize.ShloMosaic.ValueIdx Cert.Row

/-- The side conditions of the precondition's operations. -/
theorem sides : Facts where
  bcast_S_S2048x16384 := by decide
  reducesTo_S2048x16384_S_d0_1 := by decide
  h_S_ := by decide
  bcast_S_S16384x512 := by decide
  reducesTo_S16384x512_S_d0_1 := by decide
  bcast_S_S512 := by decide
  reducesTo_S512_S_d0 := by decide
  bcast_S_S512x512 := by decide
  reducesTo_S512x512_S_d0_1 := by decide

instance : Subsingleton S_.Idx := ⟨fun a b => funext fun q => q.elim0⟩

/-- The one index of a scalar. -/
def at0 : S_.Idx := fun q => q.elim0

/-- A scalar spread over a shape has its value everywhere. -/
theorem spread {α : Type} {s : Shape} (hb : S_.BroadcastsInDim s (![] : Fin 0 → Fin s.rank)) (y : S_.Idx → α) (i : s.Idx) : broadcastInDim s ![] hb y i = y at0 :=
  broadcastInDim_apply _ hb y i at0 fun a => a.elim0

variable {s : Shape} {axes : List (Fin s.rank)} (x : FVec Ideal s .f32) (hb : S_.BroadcastsInDim s (![] : Fin 0 → Fin s.rank)) (hr : s.ReducesTo axes S_) (hu : 0 < S_.numel)

/-- "All are at least zero", read at an entry. -/
theorem all_ge (v : S_.Idx → BitVec 1) (e : Host.reduce IntOp.andi (cmpf .oge x (broadcastInDim s ![] hb (constant S_ .f32 0x00000000#32))) v hr hu at0 = 1#1) (i : s.Idx) :
    (0 : EReal) ≤ x i := by
  have h := Host.reduce_andi_all _ _ hr hu at0 e i
  have h' : BitVec.ofBool (decide ((broadcastInDim s ![] hb (constant (F := Ideal) S_ .f32 0x00000000#32) i : EReal) ≤ x i)) = 1#1 := h
  have e0 : (broadcastInDim s ![] hb (constant (F := Ideal) S_ .f32 0x00000000#32) i : EReal) = 0 := (spread hb _ i).trans zero
  rw [e0] at h'
  by_contra hc
  rw [decide_eq_false hc] at h'
  exact absurd h' (by decide)

/-- "All are below infinity", read at an entry. -/
theorem all_lt (v : S_.Idx → BitVec 1) (e : Host.reduce IntOp.andi (cmpf .olt x (broadcastInDim s ![] hb (constant S_ .f32 0x7F800000#32))) v hr hu at0 = 1#1) (i : s.Idx) :
    (x i : EReal) < ⊤ := by
  have h := Host.reduce_andi_all _ _ hr hu at0 e i
  have h' : BitVec.ofBool (decide ((x i : EReal) < broadcastInDim s ![] hb (constant (F := Ideal) S_ .f32 0x7F800000#32) i)) = 1#1 := h
  have e0 : (broadcastInDim s ![] hb (constant (F := Ideal) S_ .f32 0x7F800000#32) i : EReal) = ⊤ := (spread hb _ i).trans posInf
  rw [e0] at h'
  by_contra hc
  rw [decide_eq_false hc] at h'
  exact absurd h' (by decide)

/-- A number whose size is below infinity is real. -/
theorem real_of_abs (a : EReal) (h : max a (-a) < ⊤) : ∃ z : ℝ, a = (z : EReal) := by
  induction a with
  | bot => simp at h
  | top => simp at h
  | coe r => exact ⟨r, rfl⟩

/-- "The sizes of all are below infinity", read at an entry. -/
theorem all_real (v : S_.Idx → BitVec 1) (e : Host.reduce IntOp.andi (cmpf .olt (Host.absf x) (broadcastInDim s ![] hb (constant S_ .f32 0x7F800000#32))) v hr hu at0 = 1#1) (i : s.Idx) :
    ∃ z : ℝ, (x i : EReal) = (z : EReal) :=
  real_of_abs _ (all_lt (Host.absf x) hb hr hu v e i)

/-- Two conditions together. -/
theorem both {a b : IVec S_ 1} (h : andi a b at0 = 1#1) : a at0 = 1#1 ∧ b at0 = 1#1 := IntOp.andi_eq_one.1 h

/-- What the precondition says, entry by entry. -/
theorem read [Facts] (x0 : FVec Ideal S2048x16384 .f32) (x1 : FVec Ideal S16384x512 .f32) (x2 : FVec Ideal S4096x16384 .f32) (x3 x4 : FVec Ideal S4096 .f32) (x5 x6 : FVec Ideal S512 .f32)
    (x7 : FVec Ideal S512x512 .f32) (x8 x9 x10 : FVec Ideal S512 .f32) (x11 : FVec Ideal S4096x512 .f32) (x12 : FVec Ideal S4096 .f32)
    (h : fn (F := Ideal) x0 x1 x2 x3 x4 x5 x6 x7 x8 x9 x10 x11 x12 = fun _ => 1#1) :
    (∀ i, (0 : EReal) ≤ x0 i) ∧ (∀ i, (x0 i : EReal) < ⊤) ∧ (∀ i, ∃ z : ℝ, (x1 i : EReal) = z) ∧ (∀ i, ∃ z : ℝ, (x5 i : EReal) = z) ∧ (∀ i, ∃ z : ℝ, (x6 i : EReal) = z)
      ∧ (∀ i, ∃ z : ℝ, (x7 i : EReal) = z) ∧ (∀ i, ∃ z : ℝ, (x8 i : EReal) = z) ∧ (∀ i, ∃ z : ℝ, (x9 i : EReal) = z) := by
  have h := congrFun h at0
  unfold fn fn_part1 fn_part2 at h
  dsimp only at h
  obtain ⟨h, h9⟩ := both h
  obtain ⟨h, h8⟩ := both h
  obtain ⟨h, h7⟩ := both h
  obtain ⟨h, h6⟩ := both h
  obtain ⟨h, h5⟩ := both h
  obtain ⟨h, h1⟩ := both h
  obtain ⟨h0, h0'⟩ := both h
  exact ⟨all_ge _ _ _ _ _ h0, all_lt _ _ _ _ _ h0', all_real _ _ _ _ _ h1, all_real _ _ _ _ _ h5, all_real _ _ _ _ _ h6, all_real _ _ _ _ _ h7, all_real _ _ _ _ _ h8,
    all_real _ _ _ _ _ h9⟩

end Cert.Pre_tame

namespace Cert.KernelIdeal.Val

open Idealize.ShloMosaic Idealize.ShloMosaic.TcCoe Idealize.ShloMosaic.ValueIdx
open Cert.KernelIdeal Cert.Row

/-- Finite matrices read finite everywhere. -/
theorem rd_fin {A B : ℕ} (X : FVec Ideal ⟨2, ![A, B]⟩ .f32) (h : ∀ i, ∃ z : ℝ, (X i : EReal) = z) (r k : ℕ) : ∃ z : ℝ, rd X r k = (z : EReal) := by
  unfold rd
  split
  · exact h _
  · exact ⟨0, rfl⟩

/-- Pooling finite features gives finite features. -/
theorem poolG_fin (Y : FVec Ideal ⟨2, ![2048, 16384]⟩ .f32) (E : FVec Ideal ⟨2, ![16384, 512]⟩ .f32) (hY : ∀ i, ∃ z : ℝ, (Y i : EReal) = z) (hE : ∀ i, ∃ z : ℝ, (E i : EReal) = z)
    (i : (⟨2, ![2048, 512]⟩ : Shape).Idx) : ∃ z : ℝ, (poolG Y E i : EReal) = z := by
  have hs : ∃ z : ℝ, (∑ k ∈ Finset.range 16384, rd Y (i 0).val k * rd E k (i 1).val : EReal) = z := sum_fin _ _ fun k _ => mul_fin (rd_fin Y hY _ _) (rd_fin E hE _ _)
  refine mul_fin ⟨_, half⟩ (sub_fin (mul_fin hs hs) (sum_fin _ _ fun k _ => mul_fin (mul_fin (rd_fin Y hY _ _) (rd_fin Y hY _ _)) (mul_fin (rd_fin E hE _ _) (rd_fin E hE _ _))))

variable (m : (ℓ : Loc nD τ sig) → Buf (Elt Ideal) ℓ)

/-- Under the precondition the chain of kernels meets finite numbers where it needs them. -/
theorem fin1_of (c : Dev nD) (hx : ∀ i, (0 : EReal) ≤ aX m c i) (hx' : ∀ i, (aX m c i : EReal) < ⊤) (h1 : ∀ i, ∃ z : ℝ, (aE m c i : EReal) = z) (h5 : ∀ i, ∃ z : ℝ, (aγ1 m c i : EReal) = z)
    (h6 : ∀ i, ∃ z : ℝ, (aβ1 m c i : EReal) = z) (h7 : ∀ i, ∃ z : ℝ, (aW1 m c i : EReal) = z) (h8 : ∀ i, ∃ z : ℝ, (aB1 m c i : EReal) = z) (h9 : ∀ i, ∃ z : ℝ, (aγ2 m c i : EReal) = z) :
    Fin1 m c where
  bi r k := by
    have hX : ∀ i, ∃ z : ℝ, (aX m c i : EReal) = z := fun i =>
      ⟨(aX m c i : EReal).toReal, (EReal.coe_toReal (ne_of_lt (hx' i)) (ne_of_gt (lt_of_lt_of_le EReal.bot_lt_zero (hx i)))).symm⟩
    refine poolG_fin _ _ (fun i => ?_) h1 _
    unfold keptX mkG
    split
    · exact hX _
    · exact ⟨0, rfl⟩
  γ1 := h5
  β1 := h6
  w1 := h7
  b1 := h8
  γ2 := h9

end Cert.KernelIdeal.Val

end
-- ==== Proof.V.Stable.lean ====
/- A stable sort, greater first: its positions are in the order of value, then of index; the first of them are the greatest entries. -/
module

public import proofs.«01_k».proof.Proof.V.Sel
public import Idealize.ShloMosaic.Lib.SortFacts

@[expose] public section

namespace Cert.Sel

open Idealize.ShloMosaic

variable {α : Type} [LinearOrder α] {n : ℕ} {x : Fin n → α} {R : Fin n → Fin n → Bool}

theorem Before.trans {a b c : Fin n} (h : Before x a b) (g : Before x b c) : Before x a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

theorem Before.irrefl {a : Fin n} (h : Before x a a) : False := by
  rcases h with h | ⟨_, h⟩
  · exact lt_irrefl _ h
  · exact lt_irrefl _ h

/-- Inserting an index below all of a sorted list keeps it sorted. -/
theorem insert_before (hR : ∀ a b, R a b = true ↔ x b < x a) (a : Fin n) (l : List (Fin n)) (hl : l.Pairwise (Before x)) (ha : ∀ b ∈ l, a < b) :
    (insertBefore R a l).Pairwise (Before x) := by
  induction l with
  | nil => exact List.pairwise_singleton _ _
  | cons b l ih =>
    rw [List.pairwise_cons] at hl
    have ih := ih hl.2 fun c hc => ha c (List.mem_cons_of_mem b hc)
    unfold insertBefore
    split
    · rename_i h
      rw [List.pairwise_cons]
      refine ⟨fun c hc => ?_, ih⟩
      rcases List.mem_cons.1 ((perm_insertBefore R a l).mem_iff.1 hc) with e | e
      · subst e; exact Or.inl ((hR _ _).1 h)
      · exact hl.1 c e
    · rename_i h
      have hab : Before x a b := by
        have h' : ¬ x a < x b := fun g => h ((hR _ _).2 g)
        rcases lt_or_eq_of_le (not_lt.1 h') with g | g
        · exact Or.inl g
        · exact Or.inr ⟨g.symm, ha b List.mem_cons_self⟩
      rw [List.pairwise_cons, List.pairwise_cons]
      refine ⟨fun c hc => ?_, hl.1, hl.2⟩
      rcases List.mem_cons.1 hc with e | e
      · subst e; exact hab
      · exact hab.trans (hl.1 c e)

/-- Sorting a list of increasing indices. -/
theorem sort_before (hR : ∀ a b, R a b = true ↔ x b < x a) (l : List (Fin n)) (hl : l.Pairwise (· < ·)) : (stableSort R l).Pairwise (Before x) := by
  induction l with
  | nil => exact List.Pairwise.nil
  | cons a l ih =>
    rw [List.pairwise_cons] at hl
    unfold stableSort
    exact insert_before hR a _ (ih hl.2) fun b hb => hl.1 b ((perm_stableSort R l).mem_iff.1 hb)

/-- The sorted positions are in the order of value, then of index. -/
theorem sortedFrom_before (hR : ∀ a b, R a b = true ↔ x b < x a) (i j : Fin n) (hij : i < j) : Before x (sortedFrom R i) (sortedFrom R j) := by
  have hs : (sortPositions n R).Pairwise (Before x) := sort_before hR (List.finRange n) (List.pairwise_lt_finRange n)
  have hp := List.pairwise_iff_get.mp hs
  unfold sortedFrom
  exact hp _ _ (by simp only [Fin.lt_def, Fin.val_cast]; exact hij)

/-- The first `K` sorted positions hold everything before their members, and are `K` many. -/
theorem sortedFrom_first (hR : ∀ a b, R a b = true ↔ x b < x a) (K : ℕ) (hK : K ≤ n) :
    (∀ a b, Before x a b → b ∈ (Finset.univ.image fun i : Fin K => sortedFrom R (Fin.castLE hK i)) → a ∈ (Finset.univ.image fun i : Fin K => sortedFrom R (Fin.castLE hK i)))
      ∧ (Finset.univ.image fun i : Fin K => sortedFrom R (Fin.castLE hK i)).card = K := by
  constructor
  · intro a b hab hb
    obtain ⟨j, -, rfl⟩ := Finset.mem_image.1 hb
    obtain ⟨i, rfl⟩ := sortedFrom_surjective R a
    by_cases hi : i.val < K
    · exact Finset.mem_image.2 ⟨⟨i.val, hi⟩, Finset.mem_univ _, rfl⟩
    · have hlt : Fin.castLE hK j < i := by
        rw [Fin.lt_def, Fin.val_castLE]
        have := j.isLt
        omega
      exact (hab.trans (sortedFrom_before hR _ _ hlt)).irrefl.elim
  · rw [Finset.card_image_of_injective, Finset.card_univ, Fintype.card_fin]
    exact fun i j e => Fin.castLE_injective hK (sortedFrom_injective R e)

end Cert.Sel

end
-- ==== Proof.V.RefTop.lean ====
/- The reference's masked features: each row's twenty greatest entries where they stand, zero elsewhere. -/
module

public import proofs.«01_k».proof.Proof.V.Stable
public import proofs.«01_k».proof.Proof.V.R1
public import proofs.«01_k».proof.Proof.Gen.ReferenceIdeal.Read
public import Idealize.ShloMosaic.Lib.Routing.OpsSet
public import Idealize.ShloMosaic.Lib.Routing.OpsPair

@[expose] public section

set_option maxRecDepth 16384

noncomputable section

namespace Cert.Val

open Idealize.ShloMosaic Idealize.ShloMosaic.TcCoe Idealize.ShloMosaic.ValueIdx
open Cert.ReferenceIdeal Cert.ReferenceIdeal.Read
open Cert.KernelIdeal.Val (Top)

variable (x : FVec Ideal ⟨2, ![2048, 16384]⟩ .f32)

/-- A row's order: greater first. -/
def gtRow (r : Fin 2048) (a b : Fin 16384) : Bool := (FloatOps.cmpfTotal (F := Ideal) (φ := .f32) .gt (x (ix2 r a)) (x (ix2 r b))) == 1#1

theorem gtRow_iff (r : Fin 2048) (a b : Fin 16384) : gtRow x r a b = true ↔ (x (ix2 r b) : EReal) < x (ix2 r a) := by
  unfold gtRow
  rw [Ideal.cmpfTotal_def]
  show (BitVec.ofBool (decide ((x (ix2 r b) : EReal) < x (ix2 r a))) == 1#1) = true ↔ _
  by_cases h : (x (ix2 r b) : EReal) < x (ix2 r a) <;> simp [h]

/-- The column of a row's `k`-th greatest entry. -/
def topCol (r : Fin 2048) (k : Fin 20) : Fin 16384 := sortedFrom (gtRow x r) (Fin.castLE (by norm_num) k)

theorem along_row (r : Fin 2048) (a k : Fin 16384) (h : 1 < S2048x16384.rank) : Shape.Idx.along (s := S2048x16384) (ix2 r a) ⟨1, h⟩ k = ix2 r k := by
  funext b
  apply Fin.ext
  match b with
  | ⟨0, _⟩ => rfl
  | ⟨1, _⟩ => rfl

/-- Where a row's sort, greater first, finds its `c`-th entry. -/
theorem along_sorted (r : Fin 2048) (c : Fin 16384) (h : 1 < S2048x16384.rank) :
    Shape.Idx.along (s := S2048x16384) (ix2 r c) ⟨1, h⟩ (sortedFrom (n := 16384) (fun k k' : Fin 16384 =>
      FloatOps.cmpfTotal (F := Ideal) (φ := .f32) .gt (x (Shape.Idx.along (s := S2048x16384) (ix2 r c) ⟨1, h⟩ k)) (x (Shape.Idx.along (s := S2048x16384) (ix2 r c) ⟨1, h⟩ k')) == 1#1) c)
      = ix2 r (sortedFrom (gtRow x r) c) := by
  refine (along_row r c _ h).trans (congrArg (fun R : Fin 16384 → Fin 16384 → Bool => ix2 r (sortedFrom R c)) ?_)
  funext k k'
  rw [along_row, along_row]
  rfl

/-- A row's entries sorted with others, greater first. -/
theorem sort2_row (y : S2048x16384.Idx → BitVec 32) (r : Fin 2048) (c : Fin 16384) :
    (Host.sort2 S2048x16384 1 (fun l r => FloatOps.cmpfTotal (F := Ideal) (φ := .f32) .gt l.1 r.1) x y).1 (ix2 r c) = x (ix2 r (sortedFrom (gtRow x r) c))
      ∧ (Host.sort2 S2048x16384 1 (fun l r => FloatOps.cmpfTotal (F := Ideal) (φ := .f32) .gt l.1 r.1) x y).2 (ix2 r c) = y (ix2 r (sortedFrom (gtRow x r) c)) := by
  have h : 1 < S2048x16384.rank := by decide
  unfold Host.sort2
  rw [dif_pos h]
  exact ⟨congrArg x (along_sorted x r c h), congrArg y (along_sorted x r c h)⟩

/-- The reference's greatest values. -/
theorem values_apply (r : Fin 2048) (k : Fin 20) : val_main_values (F := Ideal) x (ix2 r k) = x (ix2 r (topCol x r k)) := by
  unfold val_main_values Host.topK
  dsimp only
  refine (extractStridedSlice_apply _ _ _ (ix2 r k) (ix2 r (Fin.castLE (by norm_num) k : Fin 16384)) fun a => ?_).trans ?_
  · match a with
    | ⟨0, _⟩ => exact (Nat.zero_add _).symm
    | ⟨1, _⟩ => exact (Nat.zero_add _).symm
  · exact (sort2_row x _ r _).1

/-- The reference's columns of the greatest values. -/
theorem indices_apply (r : Fin 2048) (k : Fin 20) : val_main_indices (F := Ideal) x (ix2 r k) = BitVec.ofNat 32 (topCol x r k).val := by
  unfold val_main_indices Host.topK
  dsimp only
  refine (extractStridedSlice_apply _ _ _ (ix2 r k) (ix2 r (Fin.castLE (by norm_num) k : Fin 16384)) fun a => ?_).trans ?_
  · match a with
    | ⟨0, _⟩ => exact (Nat.zero_add _).symm
    | ⟨1, _⟩ => exact (Nat.zero_add _).symm
  · exact (sort2_row x _ r _).2

/-- A word below half the range is its number, read signed. -/
theorem toInt_ofNat (a : ℕ) (h : a < 16384) : (BitVec.ofNat 32 a).toInt = (a : Int) := by
  rw [BitVec.toInt_eq_toNat_of_lt]
  · simp only [BitVec.toNat_ofNat]; rw [Nat.mod_eq_of_lt (by omega)]
  · simp only [BitVec.toNat_ofNat]; omega

theorem toNat_half (a : ℕ) (h : a < 16384) : (BitVec.ofNat 32 a).toNat < 2 ^ (32 - 1) := by
  simp only [BitVec.toNat_ofNat]; omega

/-- The row word of a scatter index. -/
theorem v14_apply (r : Fin 2048) (k : Fin 20) : val_main_v14 (F := Ideal) (ix3 r k (0 : Fin 1)) = BitVec.ofNat 32 r.val := by
  rw [val_main_v14_apply, val_main_v13_apply, val_main_v7_apply, val_main_v4_apply, val_main_v3_apply, val_main_c_apply, val_main_v2_apply, val_main_v1_apply]
  exact Routing.wrap_of_lt (w := 32) _ _ (toNat_half r.val (by have := r.isLt; omega))

/-- The column word of a scatter index. -/
theorem v15_apply (r : Fin 2048) (k : Fin 20) : val_main_v15 (F := Ideal) x (ix3 r k (0 : Fin 1)) = BitVec.ofNat 32 (topCol x r k).val := by
  have e : idx_main_v15 (ix3 r k (0 : Fin 1)) = ix2 r k := by
    funext a
    match a with
    | ⟨0, _⟩ => rfl
    | ⟨1, _⟩ => rfl
  rw [val_main_v15_apply, e, val_main_v12_apply, val_main_v9_apply, val_main_v8_apply, val_main_c_1_apply, indices_apply]
  exact Routing.wrap_of_lt (w := 32) _ _ (toNat_half _ (topCol x r k).isLt)

/-- A scatter index's two words. -/
theorem v16_0 (r : Fin 2048) (k : Fin 20) : val_main_v16 (F := Ideal) x (ix3 r k (0 : Fin 2)) = BitVec.ofNat 32 r.val := by
  unfold val_main_v16
  refine (concatenate_pair_apply_left (t := S2048x20x2) (s₁ := S2048x20x1) (s₂ := S2048x20x1) (2 : Fin 3) (val_main_v14 (F := Ideal)) (val_main_v15 (F := Ideal) x) _ (ix3 r k (0 : Fin 2)) rfl (ix3 r k (0 : Fin 1)) fun b => ?_).trans (v14_apply r k)
  match b with
  | ⟨0, _⟩ => rfl
  | ⟨1, _⟩ => rfl
  | ⟨2, _⟩ => rfl
theorem v16_1 (r : Fin 2048) (k : Fin 20) : val_main_v16 (F := Ideal) x (ix3 r k (1 : Fin 2)) = BitVec.ofNat 32 (topCol x r k).val := by
  unfold val_main_v16
  refine (concatenate_pair_apply_right (t := S2048x20x2) (s₁ := S2048x20x1) (s₂ := S2048x20x1) (2 : Fin 3) (val_main_v14 (F := Ideal)) (val_main_v15 (F := Ideal) x) _ (ix3 r k (1 : Fin 2)) rfl rfl (ix3 r k (0 : Fin 1)) (fun b hb => ?_) rfl).trans (v15_apply x r k)
  match b, hb with
  | ⟨0, _⟩, _ => rfl
  | ⟨1, _⟩, _ => rfl
  | ⟨2, _⟩, hb => exact absurd rfl hb

/-- Where an update lands. -/
theorem lands (a : Fin 2048) (b : Fin 20) (r : Fin 2048) (c : Fin 16384) :
    scatter_S2048x16384_S2048x20x2_S2048x20_n_01_01_2.resultIdx? (ix2 a b) (val_main_v16 (F := Ideal) x) = some (ix2 r c) ↔ a = r ∧ topCol x a b = c := by
  refine (Routing.scatter_lands2 (R := 2048) (C := 16384) (A := 2048) (B := 20) scatter_S2048x16384_S2048x20x2_S2048x20_n_01_01_2 rfl rfl rfl (val_main_v16 (F := Ideal) x) a b r c).trans ?_
  rw [v16_0, v16_1, toInt_ofNat _ (by have := a.isLt; omega), toInt_ofNat _ (topCol x a b).isLt]
  simp only [Nat.cast_inj, Fin.ext_iff]

/-- The columns of a row's twenty greatest entries. -/
def topSet (r : Fin 2048) : Finset (Fin 16384) := Finset.univ.image (topCol x r)

theorem topSet_top : Top x (topSet x) := fun r =>
  Cert.Sel.sortedFrom_first (x := fun j => (x (ix2 r j) : EReal)) (R := gtRow x r) (gtRow_iff x r) 20 (by norm_num)

open Classical in
/-- The reference's masked features. -/
theorem ref_mask (r : Fin 2048) (c : Fin 16384) :
    val_main_v17 (F := Ideal) x (ix2 r c) = if c ∈ topSet x r then (x (ix2 r c) : EReal) else 0 := by
  unfold val_main_v17
  have hall : ∀ k : S2048x20.Idx, ∃ (a : Fin 2048) (b : Fin 20), k = ix2 a b := fun k => ⟨k 0, k 1, by funext q; match q with | ⟨0, _⟩ => rfl | ⟨1, _⟩ => rfl⟩
  split
  · rename_i h
    obtain ⟨b, -, hb⟩ := Finset.mem_image.1 h
    refine Routing.scatter_set_hit _ _ _ _ (ix2 r c) (x (ix2 r c)) (fun k hk => ?_) (ix2 r b) ((lands x r b r c).2 ⟨rfl, hb⟩)
    obtain ⟨a, b', rfl⟩ := hall k
    obtain ⟨rfl, rfl⟩ := (lands x a b' r c).1 hk
    exact values_apply x a b'
  · rename_i h
    refine (Routing.scatter_set_miss _ _ _ _ (ix2 r c) fun k hk => ?_).trans ?_
    · obtain ⟨a, b, rfl⟩ := hall k
      obtain ⟨rfl, hc⟩ := (lands x a b r c).1 hk
      exact h (Finset.mem_image.2 ⟨b, Finset.mem_univ _, hc⟩)
    · rw [val_main_v0_apply, val_main_cst_apply]
      exact Cert.Row.zero

/-- Masked to the twenty greatest entries of each row, however chosen, the features are the reference's. -/
theorem ref_mask_eq (S : Fin 2048 → Finset (Fin 16384)) (hS : Top x S) (y : FVec Ideal ⟨2, ![2048, 16384]⟩ .f32)
    (hy : ∀ r c, (c ∈ S r → (y (ix2 r c) : EReal) = x (ix2 r c)) ∧ (c ∉ S r → (y (ix2 r c) : EReal) = 0)) : y = val_main_v17 (F := Ideal) x := by
  have e : S = topSet x := hS.unique (topSet_top x)
  subst e
  funext i
  obtain ⟨r, c, rfl⟩ : ∃ (r : Fin 2048) (c : Fin 16384), i = ix2 r c := ⟨i 0, i 1, by funext q; match q with | ⟨0, _⟩ => rfl | ⟨1, _⟩ => rfl⟩
  rw [ref_mask]
  split
  · rename_i h; exact (hy r c).1 h
  · rename_i h; exact (hy r c).2 h

end Cert.Val

end
-- ==== Proof.V.RefNet.lean ====
/- The reference's pooled features and its two layers, entry by entry, as the specification writes them. -/
module

public import proofs.«01_k».proof.Proof.V.Spec
public import proofs.«01_k».proof.Proof.V.R1
public import proofs.«01_k».proof.Proof.Gen.ReferenceIdeal.Read

@[expose] public section

set_option maxRecDepth 16384

noncomputable section

namespace Cert.Val

open Idealize.ShloMosaic Idealize.ShloMosaic.TcCoe Idealize.ShloMosaic.ValueIdx
open Cert.ReferenceIdeal Cert.ReferenceIdeal.Gen Cert.ReferenceIdeal.Read Cert.Row
open Cert.KernelIdeal.Val (rd rd_eq rd_ix2 poolG)

/-- A mean as the reference takes it. -/
theorem mean_eq (f g : Fin 2048 → EReal) (h : ∀ s, g s = f s) :
    Ideal.div (Ideal.ofBits .f32 0x00000000#32 + ∑ s, g s) (Ideal.ofBits .f32 0x45000000#32) = mu f := by
  rw [zero, zero_add, Finset.sum_congr rfl fun s _ => h s]
  rfl

/-- The count of rows less no degree of freedom. -/
theorem cnt_sub : (Ideal.ofBits .f32 0x45000000#32 : EReal) - (((0#32 : BitVec 32).toInt : ℝ) : EReal) = cnt := by
  have e : (((0#32 : BitVec 32).toInt : ℝ) : EReal) = 0 := by simp
  rw [e, sub_zero]
  rfl

/-- The count of rows is positive. -/
theorem cnt_pos : (Ideal.cmp .ogt cnt (Ideal.ofBits .f32 0x00000000#32) : BitVec 1) = 1#1 := by
  have h : (0 : EReal) < cnt := by
    show (0 : EReal) < Ideal.ofBits .f32 0x45000000#32
    rw [rows2048]
    exact_mod_cast (by norm_num : (0 : ℝ) < 2048)
  show BitVec.ofBool (decide ((Ideal.ofBits .f32 0x00000000#32 : EReal) < cnt)) = 1#1
  rw [zero, decide_eq_true h]
  rfl

/-- A variance as the reference takes it: it divides by the count, which is positive. -/
theorem var_eq (f g : Fin 2048 → EReal) (c d n : EReal) (hc : c = cnt) (hd : d = cnt) (h : ∀ s, g s = (f s - mu f) * (f s - mu f)) :
    Scalar.select (Ideal.cmp .ogt c (Ideal.ofBits .f32 0x00000000#32) : BitVec 1) (Ideal.div (Ideal.ofBits .f32 0x00000000#32 + ∑ s, g s) d) n = var f := by
  subst hc hd
  rw [cnt_pos, zero, zero_add, Finset.sum_congr rfl fun s _ => h s]
  rfl

variable (x0 : FVec Ideal ⟨2, ![2048, 16384]⟩ .f32) (x1 : FVec Ideal ⟨2, ![16384, 512]⟩ .f32)

/-- The reference's pooled features. -/
theorem ref_pool (r : Fin 2048) (k : Fin 512) : val_main_v25 (F := Ideal) x0 x1 (ix2 r k) = poolG (val_main_v17 (F := Ideal) x0) x1 (ix2 r k) := by
  have hs : val_main_v18 (F := Ideal) x0 x1 (ix2 r k) = ∑ j ∈ Finset.range 16384, (rd (φ := .f32) (val_main_v17 (F := Ideal) x0) r.val j * rd x1 j k.val : EReal) := by
    rw [val_main_v18_apply, Finset.sum_range]
    refine Finset.sum_congr rfl fun j _ => ?_
    rw [rd_eq (φ := .f32) (val_main_v17 (F := Ideal) x0) (lidx_main_v18 (ix2 r k) j) r.val j.val rfl rfl, rd_eq x1 (ridx_main_v18 (ix2 r k) j) j.val k.val rfl rfl]
  have hq : val_main_v21 (F := Ideal) x0 x1 (ix2 r k) = ∑ j ∈ Finset.range 16384,
      ((rd (φ := .f32) (val_main_v17 (F := Ideal) x0) r.val j * rd (φ := .f32) (val_main_v17 (F := Ideal) x0) r.val j) * (rd x1 j k.val * rd x1 j k.val) : EReal) := by
    rw [val_main_v21_apply, Finset.sum_range]
    refine Finset.sum_congr rfl fun j _ => ?_
    rw [val_main_v19_apply, val_main_v20_apply]
    rw [rd_eq (φ := .f32) (val_main_v17 (F := Ideal) x0) (lidx_main_v21 (ix2 r k) j) r.val j.val rfl rfl, rd_eq x1 (ridx_main_v21 (ix2 r k) j) j.val k.val rfl rfl]
    rfl
  rw [val_main_v25_apply, val_main_v24_apply, val_main_cst_3_apply, val_main_v23_apply, val_main_v22_apply, hs, hq]
  rfl

/-- A column of the pooled features. -/
abbrev pcol (k : Fin 512) (s : Fin 2048) : EReal := val_main_v25 (F := Ideal) x0 x1 (ix2 s k)

theorem bn1_mean (k : Fin 512) : val_main_v28 (F := Ideal) x0 x1 (ix1 k) = mu (pcol x0 x1 k) := by
  rw [val_main_v28_apply, val_main_v27_apply, val_main_v26_apply]
  refine mean_eq (pcol x0 x1 k) _ fun s => congrArg (val_main_v25 (F := Ideal) x0 x1) ?_
  funext a
  match a with
  | ⟨0, _⟩ => rfl
  | ⟨1, _⟩ => rfl

theorem bn1_mean' (i : S1x512.Idx) (k : Fin 512) (hi : (i 1).val = k.val) : val_main_call0_v3 (F := Ideal) x0 x1 i = mu (pcol x0 x1 k) := by
  rw [val_main_call0_v3_apply, val_main_call0_v2_apply, val_main_call0_v1_apply, val_main_call0_v0_apply]
  refine mean_eq (pcol x0 x1 k) _ fun s => congrArg (val_main_v25 (F := Ideal) x0 x1) ?_
  funext a
  match a with
  | ⟨0, _⟩ => rfl
  | ⟨1, _⟩ => exact Fin.ext hi

theorem bn1_var (k : Fin 512) : val_main_v29 (F := Ideal) x0 x1 (ix1 k) = var (pcol x0 x1 k) := by
  have hb : broadcastInDim S512 ![] bcast_S_S512 (val_main_call0_v12 (F := Ideal)) (ix1 k) = val_main_call0_v12 (F := Ideal) (idx_main_call0_v10 (ix1 k)) :=
    broadcastInDim_apply _ bcast_S_S512 _ (ix1 k) _ (fun a => a.elim0)
  show Scalar.select (broadcastInDim S512 ![] bcast_S_S512 (val_main_call0_v12 (F := Ideal)) (ix1 k)) (val_main_call0_v11 (F := Ideal) x0 x1 (ix1 k)) _ = _
  rw [hb, val_main_call0_v11_apply, val_main_call0_v9_apply, val_main_call0_v10_apply, val_main_call0_v12_apply]
  refine var_eq (pcol x0 x1 k) _ _ _ _ cnt_sub cnt_sub fun s => ?_
  have e : idx_main_call0_v9 (ix1 k) s = ix2 s k := by
    funext a
    match a with
    | ⟨0, _⟩ => rfl
    | ⟨1, _⟩ => rfl
  rw [e, val_main_call0_v6_apply, val_main_call0_v5_apply, val_main_call0_v4_apply, bn1_mean' x0 x1 _ k rfl]
  rfl

/-- The first normalisation. -/
theorem ref_bn1 (x5 x6 : FVec Ideal ⟨1, ![512]⟩ .f32) (r : Fin 2048) (k : Fin 512) :
    val_main_v44 (F := Ideal) x0 x1 x5 x6 (ix2 r k) = bnRef (pcol x0 x1 k) (x5 (ix1 k)) (x6 (ix1 k)) r := by
  have e (i : S512.Idx) (h : (i 0).val = k.val) : i = ix1 k := by
    funext a
    match a with
    | ⟨0, _⟩ => exact Fin.ext h
  rw [val_main_v44_apply, val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply, val_main_v30_apply]
  rw [e (idx_main_v42 _) rfl, e (idx_main_v39 _) rfl, e (idx_main_v36 _) rfl, e (idx_main_v30 _) rfl, bn1_mean, bn1_var]
  rfl

variable (x5 x6 : FVec Ideal ⟨1, ![512]⟩ .f32) (x7 : FVec Ideal ⟨2, ![512, 512]⟩ .f32) (x8 : FVec Ideal ⟨1, ![512]⟩ .f32)

/-- The first layer. -/
theorem ref_layer1 (r : Fin 2048) (j : Fin 512) :
    val_main_v49 (F := Ideal) x0 x1 x5 x6 x7 x8 (ix2 r j) = layer1 (fun s k => val_main_v25 (F := Ideal) x0 x1 (ix2 s k)) x5 x6 x7 x8 r j := by
  rw [val_main_v49_apply, val_main_v48_apply, val_main_v47_apply, val_main_v46_apply]
  unfold layer1
  refine congrArg₂ (fun a b : EReal => a + b) (Finset.sum_congr rfl fun k _ => ?_) (congrArg x8 ?_)
  · have e : lidx_main_v46 (ix2 r j) k = ix2 r k := by
      funext a
      match a with
      | ⟨0, _⟩ => rfl
      | ⟨1, _⟩ => rfl
    have e' : idx_main_v45 (ridx_main_v46 (ix2 r j) k) = ix2 j k := by
      funext a
      match a with
      | ⟨0, _⟩ => rfl
      | ⟨1, _⟩ => rfl
    rw [e, val_main_v45_apply, e', ref_bn1]
  · funext a
    match a with
    | ⟨0, _⟩ => rfl

/-- A column of the first layer's outputs. -/
abbrev hcol (k : Fin 512) (s : Fin 2048) : EReal := val_main_v49 (F := Ideal) x0 x1 x5 x6 x7 x8 (ix2 s k)

theorem bn2_mean (k : Fin 512) : val_main_v52 (F := Ideal) x0 x1 x5 x6 x7 x8 (ix1 k) = mu (hcol x0 x1 x5 x6 x7 x8 k) := by
  rw [val_main_v52_apply, val_main_v51_apply, val_main_v50_apply]
  refine mean_eq (hcol x0 x1 x5 x6 x7 x8 k) _ fun s => congrArg (val_main_v49 (F := Ideal) x0 x1 x5 x6 x7 x8) ?_
  funext a
  match a with
  | ⟨0, _⟩ => rfl
  | ⟨1, _⟩ => rfl

theorem bn2_mean' (i : S1x512.Idx) (k : Fin 512) (hi : (i 1).val = k.val) :
    val_main_call1_v3 (F := Ideal) x0 x1 x5 x6 x7 x8 i = mu (hcol x0 x1 x5 x6 x7 x8 k) := by
  rw [val_main_call1_v3_apply, val_main_call1_v2_apply, val_main_call1_v1_apply, val_main_call1_v0_apply]
  refine mean_eq (hcol x0 x1 x5 x6 x7 x8 k) _ fun s => congrArg (val_main_v49 (F := Ideal) x0 x1 x5 x6 x7 x8) ?_
  funext a
  match a with
  | ⟨0, _⟩ => rfl
  | ⟨1, _⟩ => exact Fin.ext hi

theorem bn2_var (k : Fin 512) : val_main_v53 (F := Ideal) x0 x1 x5 x6 x7 x8 (ix1 k) = var (hcol x0 x1 x5 x6 x7 x8 k) := by
  have hb : broadcastInDim S512 ![] bcast_S_S512 (val_main_call1_v12 (F := Ideal)) (ix1 k) = val_main_call1_v12 (F := Ideal) (idx_main_call1_v10 (ix1 k)) :=
    broadcastInDim_apply _ bcast_S_S512 _ (ix1 k) _ (fun a => a.elim0)
  show Scalar.select (broadcastInDim S512 ![] bcast_S_S512 (val_main_call1_v12 (F := Ideal)) (ix1 k)) (val_main_call1_v11 (F := Ideal) x0 x1 x5 x6 x7 x8 (ix1 k)) _ = _
  rw [hb, val_main_call1_v11_apply, val_main_call1_v9_apply, val_main_call1_v10_apply, val_main_call1_v12_apply]
  refine var_eq (hcol x0 x1 x5 x6 x7 x8 k) _ _ _ _ cnt_sub cnt_sub fun s => ?_
  have e : idx_main_call1_v9 (ix1 k) s = ix2 s k := by
    funext a
    match a with
    | ⟨0, _⟩ => rfl
    | ⟨1, _⟩ => rfl
  rw [e, val_main_call1_v6_apply, val_main_call1_v5_apply, val_main_call1_v4_apply, bn2_mean' x0 x1 x5 x6 x7 x8 _ k rfl]
  rfl

/-- The second normalisation, cut off below at zero. -/
theorem ref_bn2 (x9 x10 : FVec Ideal ⟨1, ![512]⟩ .f32) (r : Fin 2048) (k : Fin 512) :
    val_main_v69 (F := Ideal) x0 x1 x5 x6 x7 x8 x9 x10 (ix2 r k) = max (bnRef (hcol x0 x1 x5 x6 x7 x8 k) (x9 (ix1 k)) (x10 (ix1 k)) r) (0 : EReal) := by
  have e (i : S512.Idx) (h : (i 0).val = k.val) : i = ix1 k := by
    funext a
    match a with
    | ⟨0, _⟩ => exact Fin.ext h
  rw [val_main_v69_apply, val_main_call2_v0_apply, val_main_call2_cst_apply, val_main_v68_apply, val_main_v67_apply, val_main_v66_apply, val_main_v65_apply,
    val_main_v64_apply, val_main_v63_apply, val_main_v62_apply, val_main_v61_apply, val_main_v60_apply, val_main_v59_apply, val_main_v58_apply,
    val_main_v57_apply, val_main_v56_apply, val_main_v55_apply, val_main_v54_apply]
  rw [e (idx_main_v66 _) rfl, e (idx_main_v63 _) rfl, e (idx_main_v60 _) rfl, e (idx_main_v54 _) rfl, bn2_mean, bn2_var]
  exact congrArg (fun z : EReal => max (bnRef (hcol x0 x1 x5 x6 x7 x8 k) (x9 (ix1 k)) (x10 (ix1 k)) r) z) zero

/-- The second layer: the reference's third result. -/
theorem ref_inter (x9 x10 : FVec Ideal ⟨1, ![512]⟩ .f32) (x11 : FVec Ideal ⟨2, ![4096, 512]⟩ .f32) (x12 : FVec Ideal ⟨1, ![4096]⟩ .f32) (r : Fin 2048) (o : Fin 4096) :
    val_main_v74 (F := Ideal) x0 x1 x5 x6 x7 x8 x9 x10 x11 x12 (ix2 r o)
      = layer2 (layer1 (fun s k => poolG (val_main_v17 (F := Ideal) x0) x1 (ix2 s k)) x5 x6 x7 x8) x9 x10 x11 x12 r o := by
  have hp : (fun s k => val_main_v25 (F := Ideal) x0 x1 (ix2 s k)) = fun s k => poolG (val_main_v17 (F := Ideal) x0) x1 (ix2 s k) :=
    funext fun s => funext fun k => ref_pool x0 x1 s k
  have hl : (fun s k => val_main_v49 (F := Ideal) x0 x1 x5 x6 x7 x8 (ix2 s k)) = layer1 (fun s k => poolG (val_main_v17 (F := Ideal) x0) x1 (ix2 s k)) x5 x6 x7 x8 := by
    funext s k
    rw [ref_layer1, hp]
  rw [← hl, val_main_v74_apply, val_main_v73_apply, val_main_v72_apply, val_main_v71_apply]
  unfold layer2
  refine congrArg₂ (fun a b : EReal => a + b) (Finset.sum_congr rfl fun k _ => ?_) (congrArg x12 ?_)
  · have e : lidx_main_v71 (ix2 r o) k = ix2 r k := by
      funext a
      match a with
      | ⟨0, _⟩ => rfl
      | ⟨1, _⟩ => rfl
    have e' : idx_main_v70 (ridx_main_v71 (ix2 r o) k) = ix2 o k := by
      funext a
      match a with
      | ⟨0, _⟩ => rfl
      | ⟨1, _⟩ => rfl
    rw [e, val_main_v70_apply, e', ref_bn2]
  · funext a
    match a with
    | ⟨0, _⟩ => rfl

end Cert.Val

end
-- ==== Proof.V.RefLin.lean ====
/- The reference's linear layer is the sum the kernel computes; its first result adds the three parts. -/
module

public import proofs.«01_k».proof.Proof.V.Common
public import proofs.«01_k».proof.Proof.Gen.ReferenceIdeal.Read

@[expose] public section

set_option maxRecDepth 16384

noncomputable section

namespace Cert.Val

open Idealize.ShloMosaic Idealize.ShloMosaic.TcCoe Idealize.ShloMosaic.ValueIdx
open Cert.KernelIdeal.Val (rd rd_eq)
open Cert.ReferenceIdeal.Read

/-- The reference's linear layer, entry by entry: a row of the features against a row of the weights, plus the bias. -/
theorem ref_lin (x : FVec Ideal ⟨2, ![2048, 16384]⟩ .f32) (w : FVec Ideal ⟨2, ![4096, 16384]⟩ .f32) (b : FVec Ideal ⟨1, ![4096]⟩ .f32)
    (i : Cert.ReferenceIdeal.S2048x4096.Idx) :
    val_main_v79 (F := Ideal) x w b i = (∑ k ∈ Finset.range 16384, rd x (i 0).val k * rd w (i 1).val k) + b (ix1 (i 1)) := by
  rw [val_main_v79_apply, val_main_v76_apply, val_main_v78_apply, val_main_v77_apply, Finset.sum_range]
  show (_ : EReal) + _ = _
  refine congrArg₂ (fun a b : EReal => a + b) ?_ ?_
  · refine Finset.sum_congr rfl fun k _ => ?_
    rw [val_main_v75_apply]
    rw [rd_eq x (lidx_main_v76 i k) (i 0).val k.val rfl rfl, rd_eq w (idx_main_v75 (ridx_main_v76 i k)) (i 1).val k.val rfl rfl]
  · refine congrArg b ?_
    funext a
    match a with
    | ⟨0, _⟩ => rfl

/-- The reference's first result: the global bias, the linear layer and the second layer, added in this order. -/
theorem ref_out (x0 : FVec Ideal ⟨2, ![2048, 16384]⟩ .f32) (x1 : FVec Ideal ⟨2, ![16384, 512]⟩ .f32) (x2 : FVec Ideal ⟨2, ![4096, 16384]⟩ .f32) (x3 x4 : FVec Ideal ⟨1, ![4096]⟩ .f32)
    (x5 x6 : FVec Ideal ⟨1, ![512]⟩ .f32) (x7 : FVec Ideal ⟨2, ![512, 512]⟩ .f32) (x8 x9 x10 : FVec Ideal ⟨1, ![512]⟩ .f32) (x11 : FVec Ideal ⟨2, ![4096, 512]⟩ .f32)
    (x12 : FVec Ideal ⟨1, ![4096]⟩ .f32) (r : Fin 2048) (o : Fin 4096) :
    (val_main_v83 (F := Ideal) x0 x1 x2 x3 x4 x5 x6 x7 x8 x9 x10 x11 x12 (ix2 r o) : EReal)
      = ((x4 (ix1 o) : EReal) + val_main_v79 (F := Ideal) x0 x2 x3 (ix2 r o)) + val_main_v74 (F := Ideal) x0 x1 x5 x6 x7 x8 x9 x10 x11 x12 (ix2 r o) := by
  have e : idx_main_v80 (idx_main_v81 (ix2 r o)) = ix1 o := by
    funext a
    match a with
    | ⟨0, _⟩ => rfl
  rw [val_main_v83_apply, val_main_v82_apply, val_main_v81_apply, val_main_v80_apply, e]
  rfl

end Cert.Val

end
-- ==== Proof.V.Whole.lean ====
/- The kernel's three results against the reference's, entry by entry. -/
module

public import proofs.«01_k».proof.Proof.V.Chain
public import proofs.«01_k».proof.Proof.V.Copy
public import proofs.«01_k».proof.Proof.V.RefTop
public import proofs.«01_k».proof.Proof.V.RefNet
public import proofs.«01_k».proof.Proof.V.RefLin

@[expose] public section

set_option maxRecDepth 16384

noncomputable section

namespace Cert.KernelIdeal.Val

open Idealize.ShloMosaic Idealize.ShloMosaic.TcCoe Idealize.ShloMosaic.ValueIdx
open Cert.KernelIdeal Cert.KernelIdeal.Reg Cert.Row Cert.Val
open Cert.ReferenceIdeal.Read

variable (m : (ℓ : Loc nD τ sig) → Buf (Elt Ideal) ℓ) (c : Dev nD)

/-- The linear layer's weights and its bias, as launched. -/
abbrev aW (c : Dev nD) : FVec Ideal ⟨2, ![4096, 16384]⟩ .f32 := m ((c : Thread nD τ).loc main_arg2)
abbrev aB (c : Dev nD) : FVec Ideal ⟨1, ![4096]⟩ .f32 := m ((c : Thread nD τ).loc main_arg3)

/-- An index of a matrix by its two numbers. -/
theorem ix2_all {A B : ℕ} (i : (⟨2, ![A, B]⟩ : Shape).Idx) : ∃ (r : Fin A) (k : Fin B), i = ix2 r k :=
  ⟨i 0, i 1, by funext q; match q with | ⟨0, _⟩ => rfl | ⟨1, _⟩ => rfl⟩

/-- The kept features are the reference's masked features. -/
theorem keptX_ref (hx : ∀ i, (0 : EReal) ≤ aX m c i) : keptX m c = val_main_v17 (F := Ideal) (aX m c) := by
  classical
  refine ref_mask_eq (aX m c) _ (kept_top (W0 m) c fun r j => hx (ix2 r j)) (keptX m c) fun r k => ⟨fun h => ?_, fun h => ?_⟩
  · exact if_pos (Finset.mem_filter.1 h).2
  · exact if_neg fun h' => h (Finset.mem_filter.2 ⟨Finset.mem_univ _, h'⟩)

/-- The second results agree. -/
theorem lin_ref : W6 m c main_v12_1 = val_main_v79 (F := Ideal) (aX m c) (aW m c) (aB m c) := by
  refine Eq.symm (Eq.trans ?_ (W6_lin m c).symm)
  funext i
  refine (ref_lin _ _ _ i).trans ?_
  unfold linG
  refine congrArg (fun b : EReal => _ + b) ?_
  exact (W5_v10 m c (i 1)).symm.trans (rd_eq (A := 1) (B := 4096) (φ := .f32) _ _ _ _ rfl rfl)

/-- The third results agree, over features none of which is negative and finite numbers. -/
theorem inter_ref (hf : Fin1 m c) (hx : ∀ i, (0 : EReal) ≤ aX m c i) :
    W6 m c main_v12_2 = val_main_v74 (F := Ideal) (aX m c) (aE m c) (aγ1 m c) (aβ1 m c) (aW1 m c) (aB1 m c) (aγ2 m c) (aβ2 m c) (aW2 m c) (aB2 m c) := by
  funext i
  obtain ⟨r, o, rfl⟩ := ix2_all (A := 2048) (B := 4096) i
  refine (W6_inter m c hf r o).trans ?_
  refine Eq.symm ((ref_inter _ _ _ _ _ _ _ _ _ _ r o).trans ?_)
  rw [← keptX_ref m c hx]

/-- The first results agree likewise. -/
theorem out_ref (hf : Fin1 m c) (hx : ∀ i, (0 : EReal) ≤ aX m c i) :
    W6 m c main_v12_0 = val_main_v83 (F := Ideal) (aX m c) (aE m c) (aW m c) (aB m c) (aG m c) (aγ1 m c) (aβ1 m c) (aW1 m c) (aB1 m c) (aγ2 m c) (aβ2 m c) (aW2 m c) (aB2 m c) := by
  funext i
  obtain ⟨r, o, rfl⟩ := ix2_all (A := 2048) (B := 4096) i
  refine (W6_out m c r o).trans ?_
  rw [lin_ref, inter_ref m c hf hx]
  exact (ref_out _ _ _ _ _ _ _ _ _ _ _ _ _ r o).symm

end Cert.KernelIdeal.Val

end
-- ==== Proof.lean ====
/- The whole fused kernel keeps its arguments, and computes over the reals what the reference computes. -/
module

public import proofs.«01_k».proof.Defs
public import proofs.«01_k».proof.Proof.KB.Frame
public import proofs.«01_k».proof.Proof.V.Pre
public import proofs.«01_k».proof.Proof.V.Whole
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_tame.sides

/-- The kernel over words runs to its end with its arguments kept and its counters at zero. -/
theorem frame_kernel : Cert.quiescent_Kernel := fun m g _ => Cert.Same.frame m g

/-- The kernel over the reals runs to its end with its arguments kept and its counters at zero. -/
theorem frame_ideal : Cert.quiescent_KernelIdeal := fun m g _ => Cert.KernelIdeal.Reg.frame m g

/-- The reference runs to its end with its arguments kept; it declares no semaphore. -/
theorem frame_reference : Cert.quiescent_ReferenceIdeal := fun m g _ =>
  θ_run_mono (Cert.ReferenceIdeal.Value.run m g)
    (fun r h => ⟨fun c => (h c).2.2.2, sem_eq_zero_of_no_sems (by decide) r.2⟩)

/-- The two programs over the reals, likewise under the precondition. -/
theorem frame_ideal_pre : Cert.quiescent_KernelIdeal_pre_tame := fun m g _ => Cert.KernelIdeal.Reg.frame m g
theorem frame_reference_pre : Cert.quiescent_ReferenceIdeal_pre_tame := fun m g _ => frame_reference m g trivial

/-- Over the reals the kernel's three results are the reference's, wherever the precondition holds. -/
theorem algebraic : Cert.algebraic_KernelIdeal_ReferenceIdeal_pre_tame := by
  intro m g m' g' hpre hagree
  refine ⟨fun c => Cert.KernelIdeal.Reg.W6 m c Cert.KernelIdeal.main_v12_0, fun c => Cert.KernelIdeal.Reg.W6 m c Cert.KernelIdeal.main_v12_1,
    fun c => Cert.KernelIdeal.Reg.W6 m c Cert.KernelIdeal.main_v12_2, ?_, ?_⟩
  · exact θ_run_mono (Cert.KernelIdeal.Reg.run_all m g) (fun r h c =>
      ⟨h.1 c _ (Cert.KernelIdeal.Reg.mem_uc Cert.KernelIdeal.main_v12_0 rfl), h.1 c _ (Cert.KernelIdeal.Reg.mem_uc Cert.KernelIdeal.main_v12_1 rfl),
        h.1 c _ (Cert.KernelIdeal.Reg.mem_uc Cert.KernelIdeal.main_v12_2 rfl), Cert.KernelIdeal.Reg.kept_of m r.2 h.1 c⟩)
  · refine θ_run_mono (Cert.ReferenceIdeal.Value.run m' g') (fun r h c => ?_)
    obtain ⟨hx, hx', h1, h5, h6, h7, h8, h9⟩ := Cert.Pre_tame.read _ _ _ _ _ _ _ _ _ _ _ _ _ (hpre c)
    have hf := Cert.KernelIdeal.Val.fin1_of m c hx hx' h1 h5 h6 h7 h8 h9
    obtain ⟨a0, a1, a2, a3, a4, a5, a6, a7, a8, a9, a10, a11, a12⟩ := hagree c
    replace a0 : StableHlo.launchContents m' c (Proc.devRef .tc Cert.ReferenceIdeal.main_arg0) = Cert.KernelIdeal.Val.aX m c := a0
    replace a1 : StableHlo.launchContents m' c (Proc.devRef .tc Cert.ReferenceIdeal.main_arg1) = Cert.KernelIdeal.Val.aE m c := a1
    replace a2 : StableHlo.launchContents m' c (Proc.devRef .tc Cert.ReferenceIdeal.main_arg2) = Cert.KernelIdeal.Val.aW m c := a2
    replace a3 : StableHlo.launchContents m' c (Proc.devRef .tc Cert.ReferenceIdeal.main_arg3) = Cert.KernelIdeal.Val.aB m c := a3
    replace a4 : StableHlo.launchContents m' c (Proc.devRef .tc Cert.ReferenceIdeal.main_arg4) = Cert.KernelIdeal.Val.aG m c := a4
    replace a5 : StableHlo.launchContents m' c (Proc.devRef .tc Cert.ReferenceIdeal.main_arg5) = Cert.KernelIdeal.Val.aγ1 m c := a5
    replace a6 : StableHlo.launchContents m' c (Proc.devRef .tc Cert.ReferenceIdeal.main_arg6) = Cert.KernelIdeal.Val.aβ1 m c := a6
    replace a7 : StableHlo.launchContents m' c (Proc.devRef .tc Cert.ReferenceIdeal.main_arg7) = Cert.KernelIdeal.Val.aW1 m c := a7
    replace a8 : StableHlo.launchContents m' c (Proc.devRef .tc Cert.ReferenceIdeal.main_arg8) = Cert.KernelIdeal.Val.aB1 m c := a8
    replace a9 : StableHlo.launchContents m' c (Proc.devRef .tc Cert.ReferenceIdeal.main_arg9) = Cert.KernelIdeal.Val.aγ2 m c := a9
    replace a10 : StableHlo.launchContents m' c (Proc.devRef .tc Cert.ReferenceIdeal.main_arg10) = Cert.KernelIdeal.Val.aβ2 m c := a10
    replace a11 : StableHlo.launchContents m' c (Proc.devRef .tc Cert.ReferenceIdeal.main_arg11) = Cert.KernelIdeal.Val.aW2 m c := a11
    replace a12 : StableHlo.launchContents m' c (Proc.devRef .tc Cert.ReferenceIdeal.main_arg12) = Cert.KernelIdeal.Val.aB2 m c := a12
    refine ⟨(h c).1.trans ((Cert.ReferenceIdeal.Read.val_main_v83_eq (StableHlo.launchContents m' c)).trans ?_),
      (h c).2.1.trans ((Cert.ReferenceIdeal.Read.val_main_v79_eq (StableHlo.launchContents m' c)).trans ?_),
      (h c).2.2.1.trans ((Cert.ReferenceIdeal.Read.val_main_v74_eq (StableHlo.launchContents m' c)).trans ?_), (h c).2.2.2⟩
    · rw [a0, a1, a2, a3, a4, a5, a6, a7, a8, a9, a10, a11, a12]
      exact (Cert.KernelIdeal.Val.out_ref m c hf hx).symm
    · rw [a0, a2, a3]
      exact (Cert.KernelIdeal.Val.lin_ref m c).symm
    · rw [a0, a1, a5, a6, a7, a8, a9, a10, a11, a12]
      exact (Cert.KernelIdeal.Val.inter_ref m c hf hx).symm

/-- Everything the certificate claims. -/
theorem claim : Cert.Claim :=
  ⟨Cert.Kernel.Gen.facts, Cert.KernelIdeal.Gen.facts, Cert.ReferenceIdeal.Gen.facts, Cert.Pre_tame.sides,
    frame_kernel, frame_ideal, frame_ideal_pre, frame_reference, frame_reference_pre, trivial, algebraic⟩

end Cert.Proof

end
